-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Search (m : (ℓ : Loc Cert.Search.nD Cert.Search.τ Cert.Search.sig) → Buf (Elt Bits) ℓ) : Prop :=
  True

def Pre_SearchIdeal (m : (ℓ : Loc Cert.SearchIdeal.nD Cert.SearchIdeal.τ Cert.SearchIdeal.sig) → Buf (Elt Ideal) ℓ) : Prop :=
  True

def Pre_SearchIdeal_finite [hPre_finite : Cert.Pre_finite.Facts] (m : (ℓ : Loc Cert.SearchIdeal.nD Cert.SearchIdeal.τ Cert.SearchIdeal.sig) → Buf (Elt Ideal) ℓ) : Prop :=
  ∀ c : Dev Cert.SearchIdeal.nD,
    (Cert.Pre_finite.fn (F := Ideal) (m ((c.tc : Thread Cert.SearchIdeal.nD Cert.SearchIdeal.τ).loc Cert.SearchIdeal.main_arg0)) (m ((c.tc : Thread Cert.SearchIdeal.nD Cert.SearchIdeal.τ).loc Cert.SearchIdeal.main_arg1))) = (fun _ => 1#1)

def Pre_SearchReferenceIdeal (m : (ℓ : Loc Cert.SearchReferenceIdeal.nD Cert.SearchReferenceIdeal.τ Cert.SearchReferenceIdeal.sig) → Buf (Elt Ideal) ℓ) : Prop :=
  True

def Pre_SearchReferenceIdeal_finite [hPre_finite : Cert.Pre_finite.Facts] (m : (ℓ : Loc Cert.SearchReferenceIdeal.nD Cert.SearchReferenceIdeal.τ Cert.SearchReferenceIdeal.sig) → Buf (Elt Ideal) ℓ) : Prop :=
  ∀ c : Dev Cert.SearchReferenceIdeal.nD,
    (Cert.Pre_finite.fn (F := Ideal) (m ((c.tc : Thread Cert.SearchReferenceIdeal.nD Cert.SearchReferenceIdeal.τ).loc Cert.SearchReferenceIdeal.main_arg0)) (m ((c.tc : Thread Cert.SearchReferenceIdeal.nD Cert.SearchReferenceIdeal.τ).loc Cert.SearchReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Search [hSearch : Cert.Search.Facts] : Prop :=
  ∀ (m : (ℓ : Loc Cert.Search.nD Cert.Search.τ Cert.Search.sig) → Buf (Elt Bits) ℓ) (g : Dev Cert.Search.nD → PrngReg), Pre_Search m →
    θ_run (Cert.Search.defs (F := Bits)) (onTc (τ := Cert.Search.τ) (Cert.Search.main (F := Bits))) ⟨m, fun _ => 0, g⟩ (fun r => (∀ c : Dev Cert.Search.nD,
      r.2.mem ((c.tc : Thread Cert.Search.nD Cert.Search.τ).loc Cert.Search.main_arg0) = m ((c.tc : Thread Cert.Search.nD Cert.Search.τ).loc Cert.Search.main_arg0)
      ∧ r.2.mem ((c.tc : Thread Cert.Search.nD Cert.Search.τ).loc Cert.Search.main_arg1) = m ((c.tc : Thread Cert.Search.nD Cert.Search.τ).loc Cert.Search.main_arg1))
      ∧ r.2.sem = fun _ => 0)

def quiescent_SearchIdeal [hSearchIdeal : Cert.SearchIdeal.Facts] : Prop :=
  ∀ (m : (ℓ : Loc Cert.SearchIdeal.nD Cert.SearchIdeal.τ Cert.SearchIdeal.sig) → Buf (Elt Ideal) ℓ) (g : Dev Cert.SearchIdeal.nD → PrngReg), Pre_SearchIdeal m →
    θ_run (Cert.SearchIdeal.defs (F := Ideal)) (onTc (τ := Cert.SearchIdeal.τ) (Cert.SearchIdeal.main (F := Ideal))) ⟨m, fun _ => 0, g⟩ (fun r => (∀ c : Dev Cert.SearchIdeal.nD,
      r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0)
      ∧ r.2.mem ((c.tc : Thread Cert.SearchIdeal.nD Cert.SearchIdeal.τ).loc Cert.SearchIdeal.main_arg1) = m ((c.tc : Thread Cert.SearchIdeal.nD Cert.SearchIdeal.τ).loc Cert.SearchIdeal.main_arg1))
      ∧ r.2.sem = fun _ => 0)

def quiescent_SearchIdeal_pre_finite [hSearchIdeal : Cert.SearchIdeal.Facts] [hPre_finite : Cert.Pre_finite.Facts] : Prop :=
  ∀ (m : (ℓ : Loc Cert.SearchIdeal.nD Cert.SearchIdeal.τ Cert.SearchIdeal.sig) → Buf (Elt Ideal) ℓ) (g : Dev Cert.SearchIdeal.nD → PrngReg), Pre_SearchIdeal_finite m →
    θ_run (Cert.SearchIdeal.defs (F := Ideal)) (onTc (τ := Cert.SearchIdeal.τ) (Cert.SearchIdeal.main (F := Ideal))) ⟨m, fun _ => 0, g⟩ (fun r => (∀ c : Dev Cert.SearchIdeal.nD,
      r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0)
      ∧ r.2.mem ((c.tc : Thread Cert.SearchIdeal.nD Cert.SearchIdeal.τ).loc Cert.SearchIdeal.main_arg1) = m ((c.tc : Thread Cert.SearchIdeal.nD Cert.SearchIdeal.τ).loc Cert.SearchIdeal.main_arg1))
      ∧ r.2.sem = fun _ => 0)

def quiescent_SearchReferenceIdeal [hSearchReferenceIdeal : Cert.SearchReferenceIdeal.Facts] : Prop :=
  ∀ (m : (ℓ : Loc Cert.SearchReferenceIdeal.nD Cert.SearchReferenceIdeal.τ Cert.SearchReferenceIdeal.sig) → Buf (Elt Ideal) ℓ) (g : Dev Cert.SearchReferenceIdeal.nD → PrngReg), Pre_SearchReferenceIdeal m →
    θ_run (Cert.SearchReferenceIdeal.defs (F := Ideal)) (onTc (τ := Cert.SearchReferenceIdeal.τ) (Cert.SearchReferenceIdeal.main (F := Ideal))) ⟨m, fun _ => 0, g⟩ (fun r => (∀ c : Dev Cert.SearchReferenceIdeal.nD,
      r.2.mem ((c.tc : Thread Cert.SearchReferenceIdeal.nD Cert.SearchReferenceIdeal.τ).loc Cert.SearchReferenceIdeal.main_arg0) = m ((c.tc : Thread Cert.SearchReferenceIdeal.nD Cert.SearchReferenceIdeal.τ).loc Cert.SearchReferenceIdeal.main_arg0)
      ∧ r.2.mem ((c.tc : Thread Cert.SearchReferenceIdeal.nD Cert.SearchReferenceIdeal.τ).loc Cert.SearchReferenceIdeal.main_arg1) = m ((c.tc : Thread Cert.SearchReferenceIdeal.nD Cert.SearchReferenceIdeal.τ).loc Cert.SearchReferenceIdeal.main_arg1))
      ∧ r.2.sem = fun _ => 0)

def quiescent_SearchReferenceIdeal_pre_finite [hSearchReferenceIdeal : Cert.SearchReferenceIdeal.Facts] [hPre_finite : Cert.Pre_finite.Facts] : Prop :=
  ∀ (m : (ℓ : Loc Cert.SearchReferenceIdeal.nD Cert.SearchReferenceIdeal.τ Cert.SearchReferenceIdeal.sig) → Buf (Elt Ideal) ℓ) (g : Dev Cert.SearchReferenceIdeal.nD → PrngReg), Pre_SearchReferenceIdeal_finite m →
    θ_run (Cert.SearchReferenceIdeal.defs (F := Ideal)) (onTc (τ := Cert.SearchReferenceIdeal.τ) (Cert.SearchReferenceIdeal.main (F := Ideal))) ⟨m, fun _ => 0, g⟩ (fun r => (∀ c : Dev Cert.SearchReferenceIdeal.nD,
      r.2.mem ((c.tc : Thread Cert.SearchReferenceIdeal.nD Cert.SearchReferenceIdeal.τ).loc Cert.SearchReferenceIdeal.main_arg0) = m ((c.tc : Thread Cert.SearchReferenceIdeal.nD Cert.SearchReferenceIdeal.τ).loc Cert.SearchReferenceIdeal.main_arg0)
      ∧ r.2.mem ((c.tc : Thread Cert.SearchReferenceIdeal.nD Cert.SearchReferenceIdeal.τ).loc Cert.SearchReferenceIdeal.main_arg1) = m ((c.tc : Thread Cert.SearchReferenceIdeal.nD Cert.SearchReferenceIdeal.τ).loc Cert.SearchReferenceIdeal.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v31)) (v3 : (c : Dev Cert.KernelIdeal.nD) → Buf (Elt Ideal) ((c.tc : Thread Cert.KernelIdeal.nD Cert.KernelIdeal.τ).loc Cert.KernelIdeal.main_v11_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_v11_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Search_SearchIdeal : Prop :=
  True

def algebraic_SearchIdeal_SearchReferenceIdeal_pre_finite [hSearchIdeal : Cert.SearchIdeal.Facts] [hSearchReferenceIdeal : Cert.SearchReferenceIdeal.Facts] [hPre_finite : Cert.Pre_finite.Facts] : Prop :=
  ∀ (m : (ℓ : Loc Cert.SearchIdeal.nD Cert.SearchIdeal.τ Cert.SearchIdeal.sig) → Buf (Elt Ideal) ℓ) (g : Dev Cert.SearchIdeal.nD → PrngReg)
    (m' : (ℓ : Loc Cert.SearchReferenceIdeal.nD Cert.SearchReferenceIdeal.τ Cert.SearchReferenceIdeal.sig) → Buf (Elt Ideal) ℓ) (g' : Dev Cert.SearchReferenceIdeal.nD → PrngReg), Pre_SearchIdeal_finite m →
    (∀ c : Dev Cert.SearchIdeal.nD,
      m' ((c.tc : Thread Cert.SearchReferenceIdeal.nD Cert.SearchReferenceIdeal.τ).loc Cert.SearchReferenceIdeal.main_arg0) = m ((c.tc : Thread Cert.SearchIdeal.nD Cert.SearchIdeal.τ).loc Cert.SearchIdeal.main_arg0)
      ∧ m' ((c.tc : Thread Cert.SearchReferenceIdeal.nD Cert.SearchReferenceIdeal.τ).loc Cert.SearchReferenceIdeal.main_arg1) = m ((c.tc : Thread Cert.SearchIdeal.nD Cert.SearchIdeal.τ).loc Cert.SearchIdeal.main_arg1)) →
    ∃ (v0 : (c : Dev Cert.SearchIdeal.nD) → Buf (Elt Ideal) ((c.tc : Thread Cert.SearchIdeal.nD Cert.SearchIdeal.τ).loc Cert.SearchIdeal.main_v11_3)) (v1 : (c : Dev Cert.SearchIdeal.nD) → Buf (Elt Ideal) ((c.tc : Thread Cert.SearchIdeal.nD Cert.SearchIdeal.τ).loc Cert.SearchIdeal.main_v11_1)) (v2 : (c : Dev Cert.SearchIdeal.nD) → Buf (Elt Ideal) ((c.tc : Thread Cert.SearchIdeal.nD Cert.SearchIdeal.τ).loc Cert.SearchIdeal.main_v11_2)) (v3 : (c : Dev Cert.SearchIdeal.nD) → Buf (Elt Ideal) ((c.tc : Thread Cert.SearchIdeal.nD Cert.SearchIdeal.τ).loc Cert.SearchIdeal.main_v11_0)),
      θ_run (Cert.SearchIdeal.defs (F := Ideal)) (onTc (τ := Cert.SearchIdeal.τ) (Cert.SearchIdeal.main (F := Ideal))) ⟨m, fun _ => 0, g⟩ (fun r => ∀ c : Dev Cert.SearchIdeal.nD,
          r.2.mem ((c.tc : Thread Cert.SearchIdeal.nD Cert.SearchIdeal.τ).loc Cert.SearchIdeal.main_v11_3) = v0 c
          ∧ r.2.mem ((c.tc : Thread Cert.SearchIdeal.nD Cert.SearchIdeal.τ).loc Cert.SearchIdeal.main_v11_1) = v1 c
          ∧ r.2.mem ((c.tc : Thread Cert.SearchIdeal.nD Cert.SearchIdeal.τ).loc Cert.SearchIdeal.main_v11_2) = v2 c
          ∧ r.2.mem ((c.tc : Thread Cert.SearchIdeal.nD Cert.SearchIdeal.τ).loc Cert.SearchIdeal.main_v11_0) = v3 c
          ∧ r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0)
          ∧ r.2.mem ((c.tc : Thread Cert.SearchIdeal.nD Cert.SearchIdeal.τ).loc Cert.SearchIdeal.main_arg1) = m ((c.tc : Thread Cert.SearchIdeal.nD Cert.SearchIdeal.τ).loc Cert.SearchIdeal.main_arg1))
      ∧ θ_run (Cert.SearchReferenceIdeal.defs (F := Ideal)) (onTc (τ := Cert.SearchReferenceIdeal.τ) (Cert.SearchReferenceIdeal.main (F := Ideal))) ⟨m', fun _ => 0, g'⟩ (fun r => ∀ c : Dev Cert.SearchReferenceIdeal.nD,
          r.2.mem ((c.tc : Thread Cert.SearchReferenceIdeal.nD Cert.SearchReferenceIdeal.τ).loc Cert.SearchReferenceIdeal.main_v24) = v0 c
          ∧ r.2.mem ((c.tc : Thread Cert.SearchReferenceIdeal.nD Cert.SearchReferenceIdeal.τ).loc Cert.SearchReferenceIdeal.main_v25) = v1 c
          ∧ r.2.mem ((c.tc : Thread Cert.SearchReferenceIdeal.nD Cert.SearchReferenceIdeal.τ).loc Cert.SearchReferenceIdeal.main_v26) = v2 c
          ∧ r.2.mem ((c.tc : Thread Cert.SearchReferenceIdeal.nD Cert.SearchReferenceIdeal.τ).loc Cert.SearchReferenceIdeal.main_v17) = v3 c
          ∧ r.2.mem ((c.tc : Thread Cert.SearchReferenceIdeal.nD Cert.SearchReferenceIdeal.τ).loc Cert.SearchReferenceIdeal.main_arg0) = m' ((c.tc : Thread Cert.SearchReferenceIdeal.nD Cert.SearchReferenceIdeal.τ).loc Cert.SearchReferenceIdeal.main_arg0)
          ∧ r.2.mem ((c.tc : Thread Cert.SearchReferenceIdeal.nD Cert.SearchReferenceIdeal.τ).loc Cert.SearchReferenceIdeal.main_arg1) = m' ((c.tc : Thread Cert.SearchReferenceIdeal.nD Cert.SearchReferenceIdeal.τ).loc Cert.SearchReferenceIdeal.main_arg1))

def Claim : Prop :=
  ∃ (hKernelIdeal : Cert.KernelIdeal.Facts) (hReferenceIdeal : Cert.ReferenceIdeal.Facts) (hSearch : Cert.Search.Facts) (hSearchIdeal : Cert.SearchIdeal.Facts) (hSearchReferenceIdeal : Cert.SearchReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Search (hSearch := hSearch)
    ∧ quiescent_SearchIdeal (hSearchIdeal := hSearchIdeal)
    ∧ quiescent_SearchIdeal_pre_finite (hSearchIdeal := hSearchIdeal) (hPre_finite := hPre_finite)
    ∧ quiescent_SearchReferenceIdeal (hSearchReferenceIdeal := hSearchReferenceIdeal)
    ∧ quiescent_SearchReferenceIdeal_pre_finite (hSearchReferenceIdeal := hSearchReferenceIdeal) (hPre_finite := hPre_finite)
    ∧ algebraic_KernelIdeal_ReferenceIdeal_pre_finite (hKernelIdeal := hKernelIdeal) (hReferenceIdeal := hReferenceIdeal) (hPre_finite := hPre_finite)
    ∧ preserves_Search_SearchIdeal
    ∧ algebraic_SearchIdeal_SearchReferenceIdeal_pre_finite (hSearchIdeal := hSearchIdeal) (hSearchReferenceIdeal := hSearchReferenceIdeal) (hPre_finite := hPre_finite)
-- ==== Pre_finite.lean ====
abbrev S16x64x32x32 : Shape := ⟨4, ![16, 64, 32, 32]⟩
abbrev S8192x64 : Shape := ⟨2, ![8192, 64]⟩
abbrev S_ : Shape := ⟨0, ![]⟩

class Facts : Prop where
  bcast_S_S16x64x32x32 : S_.BroadcastsInDim S16x64x32x32 (![] : Fin 0 → Fin S16x64x32x32.rank)
  reducesTo_S16x64x32x32_S_d0_1_2_3 : S16x64x32x32.ReducesTo [0, 1, 2, 3] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S16x64x32x32 .f32) (main_arg1 : FVec F S8192x64 .f32) : IVec S_ 1 :=
  let main_v0 : FVec F S16x64x32x32 .f32 := Host.absf main_arg0
  let main_cst : FVec F S_ .f32 := constant S_ .f32 0x7F800000#32
  let main_v1 : FVec F S16x64x32x32 .f32 := broadcastInDim S16x64x32x32 ![] bcast_S_S16x64x32x32 main_cst
  let main_v2 : IVec S16x64x32x32 1 := cmpf .olt main_v0 main_v1
  let main_c : IVec S_ 1 := constantI S_ 1 1#1
  let main_v3 : IVec S_ 1 := (fun x v => Host.reduce IntOp.andi x v reducesTo_S16x64x32x32_S_d0_1_2_3 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== KernelIdeal.lean ====
abbrev S16x64x32x32 : Shape := ⟨4, ![16, 64, 32, 32]⟩
abbrev S8192x64 : Shape := ⟨2, ![8192, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S64x8192 : Shape := ⟨2, ![64, 8192]⟩
abbrev S16384x8192 : Shape := ⟨2, ![16384, 8192]⟩
abbrev S64x1x256 : Shape := ⟨3, ![64, 1, 256]⟩
abbrev S1x1 : Shape := ⟨2, ![1, 1]⟩
abbrev S256x64 : Shape := ⟨2, ![256, 64]⟩
abbrev S256x1 : Shape := ⟨2, ![256, 1]⟩
abbrev S256x8192 : Shape := ⟨2, ![256, 8192]⟩
abbrev S1x1x256 : Shape := ⟨3, ![1, 1, 256]⟩
abbrev S256x128 : Shape := ⟨2, ![256, 128]⟩
abbrev S256 : Shape := ⟨1, ![256]⟩
abbrev S1x128 : Shape := ⟨2, ![1, 128]⟩
abbrev S128 : Shape := ⟨1, ![128]⟩
abbrev S1 : Shape := ⟨1, ![1]⟩
abbrev S32x4x128 : Shape := ⟨3, ![32, 4, 128]⟩
abbrev S8192x128 : Shape := ⟨2, ![8192, 128]⟩
abbrev S32x4x128x128 : Shape := ⟨4, ![32, 4, 128, 128]⟩
abbrev S4x128 : Shape := ⟨2, ![4, 128]⟩
abbrev S4x128x128 : Shape := ⟨3, ![4, 128, 128]⟩
abbrev S1x4x128 : Shape := ⟨3, ![1, 4, 128]⟩
abbrev S1x128x128 : Shape := ⟨3, ![1, 128, 128]⟩
abbrev S128x128 : Shape := ⟨2, ![128, 128]⟩
abbrev S1x4x128x128 : Shape := ⟨4, ![1, 4, 128, 128]⟩
abbrev S16384x128 : Shape := ⟨2, ![16384, 128]⟩

abbrev nBuf : Table → Nat
  | .hbm => 47
  | .local .tc .vmem => 12
  | .local .scVector .vmem => 2
  | _ => 0

abbrev bufTy : (tb : Table) → Fin (nBuf tb) → BufTy
  | .hbm, ⟨0, _⟩ => ⟨S16x64x32x32, .f32⟩
  | .hbm, ⟨1, _⟩ => ⟨S8192x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S8192x64, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S64x8192, .f32⟩
  | .hbm, ⟨13, _⟩ => ⟨S_, .f32⟩
  | .hbm, ⟨14, _⟩ => ⟨S64x8192, .f32⟩
  | .hbm, ⟨15, _⟩ => ⟨S64x8192, .f32⟩
  | .hbm, ⟨16, _⟩ => ⟨S16384x8192, .f32⟩
  | .hbm, ⟨17, _⟩ => ⟨S64x1x256, .i32⟩
  | .hbm, ⟨18, _⟩ => ⟨S1x8192, .f32⟩
  | .hbm, ⟨19, _⟩ => ⟨S1x1, .f32⟩
  | .hbm, ⟨20, _⟩ => ⟨S32x4x128, .i32⟩
  | .hbm, ⟨21, _⟩ => ⟨S_, .i32⟩
  | .hbm, ⟨22, _⟩ => ⟨S_, .f32⟩
  | .hbm, ⟨23, _⟩ => ⟨S8192x128, .f32⟩
  | .hbm, ⟨24, _⟩ => ⟨S32x4x128x128, .f32⟩
  | .hbm, ⟨25, _⟩ => ⟨S16384x128, .f32⟩
  | .hbm, ⟨26, _⟩ => ⟨S16384x64, .f32⟩
  | .hbm, ⟨27, _⟩ => ⟨S16x32x32x64, .f32⟩
  | .hbm, ⟨28, _⟩ => ⟨S16x64x32x32, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .local .tc .vmem, ⟨0, _⟩ => ⟨S256x64, .f32⟩
  | .local .tc .vmem, ⟨1, _⟩ => ⟨S256x64, .f32⟩
  | .local .tc .vmem, ⟨2, _⟩ => ⟨S64x8192, .f32⟩
  | .local .tc .vmem, ⟨3, _⟩ => ⟨S256x1, .f32⟩
  | .local .tc .vmem, ⟨4, _⟩ => ⟨S256x1, .f32⟩
  | .local .tc .vmem, ⟨5, _⟩ => ⟨S1x8192, .f32⟩
  | .local .tc .vmem, ⟨6, _⟩ => ⟨S256x8192, .f32⟩
  | .local .tc .vmem, ⟨7, _⟩ => ⟨S256x8192, .f32⟩
  | .local .tc .vmem, ⟨8, _⟩ => ⟨S1x1x256, .i32⟩
  | .local .tc .vmem, ⟨9, _⟩ => ⟨S1x1x256, .i32⟩
  | .local .tc .vmem, ⟨10, _⟩ => ⟨S1x8192, .f32⟩
  | .local .tc .vmem, ⟨11, _⟩ => ⟨S1x1, .f32⟩
  | .local .scVector .vmem, ⟨0, _⟩ => ⟨S4x128, .i32⟩
  | .local .scVector .vmem, ⟨1, _⟩ => ⟨S4x128x128, .f32⟩
  | _, _ => ⟨S16x64x32x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v13_scv : Ref sig .scVector := ⟨.hbm, 23, rfl⟩
abbrev main_v12_scv : Ref sig .scVector := ⟨.hbm, 20, rfl⟩
abbrev main_v14_scv : Ref sig .scVector := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_53_r0 : BitVec 32 := 0#32
  let c0_i32_54_r0 : BitVec 32 := 0#32
  ![v1.toNat, 0, 0]
def k1_off2 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_53_r1 : BitVec 32 := 0#32
  let c0_i32_54_r1 : BitVec 32 := 0#32
  let c0_i32_55_r1 : BitVec 32 := 0#32
  ![v1.toNat, 0, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x64x32x32 : Shape := ⟨4, ![16, 64, 32, 32]⟩
abbrev S8192x64 : Shape := ⟨2, ![8192, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S64x8192 : Shape := ⟨2, ![64, 8192]⟩

abbrev nBuf : Space → Nat
  | .hbm => 59
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S8192x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S8192x64, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S64x8192, .f32⟩
  | .hbm, ⟨16, _⟩ => ⟨S16384x8192, .f32⟩
  | .hbm, ⟨17, _⟩ => ⟨S_, .f32⟩
  | .hbm, ⟨18, _⟩ => ⟨S16384x8192, .f32⟩
  | .hbm, ⟨19, _⟩ => ⟨S16384x8192, .f32⟩
  | .hbm, ⟨20, _⟩ => ⟨S16384x8192, .f32⟩
  | .hbm, ⟨21, _⟩ => ⟨S16384x8192, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16384x1, .i32⟩
  | .hbm, ⟨27, _⟩ => ⟨S1x8192, .i32⟩
  | .hbm, ⟨28, _⟩ => ⟨S16384x8192, .i32⟩
  | .hbm, ⟨29, _⟩ => ⟨S16384x8192, .i32⟩
  | .hbm, ⟨30, _⟩ => ⟨S16384x8192, .i1⟩
  | .hbm, ⟨31, _⟩ => ⟨S16384x8192, .f32⟩
  | .hbm, ⟨32, _⟩ => ⟨S16384x64, .f32⟩
  | .hbm, ⟨33, _⟩ => ⟨S16x32x32x64, .f32⟩
  | .hbm, ⟨34, _⟩ => ⟨S16x32x32x64, .f32⟩
  | .hbm, ⟨35, _⟩ => ⟨S16x32x32x64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S16x32x32x64, .f32⟩
  | .hbm, ⟨43, _⟩ => ⟨S16x32x32x64, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S16x64x32x32, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Search.lean ====
abbrev S16x64x32x32 : Shape := ⟨4, ![16, 64, 32, 32]⟩
abbrev S8192x64 : Shape := ⟨2, ![8192, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S64x8192 : Shape := ⟨2, ![64, 8192]⟩
abbrev S16384x8192 : Shape := ⟨2, ![16384, 8192]⟩
abbrev S64x1x256 : Shape := ⟨3, ![64, 1, 256]⟩
abbrev S1x1 : Shape := ⟨2, ![1, 1]⟩
abbrev S256x64 : Shape := ⟨2, ![256, 64]⟩
abbrev S256x1 : Shape := ⟨2, ![256, 1]⟩
abbrev S256x8192 : Shape := ⟨2, ![256, 8192]⟩
abbrev S1x1x256 : Shape := ⟨3, ![1, 1, 256]⟩
abbrev S256x128 : Shape := ⟨2, ![256, 128]⟩
abbrev S256 : Shape := ⟨1, ![256]⟩
abbrev S1x128 : Shape := ⟨2, ![1, 128]⟩
abbrev S128 : Shape := ⟨1, ![128]⟩
abbrev S1 : Shape := ⟨1, ![1]⟩

abbrev nBuf : Space → Nat
  | .hbm => 20
  | .vmem => 12
  | .smem => 0
  | _ => 0

abbrev bufTy : (tb : Table) → Fin (tcTables nBuf tb) → BufTy
  | .hbm, ⟨0, _⟩ => ⟨S16x64x32x32, .f32⟩
  | .hbm, ⟨1, _⟩ => ⟨S8192x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S8192x64, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S64x8192, .f32⟩
  | .hbm, ⟨13, _⟩ => ⟨S_, .f32⟩
  | .hbm, ⟨14, _⟩ => ⟨S64x8192, .f32⟩
  | .hbm, ⟨15, _⟩ => ⟨S64x8192, .f32⟩
  | .hbm, ⟨16, _⟩ => ⟨S16384x8192, .f32⟩
  | .hbm, ⟨17, _⟩ => ⟨S64x1x256, .i32⟩
  | .hbm, ⟨18, _⟩ => ⟨S1x8192, .f32⟩
  | .hbm, ⟨19, _⟩ => ⟨S1x1, .f32⟩
  | .local _ .vmem, ⟨0, _⟩ => ⟨S256x64, .f32⟩
  | .local _ .vmem, ⟨1, _⟩ => ⟨S256x64, .f32⟩
  | .local _ .vmem, ⟨2, _⟩ => ⟨S64x8192, .f32⟩
  | .local _ .vmem, ⟨3, _⟩ => ⟨S256x1, .f32⟩
  | .local _ .vmem, ⟨4, _⟩ => ⟨S256x1, .f32⟩
  | .local _ .vmem, ⟨5, _⟩ => ⟨S1x8192, .f32⟩
  | .local _ .vmem, ⟨6, _⟩ => ⟨S256x8192, .f32⟩
  | .local _ .vmem, ⟨7, _⟩ => ⟨S256x8192, .f32⟩
  | .local _ .vmem, ⟨8, _⟩ => ⟨S1x1x256, .i32⟩
  | .local _ .vmem, ⟨9, _⟩ => ⟨S1x1x256, .i32⟩
  | .local _ .vmem, ⟨10, _⟩ => ⟨S1x8192, .f32⟩
  | .local _ .vmem, ⟨11, _⟩ => ⟨S1x1, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== SearchReferenceIdeal.lean ====
abbrev S16x64x32x32 : Shape := ⟨4, ![16, 64, 32, 32]⟩
abbrev S8192x64 : Shape := ⟨2, ![8192, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S64x8192 : Shape := ⟨2, ![64, 8192]⟩
abbrev S1x1 : Shape := ⟨2, ![1, 1]⟩
abbrev S64x1x256 : Shape := ⟨3, ![64, 1, 256]⟩

abbrev nBuf : Space → Nat
  | .hbm => 43
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S8192x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S8192x64, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S64x8192, .f32⟩
  | .hbm, ⟨16, _⟩ => ⟨S16384x8192, .f32⟩
  | .hbm, ⟨17, _⟩ => ⟨S_, .f32⟩
  | .hbm, ⟨18, _⟩ => ⟨S16384x8192, .f32⟩
  | .hbm, ⟨19, _⟩ => ⟨S16384x8192, .f32⟩
  | .hbm, ⟨20, _⟩ => ⟨S16384x8192, .f32⟩
  | .hbm, ⟨21, _⟩ => ⟨S16384x8192, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16384x1, .i32⟩
  | .hbm, ⟨27, _⟩ => ⟨S1x8192, .i32⟩
  | .hbm, ⟨28, _⟩ => ⟨S16384x8192, .i32⟩
  | .hbm, ⟨29, _⟩ => ⟨S16384x8192, .i32⟩
  | .hbm, ⟨30, _⟩ => ⟨S16384x8192, .i1⟩
  | .hbm, ⟨31, _⟩ => ⟨S16384x8192, .f32⟩
  | .hbm, ⟨32, _⟩ => ⟨S16384x64, .f32⟩
  | .hbm, ⟨33, _⟩ => ⟨S16x32x32x64, .f32⟩
  | .hbm, ⟨34, _⟩ => ⟨S16x32x32x64, .f32⟩
  | .hbm, ⟨35, _⟩ => ⟨S16x32x32x64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S1x1, .f32⟩
  | .hbm, ⟨41, _⟩ => ⟨S64x1x256, .i32⟩
  | .hbm, ⟨42, _⟩ => ⟨S1x8192, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Proof.RefRun.lean ====
module

public import proofs.«01_k».proof.Proof.Gen.SearchReferenceIdeal
public import proofs.«01_k».proof.Defs
public import Idealize.ShloMosaic.Lib.StableHlo.Run
public import Idealize.ShloMosaic.Lib.Quiescent
public import Idealize.ShloMosaic.Lib.Tactic

/-!
# The reference's run

The reference is a straight line of host operations: every buffer ends at their fold over the launch contents. The four
results are the named functions below of the two arguments' contents.
-/

@[expose] public section

noncomputable section

namespace Cert.SearchReferenceIdeal.Gen

open Cert.SearchReferenceIdeal
open Idealize.ShloMosaic Idealize.ShloMosaic.TcCoe Idealize.ShloMosaic.StableHlo Idealize.SL.Sem

variable {F : FTy → Type} [FloatOps F]

/-- The input, channels last. -/
def nhwc (x : FVec F S16x64x32x32 .f32) : FVec F S16x32x32x64 .f32 :=
  transpose S16x32x32x64 [0, 2, 3, 1] x transposes_S16x64x32x32_S16x32x32x64_0_2_3_1

/-- The input as rows. -/
def flat (x : FVec F S16x64x32x32 .f32) : FVec F S16384x64 .f32 :=
  shapeCast S16384x64 (nhwc x) shapeCasts_S16x32x32x64_S16384x64

/-- The rows' squared norms. -/
def sq (x : FVec F S16x64x32x32 .f32) : FVec F S16384 .f32 :=
  Host.reduceAdd (mulf (flat x) (flat x)) (constant S_ .f32 0x00000000#32) reducesTo_S16384x64_S16384_d1 h_S_

/-- The codes' squared norms. -/
def sqe (e : FVec F S8192x64 .f32) : FVec F S8192 .f32 :=
  Host.reduceAdd (mulf e e) (constant S_ .f32 0x00000000#32) reducesTo_S8192x64_S8192_d1 h_S_

/-- The squared distances of every row to every code. -/
def rdist (x : FVec F S16x64x32x32 .f32) (e : FVec F S8192x64 .f32) : FVec F S16384x8192 .f32 :=
  subf
    (addf
      (broadcastInDim S16384x8192 ![0, 1] bcast_S16384x1_S16384x8192_0_1
        (broadcastInDim S16384x1 ![0] bcast_S16384_S16384x1_0 (sq x)))
      (broadcastInDim S16384x8192 ![0, 1] bcast_S1x8192_S16384x8192_0_1
        (broadcastInDim S1x8192 ![1] bcast_S8192_S1x8192_1 (sqe e))))
    (mulf (broadcastInDim S16384x8192 ![] bcast_S_S16384x8192 (constant S_ .f32 0x40000000#32))
      (Host.dotGeneral dot_S16384x64_S64x8192_S16384x8192_1_0_0_1_n_n none (flat x)
        (transpose S64x8192 [1, 0] e transposes_S8192x64_S64x8192_1_0)))

/-- The nearest code of every row, the first where several are. -/
def ridx (d : FVec F S16384x8192 .f32) : IVec S16384 32 := fun j =>
  (Host.argReduce reducer_argmin_f32_i32 d (iotaInDim S16384x8192 32 1) (constant S_ .f32 0x7F800000#32)
    (constantI S_ 32 0#32) reducesTo_S16384x8192_S16384_d1 h_S_ j).2

/-- The one-hot rows of the indices. -/
def renc (n : IVec S16384 32) : FVec F S16384x8192 .f32 :=
  uitofp .f32 (cmpi .eq
    (broadcastInDim S16384x8192 ![0, 1] bcast_S16384x1_S16384x8192_0_1
      (broadcastInDim S16384x1 ![0] bcast_S16384_S16384x1_0 n))
    (broadcastInDim S16384x8192 ![0, 1] bcast_S1x8192_S16384x8192_0_1 (iotaInDim S1x8192 32 1)))

/-- How far the chosen codes lie from the input, entry by entry. -/
def rdiff (x : FVec F S16x32x32x64 .f32) (e : FVec F S8192x64 .f32) (h : FVec F S16384x8192 .f32) : FVec F S16x32x32x64 .f32 :=
  subf (shapeCast S16x32x32x64 (Host.dotGeneral dot_S16384x8192_S8192x64_S16384x64_1_0_0_1_n_n none h e)
    shapeCasts_S16384x64_S16x32x32x64) x

/-- The sum of the squared differences. -/
def rsum (x : FVec F S16x32x32x64 .f32) (e : FVec F S8192x64 .f32) (h : FVec F S16384x8192 .f32) : FVec F S1x1 .f32 :=
  shapeCast S1x1 (Host.reduceAdd (mulf (rdiff x e h) (rdiff x e h)) (constant S_ .f32 0x00000000#32)
    reducesTo_S16x32x32x64_S_d0_1_2_3 h_S_) shapeCasts_S_S1x1

/-- How often each code is chosen. -/
def rcnt (h : FVec F S16384x8192 .f32) : FVec F S1x8192 .f32 :=
  shapeCast S1x8192 (Host.reduceAdd h (constant S_ .f32 0x00000000#32) reducesTo_S16384x8192_S8192_d0 h_S_)
    shapeCasts_S8192_S1x8192

/-- @main's operations: the distances. -/
abbrev opsA : List (HloOp τ sig (Elt F)) :=
  [ unary main_arg0 main_v0 ((transpose S16x32x32x64 [0, 2, 3, 1] · transposes_S16x64x32x32_S16x32x32x64_0_2_3_1) : (⟨S16x64x32x32, .f32⟩ : BufTy).Contents (Elt F) → (⟨S16x32x32x64, .f32⟩ : BufTy).Contents (Elt F)),
    reshape main_v0 main_v1 (rfl : (.f32 : EltTy) = .f32) shapeCasts_S16x32x32x64_S16384x64,
    binary main_v1 main_v1 main_v2 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v2 main_cst main_v3 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v3 main_v4 (broadcastInDim S16384x1 ![0] bcast_S16384_S16384x1_0 : (⟨S16384, .f32⟩ : BufTy).Contents (Elt F) → (⟨S16384x1, .f32⟩ : BufTy).Contents (Elt F)),
    binary main_arg1 main_arg1 main_v5 (mulf : (⟨S8192x64, .f32⟩ : BufTy).Contents (Elt F) → (⟨S8192x64, .f32⟩ : BufTy).Contents (Elt F) → (⟨S8192x64, .f32⟩ : BufTy).Contents (Elt F)),
    nullary main_cst_0 (constant S_ .f32 0x00000000#32),
    binary main_v5 main_cst_0 main_v6 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v6 main_v7 (broadcastInDim S1x8192 ![1] bcast_S8192_S1x8192_1 : (⟨S8192, .f32⟩ : BufTy).Contents (Elt F) → (⟨S1x8192, .f32⟩ : BufTy).Contents (Elt F)),
    unary main_v4 main_v8 (broadcastInDim S16384x8192 ![0, 1] bcast_S16384x1_S16384x8192_0_1 : (⟨S16384x1, .f32⟩ : BufTy).Contents (Elt F) → (⟨S16384x8192, .f32⟩ : BufTy).Contents (Elt F)),
    unary main_v7 main_v9 (broadcastInDim S16384x8192 ![0, 1] bcast_S1x8192_S16384x8192_0_1 : (⟨S1x8192, .f32⟩ : BufTy).Contents (Elt F) → (⟨S16384x8192, .f32⟩ : BufTy).Contents (Elt F)),
    binary main_v8 main_v9 main_v10 (addf : (⟨S16384x8192, .f32⟩ : BufTy).Contents (Elt F) → (⟨S16384x8192, .f32⟩ : BufTy).Contents (Elt F) → (⟨S16384x8192, .f32⟩ : BufTy).Contents (Elt F)),
    unary main_arg1 main_v11 ((transpose S64x8192 [1, 0] · transposes_S8192x64_S64x8192_1_0) : (⟨S8192x64, .f32⟩ : BufTy).Contents (Elt F) → (⟨S64x8192, .f32⟩ : BufTy).Contents (Elt F)),
    binary main_v1 main_v11 main_v12 ((fun l r => Host.dotGeneral dot_S16384x64_S64x8192_S16384x8192_1_0_0_1_n_n none l r) : (⟨S16384x64, .f32⟩ : BufTy).Contents (Elt F) → (⟨S64x8192, .f32⟩ : BufTy).Contents (Elt F) → (⟨S16384x8192, .f32⟩ : BufTy).Contents (Elt F)),
    nullary main_cst_1 (constant S_ .f32 0x40000000#32),
    unary main_cst_1 main_v13 (broadcastInDim S16384x8192 ![] bcast_S_S16384x8192 : (⟨S_, .f32⟩ : BufTy).Contents (Elt F) → (⟨S16384x8192, .f32⟩ : BufTy).Contents (Elt F)),
    binary main_v13 main_v12 main_v14 (mulf : (⟨S16384x8192, .f32⟩ : BufTy).Contents (Elt F) → (⟨S16384x8192, .f32⟩ : BufTy).Contents (Elt F) → (⟨S16384x8192, .f32⟩ : BufTy).Contents (Elt F)),
    binary main_v10 main_v14 main_v15 (subf : (⟨S16384x8192, .f32⟩ : BufTy).Contents (Elt F) → (⟨S16384x8192, .f32⟩ : BufTy).Contents (Elt F) → (⟨S16384x8192, .f32⟩ : BufTy).Contents (Elt F)) ]

/-- @main's operations: the index of the least, its function's operations. -/
abbrev opsB : List (HloOp τ sig (Elt F)) :=
  [ TRef.nullary main_call0.v0 (iotaInDim S16384x8192 32 1),
    TRef.nullary main_call0.cst (constant S_ .f32 0x7F800000#32),
    TRef.nullary main_call0.c (constantI S_ 32 0#32),
    TRef.quaternary (TRef.of main_v15 : TRef sig ⟨S16384x8192, .f32⟩) main_call0.v0 main_call0.cst main_call0.c main_call0.v1_0 (fun x y u v j => (Host.argReduce reducer_argmin_f32_i32 x y u v reducesTo_S16384x8192_S16384_d1 h_S_ j).1),
    TRef.quaternary (TRef.of main_v15 : TRef sig ⟨S16384x8192, .f32⟩) main_call0.v0 main_call0.cst main_call0.c main_call0.v1_1 (fun x y u v j => (Host.argReduce reducer_argmin_f32_i32 x y u v reducesTo_S16384x8192_S16384_d1 h_S_ j).2) ]

/-- @main's operations: the one-hot rows, its function's operations. -/
abbrev opsC : List (HloOp τ sig (Elt F)) :=
  [ TRef.unary main_call0.v1_1 main_call1.v0 (broadcastInDim S16384x1 ![0] bcast_S16384_S16384x1_0),
    TRef.nullary main_call1.v1 (iotaInDim S1x8192 32 1),
    TRef.unary main_call1.v0 main_call1.v2 (broadcastInDim S16384x8192 ![0, 1] bcast_S16384x1_S16384x8192_0_1),
    TRef.unary main_call1.v1 main_call1.v3 (broadcastInDim S16384x8192 ![0, 1] bcast_S1x8192_S16384x8192_0_1),
    TRef.binary main_call1.v2 main_call1.v3 main_call1.v4 (cmpi .eq),
    TRef.unary main_call1.v4 main_call1.v5 (uitofp .f32) ]

/-- @main's operations: the sums and the reshapes. -/
abbrev opsD : List (HloOp τ sig (Elt F)) :=
  [ binary main_v17 main_arg1 main_v18 ((fun l r => Host.dotGeneral dot_S16384x8192_S8192x64_S16384x64_1_0_0_1_n_n none l r) : (⟨S16384x8192, .f32⟩ : BufTy).Contents (Elt F) → (⟨S8192x64, .f32⟩ : BufTy).Contents (Elt F) → (⟨S16384x64, .f32⟩ : BufTy).Contents (Elt F)),
    reshape main_v18 main_v19 (rfl : (.f32 : EltTy) = .f32) shapeCasts_S16384x64_S16x32x32x64,
    binary main_v19 main_v0 main_v20 (subf : (⟨S16x32x32x64, .f32⟩ : BufTy).Contents (Elt F) → (⟨S16x32x32x64, .f32⟩ : BufTy).Contents (Elt F) → (⟨S16x32x32x64, .f32⟩ : BufTy).Contents (Elt F)),
    binary main_v20 main_v20 main_v21 (mulf : (⟨S16x32x32x64, .f32⟩ : BufTy).Contents (Elt F) → (⟨S16x32x32x64, .f32⟩ : BufTy).Contents (Elt F) → (⟨S16x32x32x64, .f32⟩ : BufTy).Contents (Elt F)),
    nullary main_cst_2 (constant S_ .f32 0x00000000#32),
    binary main_v21 main_cst_2 main_v22 ((fun x v => Host.reduceAdd x v reducesTo_S16x32x32x64_S_d0_1_2_3 h_S_) : (⟨S16x32x32x64, .f32⟩ : BufTy).Contents (Elt F) → (⟨S_, .f32⟩ : BufTy).Contents (Elt F) → (⟨S_, .f32⟩ : BufTy).Contents (Elt F)),
    nullary main_cst_3 (constant S_ .f32 0x00000000#32),
    binary main_v17 main_cst_3 main_v23 ((fun x v => Host.reduceAdd x v reducesTo_S16384x8192_S8192_d0 h_S_) : (⟨S16384x8192, .f32⟩ : BufTy).Contents (Elt F) → (⟨S_, .f32⟩ : BufTy).Contents (Elt F) → (⟨S8192, .f32⟩ : BufTy).Contents (Elt F)),
    reshape main_v22 main_v24 (rfl : (.f32 : EltTy) = .f32) shapeCasts_S_S1x1,
    reshape main_v16 main_v25 (rfl : (.i32 : EltTy) = .i32) shapeCasts_S16384_S64x1x256,
    reshape main_v23 main_v26 (rfl : (.f32 : EltTy) = .f32) shapeCasts_S8192_S1x8192 ]

/-- @main's operations, in order, the two called functions' in their places. -/
abbrev ops : List (HloOp τ sig (Elt F)) := opsA ++ (opsB ++ (opsC ++ opsD))

theorem main_eq (c : Dev nD) : main (F := F) c = seq ops := by
  sl_kernel_rfl

theorem after_append (l₁ l₂ : List (HloOp τ sig (Elt F))) (V : Valuation τ sig (Elt F)) :
    after (l₁ ++ l₂) V = after l₂ (after l₁ V) := by
  induction l₁ generalizing V with
  | nil => rfl
  | cons op l ih => exact ih _

section stages

variable (V : Valuation τ sig (Elt F))

theorem A_v15 : after opsA V (main_v15 : DevRef τ sig) = rdist (V (main_arg0 : DevRef τ sig)) (V (main_arg1 : DevRef τ sig)) := by
  after_results_simp
  rfl

theorem A_v0 : after opsA V (main_v0 : DevRef τ sig) = nhwc (V (main_arg0 : DevRef τ sig)) := by
  after_results_simp
  rfl

theorem A_arg0 : after opsA V (main_arg0 : DevRef τ sig) = V (main_arg0 : DevRef τ sig) := by after_results_simp
theorem A_arg1 : after opsA V (main_arg1 : DevRef τ sig) = V (main_arg1 : DevRef τ sig) := by after_results_simp

theorem B_v16 : after opsB V (main_v16 : DevRef τ sig) = ridx (V (main_v15 : DevRef τ sig)) := by
  after_results_simp
  rfl

theorem B_v0 : after opsB V (main_v0 : DevRef τ sig) = V (main_v0 : DevRef τ sig) := by after_results_simp
theorem B_arg0 : after opsB V (main_arg0 : DevRef τ sig) = V (main_arg0 : DevRef τ sig) := by after_results_simp
theorem B_arg1 : after opsB V (main_arg1 : DevRef τ sig) = V (main_arg1 : DevRef τ sig) := by after_results_simp

theorem C_v17 : after opsC V (main_v17 : DevRef τ sig) = renc (V (main_v16 : DevRef τ sig)) := by
  after_results_simp
  rfl

theorem C_v16 : after opsC V (main_v16 : DevRef τ sig) = V (main_v16 : DevRef τ sig) := by after_results_simp
theorem C_v0 : after opsC V (main_v0 : DevRef τ sig) = V (main_v0 : DevRef τ sig) := by after_results_simp
theorem C_arg0 : after opsC V (main_arg0 : DevRef τ sig) = V (main_arg0 : DevRef τ sig) := by after_results_simp
theorem C_arg1 : after opsC V (main_arg1 : DevRef τ sig) = V (main_arg1 : DevRef τ sig) := by after_results_simp

theorem D_v24 : after opsD V (main_v24 : DevRef τ sig)
    = rsum (V (main_v0 : DevRef τ sig)) (V (main_arg1 : DevRef τ sig)) (V (main_v17 : DevRef τ sig)) := by
  after_results_simp
  rfl

theorem D_v25 : after opsD V (main_v25 : DevRef τ sig)
    = shapeCast S64x1x256 (V (main_v16 : DevRef τ sig) : IVec S16384 32) shapeCasts_S16384_S64x1x256 := by
  after_results_simp
  rfl

theorem D_v26 : after opsD V (main_v26 : DevRef τ sig) = rcnt (V (main_v17 : DevRef τ sig)) := by
  after_results_simp
  rfl

theorem D_v17 : after opsD V (main_v17 : DevRef τ sig) = V (main_v17 : DevRef τ sig) := by after_results_simp
theorem D_arg0 : after opsD V (main_arg0 : DevRef τ sig) = V (main_arg0 : DevRef τ sig) := by after_results_simp
theorem D_arg1 : after opsD V (main_arg1 : DevRef τ sig) = V (main_arg1 : DevRef τ sig) := by after_results_simp

theorem sum_eq : after ops V (main_v24 : DevRef τ sig)
    = rsum (nhwc (V (main_arg0 : DevRef τ sig))) (V (main_arg1 : DevRef τ sig))
        (renc (ridx (rdist (V (main_arg0 : DevRef τ sig)) (V (main_arg1 : DevRef τ sig))))) := by
  rw [after_append, after_append, after_append, D_v24, C_v0, C_arg1, C_v17, B_v0, B_arg1, B_v16, A_v0, A_arg1, A_v15]

theorem idx_eq : after ops V (main_v25 : DevRef τ sig)
    = shapeCast S64x1x256 (ridx (rdist (V (main_arg0 : DevRef τ sig)) (V (main_arg1 : DevRef τ sig))))
        shapeCasts_S16384_S64x1x256 := by
  rw [after_append, after_append, after_append, D_v25, C_v16, B_v16, A_v15]

theorem cnt_eq : after ops V (main_v26 : DevRef τ sig)
    = rcnt (renc (ridx (rdist (V (main_arg0 : DevRef τ sig)) (V (main_arg1 : DevRef τ sig))))) := by
  rw [after_append, after_append, after_append, D_v26, C_v17, B_v16, A_v15]

theorem enc_eq : after ops V (main_v17 : DevRef τ sig)
    = renc (ridx (rdist (V (main_arg0 : DevRef τ sig)) (V (main_arg1 : DevRef τ sig)))) := by
  rw [after_append, after_append, after_append, D_v17, C_v17, B_v16, A_v15]

theorem arg0_eq : after ops V (main_arg0 : DevRef τ sig) = V (main_arg0 : DevRef τ sig) := by
  rw [after_append, after_append, after_append, D_arg0, C_arg0, B_arg0, A_arg0]

theorem arg1_eq : after ops V (main_arg1 : DevRef τ sig) = V (main_arg1 : DevRef τ sig) := by
  rw [after_append, after_append, after_append, D_arg1, C_arg1, B_arg1, A_arg1]

end stages

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., binary_bufs_sub .., nullary_bufs_sub .., binary_bufs_sub ..,
    unary_bufs_sub .., binary_bufs_sub .., nullary_bufs_sub .., binary_bufs_sub .., unary_bufs_sub ..,
    unary_bufs_sub .., unary_bufs_sub .., binary_bufs_sub .., unary_bufs_sub .., binary_bufs_sub ..,
    nullary_bufs_sub .., unary_bufs_sub .., binary_bufs_sub .., binary_bufs_sub .., nullary_bufs_sub ..,
    nullary_bufs_sub .., nullary_bufs_sub .., quaternary_bufs_sub .., quaternary_bufs_sub .., unary_bufs_sub ..,
    nullary_bufs_sub .., unary_bufs_sub .., unary_bufs_sub .., binary_bufs_sub .., unary_bufs_sub ..,
    binary_bufs_sub .., reshape_bufs_sub .., binary_bufs_sub .., binary_bufs_sub .., nullary_bufs_sub ..,
    binary_bufs_sub .., nullary_bufs_sub .., binary_bufs_sub .., reshape_bufs_sub .., reshape_bufs_sub ..,
    reshape_bufs_sub ..⟩

/-- Every buffer ends at the operations' fold over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The frame: the arguments unchanged, every counter zero (the program declares no semaphore). -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c main_arg0).trans (arg0_eq _), (h c main_arg1).trans (arg1_eq _)⟩,
    sem_eq_zero_of_no_sems (by decide) r.2⟩) (run_ops m ρ)

end Cert.SearchReferenceIdeal.Gen
-- ==== Proof.Scan.lean ====
module

public import proofs.«01_k».proof.Proof.Gen.SearchIdeal.Skeleton

/-!
# The body's arithmetic, as recursions over the 64 column slices

The kernel's body is unrolled: 63 compare-and-select steps over the 128-column slices of the distance block, then 64 one-hot
chunks. Here each unrolled chain is one recursive function of the number of steps, and the printed chains are those functions at
5, 15, …, 63 steps, by definitional unfolding.
-/

@[expose] public section

noncomputable section

namespace Cert.SearchIdeal.Gen

open Idealize.ShloMosaic Idealize.ShloMosaic.TcCoe

variable {F : FTy → Type} [FloatOps F]

/-- The 32-bit float bit pattern of a natural number below `2 ^ 24`. -/
def litBits (n : ℕ) : BitVec 32 :=
  if n = 0 then 0#32 else BitVec.ofNat 32 ((127 + Nat.log2 n) * 2 ^ 23 + (n - 2 ^ Nat.log2 n) * 2 ^ (23 - Nat.log2 n))

theorem slices_slc (n : ℕ) : S256x8192.Slices ![0, 128 * (n % 64)] S256x128 :=
  ⟨rfl, fun a => by
    have h := Nat.mod_lt n (by omega : 64 > 0)
    fin_cases a
    · show 0 + 256 ≤ 256
      omega
    · show 128 * (n % 64) + 128 ≤ 8192
      omega⟩

/-- Column slice `n` of the distances. -/
def slc (d : FVec F S256x8192 .f32) (n : ℕ) : FVec F S256x128 .f32 :=
  extractStridedSlice S256x128 ![0, 128 * (n % 64)] d (slices_slc n)

/-- The running minimum after `n` steps. -/
def rm (d : FVec F S256x8192 .f32) : ℕ → FVec F S256x128 .f32
  | 0 => slc d 0
  | n + 1 => select (cmpf .olt (slc d (n + 1)) (rm d n)) (slc d (n + 1)) (rm d n)

/-- The comparison of step `n`: whether slice `n + 1` is below the running minimum. -/
def lt (d : FVec F S256x8192 .f32) (n : ℕ) : IVec S256x128 1 := cmpf .olt (slc d (n + 1)) (rm d n)

/-- The number of a slice, as a float in every lane. -/
def cst (n : ℕ) : FVec F S256x128 .f32 := broadcast S256x128 (Scalar.ofBits .f32 (litBits n))

/-- The running slice number after `n` steps. -/
def ri (d : FVec F S256x8192 .f32) : ℕ → FVec F S256x128 .f32
  | 0 => cst 0
  | n + 1 => select (lt d n) (cst (n + 1)) (ri d n)

/-- Each lane's column in the distance block: 128 times its slice number, plus the lane. -/
def code (d : FVec F S256x8192 .f32) : FVec F S256x128 .f32 :=
  addf (mulf (ri d 63) (broadcast S256x128 (Scalar.ofBits .f32 0x43000000#32))) k0_pay204

/-- Each row's least distance. -/
def minval (d : FVec F S256x8192 .f32) : FVec F S256x1 .f32 :=
  shapeCast S256x1 (multiReduction .minimumf [1] S256 (rm d 63) 0x7F800000#32 reduces_S256x128_S256 (.inl rfl) rfl) shapeCasts_S256_S256x1

/-- Each row's column of the least distance, as a float. -/
def idxf (d : FVec F S256x8192 .f32) : FVec F S256 .f32 :=
  multiReduction .minimumf [1] S256
    (select (cmpf .oeq (rm d 63) (broadcastTo S256x128 (minval d) broadcasts_S256x1_S256x128)) (code d)
      (broadcast S256x128 (Scalar.ofBits .f32 0x46000000#32)))
    0x7F800000#32 reduces_S256x128_S256 (.inl rfl) rfl

/-- One chunk of the one-hot rows: lane `l` is 1 where the row's column is `128 n + l`. -/
def oh (v331 : FVec F S256x128 .f32) (v349 : FVec F S256x1 .f32) (n : ℕ) : FVec F S256x128 .f32 :=
  sitofp .f32 (extui 32 (cmpf .oeq v331 (broadcastTo S256x128
    (subf v349 (broadcast S256x1 (Scalar.ofBits .f32 (litBits (128 * n))))) broadcasts_S256x1_S256x128)) natLt_1_32)

/-- One chunk of the counts: what was there, plus the chunk's column sums. -/
def cn (v331 : FVec F S256x128 .f32) (v349 : FVec F S256x1 .f32) (n : ℕ) (x : Vec F S1x128 .f32) : FVec F S1x128 .f32 :=
  shapeCast S1x128 (addf (shapeCast S128 x shapeCasts_S1x128_S128)
    (multiReduction .add [0] S128 (oh v331 v349 n) 0x00000000#32 reduces_S256x128_S128 (.inl rfl) rfl)) shapeCasts_S128_S1x128

section parts
variable (v0 : Vec F S256x64 .f32) (v2 : Vec F S64x8192 .f32) (v5 : Vec F S256x1 .f32) (v7 : Vec F S1x8192 .f32) (d : FVec F S256x8192 .f32)

theorem pay17_eq : k0_pay17 v0 v2 v5 v7 = ri (k0_pay1 v0 v2 v5 v7) 5 := rfl
theorem pay18_eq : k0_pay18 v0 v2 v5 v7 = rm (k0_pay1 v0 v2 v5 v7) 5 := rfl
theorem pay19_eq : k0_pay19 v0 v2 v5 v7 = slc (k0_pay1 v0 v2 v5 v7) 6 := rfl
theorem pay20_eq : k0_pay20 v0 v2 v5 v7 = lt (k0_pay1 v0 v2 v5 v7) 5 := rfl
theorem pay21_eq : k0_pay21 (F := F) = cst 6 := rfl
theorem pay49_eq : k0_pay49 d (ri d 5) (rm d 5) (slc d 6) (lt d 5) (cst 6) = ri d 15 := rfl
theorem pay50_eq : k0_pay50 d (rm d 5) (slc d 6) (lt d 5) = rm d 15 := rfl
theorem pay51_eq : k0_pay51 d = slc d 16 := rfl
theorem pay52_eq : k0_pay52 d (rm d 5) (slc d 6) (lt d 5) = lt d 15 := rfl
theorem pay53_eq : k0_pay53 (F := F) = cst 16 := rfl
theorem pay81_eq : k0_pay81 d (ri d 15) (rm d 15) (slc d 16) (lt d 15) (cst 16) = ri d 25 := rfl
theorem pay82_eq : k0_pay82 d (rm d 15) (slc d 16) (lt d 15) = rm d 25 := rfl
theorem pay83_eq : k0_pay83 d = slc d 26 := rfl
theorem pay84_eq : k0_pay84 d (rm d 15) (slc d 16) (lt d 15) = lt d 25 := rfl
theorem pay85_eq : k0_pay85 (F := F) = cst 26 := rfl
theorem pay113_eq : k0_pay113 d (ri d 25) (rm d 25) (slc d 26) (lt d 25) (cst 26) = ri d 35 := rfl
theorem pay114_eq : k0_pay114 d (rm d 25) (slc d 26) (lt d 25) = rm d 35 := rfl
theorem pay115_eq : k0_pay115 d = slc d 36 := rfl
theorem pay116_eq : k0_pay116 d (rm d 25) (slc d 26) (lt d 25) = lt d 35 := rfl
theorem pay117_eq : k0_pay117 (F := F) = cst 36 := rfl
theorem pay145_eq : k0_pay145 d (ri d 35) (rm d 35) (slc d 36) (lt d 35) (cst 36) = ri d 45 := rfl
theorem pay146_eq : k0_pay146 d (rm d 35) (slc d 36) (lt d 35) = rm d 45 := rfl
theorem pay147_eq : k0_pay147 d = slc d 46 := rfl
theorem pay148_eq : k0_pay148 d (rm d 35) (slc d 36) (lt d 35) = lt d 45 := rfl
theorem pay149_eq : k0_pay149 (F := F) = cst 46 := rfl
theorem pay177_eq : k0_pay177 d (ri d 45) (rm d 45) (slc d 46) (lt d 45) (cst 46) = ri d 55 := rfl
theorem pay178_eq : k0_pay178 d (rm d 45) (slc d 46) (lt d 45) = rm d 55 := rfl
theorem pay179_eq : k0_pay179 d = slc d 56 := rfl
theorem pay180_eq : k0_pay180 d (rm d 45) (slc d 46) (lt d 45) = lt d 55 := rfl
theorem pay181_eq : k0_pay181 (F := F) = cst 56 := rfl
theorem pay203_eq : k0_pay203 d (rm d 55) (slc d 56) (lt d 55) = rm d 63 := rfl
theorem pay205_eq : k0_pay205 d (rm d 55) (slc d 56) (lt d 55) = minval d := rfl
theorem pay206_eq : k0_pay206 d (ri d 55) (rm d 55) (slc d 56) (lt d 55) (cst 56) = idxf d := rfl
end parts

end Cert.SearchIdeal.Gen
-- ==== Proof.Lane.lean ====
module

public import proofs.«01_k».proof.Proof.Scan
public import Idealize.ShloMosaic.Lib.Pipeline.Value
public import Idealize.ShloMosaic.Lib.Pointwise.Index
public import Idealize.ShloMosaic.PureOps.Ideal.Laws

/-!
# The argmin of a row, over the extended reals

The scan over slices gives each lane the least entry of its residue class and the first slice that attains it; the minimum over
lanes of the columns that attain the row's minimum is the row's FIRST minimal column.
-/

@[expose] public section

noncomputable section

namespace Cert.SearchIdeal.Gen

open Idealize.ShloMosaic Idealize.ShloMosaic.TcCoe

/-- `k` is the first index at which `g` is least. -/
def IsFirstMin {n : ℕ} (g : Fin n → EReal) (k : Fin n) : Prop := (∀ j, g k ≤ g j) ∧ ∀ j, j < k → g k < g j

theorem IsFirstMin.unique {n : ℕ} {g : Fin n → EReal} {k k' : Fin n} (h : IsFirstMin g k) (h' : IsFirstMin g k') : k = k' := by
  rcases lt_trichotomy k k' with hl | he | hg
  · exact absurd (h'.2 k hl) (not_lt.2 (h.1 k'))
  · exact he
  · exact absurd (h.2 k' hg) (not_lt.2 (h'.1 k))

/-- A pattern with exponent field `ex` and fraction field `fr` is the natural number it spells. -/
theorem ofBits_nat (b : BitVec 32) (n : ℕ) (hs : (b.extractLsb' 31 1 == 1#1) = false) (h0 : 0 < (b.extractLsb' 23 8).toNat)
    (h1 : (b.extractLsb' 23 8).toNat ≤ 150)
    (h : 2 ^ 23 + (b.extractLsb' 0 23).toNat = n * 2 ^ (150 - (b.extractLsb' 23 8).toNat)) :
    Ideal.ofBits .f32 b = ((n : ℝ) : EReal) := by
  show Ideal.ieee 8 23 b = _
  unfold Ideal.ieee
  simp only [show 8 + 23 = 31 from rfl, hs]
  generalize (b.extractLsb' 23 8).toNat = ex at *
  rw [if_neg (by norm_num; omega), if_neg (by omega), h]
  congr 1
  obtain ⟨t, ht⟩ : ∃ t, 150 = ex + t := ⟨150 - ex, by omega⟩
  rw [show 150 - ex = t by omega]
  have e : ((ex : ℤ) - (2 ^ (8 - 1) - 1) - ((23 : ℕ) : ℤ)) = -((t : ℕ) : ℤ) := by
    have : (150 : ℤ) = ex + t := by exact_mod_cast ht
    norm_num
    omega
  rw [e, zpow_neg, zpow_natCast]
  simp

/-- The patterns of the 64 slice numbers, and of the 64 multiples of 128. -/
theorem litBits_ok : ∀ n : Fin 64, n.val = 0 ∨ (((litBits n).extractLsb' 31 1 == 1#1) = false ∧ 0 < ((litBits n).extractLsb' 23 8).toNat ∧
    ((litBits n).extractLsb' 23 8).toNat ≤ 150 ∧
    2 ^ 23 + ((litBits n).extractLsb' 0 23).toNat = n.val * 2 ^ (150 - ((litBits n).extractLsb' 23 8).toNat)) := by decide +kernel

theorem litBits128_ok : ∀ n : Fin 64, n.val = 0 ∨ (((litBits (128 * n)).extractLsb' 31 1 == 1#1) = false ∧
    0 < ((litBits (128 * n)).extractLsb' 23 8).toNat ∧ ((litBits (128 * n)).extractLsb' 23 8).toNat ≤ 150 ∧
    2 ^ 23 + ((litBits (128 * n)).extractLsb' 0 23).toNat = (128 * n.val) * 2 ^ (150 - ((litBits (128 * n)).extractLsb' 23 8).toNat)) := by
  decide +kernel

theorem lit_val (n : ℕ) (hn : n < 64) : Ideal.ofBits .f32 (litBits n) = ((n : ℝ) : EReal) := by
  rcases litBits_ok ⟨n, hn⟩ with h | ⟨h1, h2, h3, h4⟩
  · obtain rfl : n = 0 := h
    rw [show litBits 0 = 0x00000000#32 from rfl, Ideal.ofBits_zero_f32]
    simp
  · exact ofBits_nat _ n h1 h2 h3 h4

theorem lit128_val (n : ℕ) (hn : n < 64) : Ideal.ofBits .f32 (litBits (128 * n)) = (((128 * n : ℕ) : ℝ) : EReal) := by
  rcases litBits128_ok ⟨n, hn⟩ with h | ⟨h1, h2, h3, h4⟩
  · obtain rfl : n = 0 := h
    rw [show litBits (128 * 0) = 0x00000000#32 from rfl, Ideal.ofBits_zero_f32]
    simp
  · exact ofBits_nat _ (128 * n) h1 h2 h3 h4

theorem lit_128 : Ideal.ofBits .f32 0x43000000#32 = ((128 : ℝ) : EReal) :=
  ofBits_nat _ 128 (by decide) (by decide) (by decide) (by decide)

theorem lit_8192 : Ideal.ofBits .f32 0x46000000#32 = ((8192 : ℝ) : EReal) :=
  ofBits_nat _ 8192 (by decide) (by decide) (by decide) (by decide)

theorem lit_inf : Ideal.ofBits .f32 0x7F800000#32 = ⊤ := by simp [Ideal.ofBits, Ideal.ieee]

/-- Row `r` of the distances. -/
def row (d : FVec Ideal S256x8192 .f32) (r : Fin 256) (k : Fin 8192) : EReal := d (ix2 r k)

theorem exists_isFirstMin {n : ℕ} (hn : 0 < n) (g : Fin n → EReal) : ∃ k, IsFirstMin g k := by
  haveI : Nonempty (Fin n) := ⟨⟨0, hn⟩⟩
  obtain ⟨m, hm⟩ := Finite.exists_min g
  let S : Finset (Fin n) := Finset.univ.filter fun j => g j = g m
  have hS : S.Nonempty := ⟨m, by simp [S]⟩
  refine ⟨S.min' hS, ?_, ?_⟩
  · have := Finset.min'_mem S hS
    simp only [S, Finset.mem_filter, Finset.mem_univ, true_and] at this
    intro j
    rw [this]
    exact hm j
  · intro j hj
    have h1 := Finset.min'_mem S hS
    simp only [S, Finset.mem_filter, Finset.mem_univ, true_and] at h1
    rw [h1]
    refine lt_of_le_of_ne (hm j) fun e => ?_
    exact absurd (Finset.min'_le S j (by simp [S, e])) (not_le.2 hj)

/-- The first index at which a row of 8192 entries is least. -/
def amin (g : Fin 8192 → EReal) : Fin 8192 := Classical.choose (exists_isFirstMin (by decide) g)

theorem amin_spec (g : Fin 8192 → EReal) : IsFirstMin g (amin g) := Classical.choose_spec (exists_isFirstMin (by decide) g)

/-- A row's entry in slice `n`, lane `l`. -/
def ent (d : FVec Ideal S256x8192 .f32) (r : Fin 256) (l : Fin 128) (n : ℕ) : EReal :=
  row d r ⟨128 * (n % 64) + l.val, by have := l.isLt; have := Nat.mod_lt n (by decide : 64 > 0); omega⟩

theorem slc_apply (d : FVec Ideal S256x8192 .f32) (n : ℕ) (r : Fin 256) (l : Fin 128) : slc d n (ix2 r l) = ent d r l n := by
  unfold slc ent row
  refine extractStridedSlice_apply _ d _ _ _ fun a => ?_
  fin_cases a
  · exact (Nat.zero_add _).symm
  · rfl

theorem cmp_olt (x y : EReal) : Ideal.cmp .olt x y = BitVec.ofBool (decide (x < y)) := rfl

theorem cst_apply (n : ℕ) (j : S256x128.Idx) : (cst n : FVec Ideal S256x128 .f32) j = Ideal.ofBits .f32 (litBits n) := rfl

theorem lt_apply (d : FVec Ideal S256x8192 .f32) (n : ℕ) (j : S256x128.Idx) :
    lt d n j = BitVec.ofBool (decide (slc d (n + 1) j < rm d n j)) := rfl

theorem rm_succ (d : FVec Ideal S256x8192 .f32) (n : ℕ) : rm d (n + 1) = select (lt d n) (slc d (n + 1)) (rm d n) := by
  rw [rm]
  rfl

theorem ri_succ (d : FVec Ideal S256x8192 .f32) (n : ℕ) : ri d (n + 1) = select (lt d n) (cst (n + 1)) (ri d n) := by
  rw [ri]

theorem sel_pos {s : Shape} (c : IVec s 1) (a b : FVec Ideal s .f32) (j : s.Idx) (h : c j = 1#1) : select c a b j = a j := by
  show (if c j = 1 then a j else b j) = a j
  exact if_pos h

theorem sel_neg {s : Shape} (c : IVec s 1) (a b : FVec Ideal s .f32) (j : s.Idx) (h : c j = 0#1) : select c a b j = b j := by
  show (if c j = 1 then a j else b j) = b j
  exact if_neg (by rw [h]; decide)

/-- After `n` steps a lane holds the least entry of its first `n + 1` slices, and the first slice that attains it. -/
theorem scan_apply (d : FVec Ideal S256x8192 .f32) (r : Fin 256) (l : Fin 128) (n : ℕ) (hn : n < 64) :
    ∃ m ≤ n, rm d n (ix2 r l) = ent d r l m ∧ ri d n (ix2 r l) = ((m : ℝ) : EReal) ∧
      (∀ j ≤ n, ent d r l m ≤ ent d r l j) ∧ ∀ j < m, ent d r l m < ent d r l j := by
  induction n with
  | zero =>
    refine ⟨0, le_rfl, (congrFun (rm.eq_1 d) _).trans (slc_apply d 0 r l),
      (congrFun (ri.eq_1 d) _).trans ((cst_apply 0 _).trans (lit_val 0 (by omega))), ?_, fun j hj => absurd hj (Nat.not_lt_zero j)⟩
    intro j hj
    obtain rfl := Nat.le_zero.1 hj
    exact le_rfl
  | succ n ih =>
    obtain ⟨m, hm, e1, e2, h1, h2⟩ := ih (by omega)
    have ec := lt_apply d n (ix2 r l)
    rw [slc_apply, e1] at ec
    rw [rm_succ, ri_succ]
    by_cases hlt : ent d r l (n + 1) < ent d r l m
    · have hc : lt d n (ix2 r l) = 1#1 := by rw [ec, decide_eq_true hlt]; rfl
      refine ⟨n + 1, le_rfl, ?_, ?_, ?_, ?_⟩
      · rw [sel_pos _ _ _ _ hc, slc_apply]
      · rw [sel_pos _ _ _ _ hc, cst_apply, lit_val _ hn]
      · intro j hj
        rcases Nat.lt_or_eq_of_le hj with h | rfl
        · exact hlt.le.trans (h1 j (by omega))
        · exact le_rfl
      · intro j hj
        exact lt_of_lt_of_le hlt (h1 j (by omega))
    · have hc : lt d n (ix2 r l) = 0#1 := by rw [ec, decide_eq_false hlt]; rfl
      refine ⟨m, by omega, ?_, ?_, ?_, h2⟩
      · rw [sel_neg _ _ _ _ hc, e1]
      · rw [sel_neg _ _ _ _ hc, e2]
      · intro j hj
        rcases Nat.lt_or_eq_of_le hj with h | rfl
        · exact h1 j (by omega)
        · exact not_lt.1 hlt

attribute [local irreducible] rm ri slc

theorem fold_min_eq {n : ℕ} (f : Fin n → EReal) (v : EReal) (k0 : Fin n) (h0 : f k0 = v) (h : ∀ k, v ≤ f k) :
    (Finset.univ : Finset (Fin n)).fold min ⊤ f = v := by
  apply le_antisymm
  · rw [Finset.fold_min_le]
    exact .inr ⟨k0, Finset.mem_univ _, h0.le⟩
  · rw [Finset.le_fold_min]
    exact ⟨le_top, fun k _ => h k⟩

/-- A row's minimum over the lanes is a value some lane has and none is below. -/
theorem minRed (src : FVec Ideal S256x128 .f32) (r : Fin 256) (v : EReal) (l0 : Fin 128) (h0 : src (ix2 r l0) = v)
    (h : ∀ l, v ≤ src (ix2 r l)) :
    multiReduction .minimumf [1] S256 src 0x7F800000#32 reduces_S256x128_S256 (.inl rfl) rfl (ix1 r) = v := by
  have hl : ∀ k : Fin 128, reduces_S256x128_S256.lift (ix1 r) k = ix2 r k := fun k => Shape.idx_ext₂ rfl rfl
  refine (multiReduction_minimumf_eq_fold src _ reduces_S256x128_S256 (.inl rfl) rfl (ix1 r)).trans ?_
  refine (reduces_S256x128_S256.fold_filter_drop_single (FloatOps.minimumf (F := Ideal) (φ := .f32)) _ src (ix1 r)).trans ?_
  show (Finset.univ : Finset (Fin 128)).fold min (Ideal.ofBits .f32 0x7F800000#32) (src ∘ reduces_S256x128_S256.lift (ix1 r)) = v
  rw [lit_inf]
  exact fold_min_eq _ v l0 ((congrArg src (hl l0)).trans h0) fun k => (h k).trans (le_of_eq (congrArg src (hl k)).symm)

theorem toInt_small (n : ℕ) (h : n < 2 ^ 31) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

theorem pay204_apply (r : Fin 256) (l : Fin 128) : (k0_pay204 : FVec Ideal S256x128 .f32) (ix2 r l) = ((l.val : ℝ) : EReal) := by
  show (((iota .tc S256x128 32 [1] iota_S256x128_d1_w32 (ix2 r l)).toInt : ℝ) : EReal) = _
  rw [iota_single_apply]
  show (((BitVec.ofNat 32 l.val).toInt : ℝ) : EReal) = _
  rw [toInt_small _ (by have := l.isLt; omega)]
  rfl

/-- The least distance of row `r`: the entry at its first minimal column. -/
theorem rm_row (d : FVec Ideal S256x8192 .f32) (r : Fin 256) :
    (∀ l, row d r (amin (row d r)) ≤ rm d 63 (ix2 r l)) ∧
      rm d 63 (ix2 r ⟨(amin (row d r)).val % 128, Nat.mod_lt _ (by decide)⟩) = row d r (amin (row d r)) := by
  obtain ⟨h1, h2⟩ := amin_spec (row d r)
  generalize amin (row d r) = K at h1 h2 ⊢
  refine ⟨fun l => ?_, ?_⟩
  · obtain ⟨m, -, e, -⟩ := scan_apply d r l 63 (by decide)
    rw [e]
    exact h1 _
  · obtain ⟨m, hm, e, -, h3, -⟩ := scan_apply d r ⟨K.val % 128, Nat.mod_lt _ (by decide)⟩ 63 (by decide)
    rw [e]
    refine le_antisymm ?_ (h1 _)
    have hK := K.isLt
    refine (h3 (K.val / 128) (by omega)).trans (le_of_eq ?_)
    unfold ent
    congr 1
    apply Fin.ext
    show 128 * (K.val / 128 % 64) + K.val % 128 = K.val
    omega

theorem minval_apply (d : FVec Ideal S256x8192 .f32) (r : Fin 256) (z : Fin 1) : minval d (ix2 r z) = row d r (amin (row d r)) := by
  unfold minval
  refine (shapeCast_apply _ _ (ix2 r z) (ix1 r) ?_).trans ?_
  · rw [Shape.rowMajor_val_one, Shape.rowMajor_val_two]
    have : z.val = 0 := by omega
    show r.val = r.val * 1 + z.val
    omega
  · exact minRed _ r _ _ (rm_row d r).2 (rm_row d r).1

theorem code_apply (d : FVec Ideal S256x8192 .f32) (r : Fin 256) (l : Fin 128) :
    ∃ m < 64, rm d 63 (ix2 r l) = ent d r l m ∧ code d (ix2 r l) = (((128 * m + l.val : ℕ) : ℝ) : EReal) ∧
      ∀ j < m, ent d r l m < ent d r l j := by
  obtain ⟨m, hm, e1, e2, -, h⟩ := scan_apply d r l 63 (by decide)
  refine ⟨m, by omega, e1, ?_, h⟩
  show ri d 63 (ix2 r l) * Ideal.ofBits .f32 0x43000000#32 + (k0_pay204 : FVec Ideal S256x128 .f32) (ix2 r l) = _
  rw [e2, lit_128, pay204_apply, ← EReal.coe_mul, ← EReal.coe_add]
  congr 1
  push_cast
  ring

/-- Each row's column, as a float, is its first minimal column. -/
theorem idxf_apply (d : FVec Ideal S256x8192 .f32) (r : Fin 256) :
    idxf d (ix1 r) = (((amin (row d r)).val : ℝ) : EReal) := by
  have hr := rm_row d r
  obtain ⟨h1, h2⟩ := amin_spec (row d r)
  have hb : ∀ l, broadcastTo S256x128 (minval d) broadcasts_S256x1_S256x128 (ix2 r l) = row d r (amin (row d r)) := fun l => by
    rw [← minval_apply d r 0]
    exact broadcastTo_apply _ _ _ _ fun a => by fin_cases a <;> rfl
  generalize amin (row d r) = K at *
  have hK := K.isLt
  have hsel : ∀ l, select (cmpf .oeq (rm d 63) (broadcastTo S256x128 (minval d) broadcasts_S256x1_S256x128)) (code d)
      (broadcast S256x128 (Scalar.ofBits .f32 0x46000000#32)) (ix2 r l)
      = if rm d 63 (ix2 r l) = row d r K then code d (ix2 r l) else ((8192 : ℝ) : EReal) := fun l => by
    show (if Ideal.cmp .oeq (rm d 63 (ix2 r l)) (broadcastTo S256x128 (minval d) broadcasts_S256x1_S256x128 (ix2 r l)) = 1#1 then code d (ix2 r l)
      else Ideal.ofBits .f32 0x46000000#32) = _
    rw [hb, lit_8192]
    show (if BitVec.ofBool (decide (rm d 63 (ix2 r l) = row d r K)) = 1#1 then _ else _) = _
    by_cases h : rm d 63 (ix2 r l) = row d r K
    · rw [if_pos h, decide_eq_true h]; rfl
    · rw [if_neg h, decide_eq_false h]; rfl
  refine minRed _ r _ ⟨K.val % 128, Nat.mod_lt _ (by decide)⟩ ?_ fun l => ?_
  · rw [hsel, if_pos hr.2]
    obtain ⟨m, hm, e1, e2, h⟩ := code_apply d r ⟨K.val % 128, Nat.mod_lt _ (by decide)⟩
    rw [e2]
    have e3 : ent d r ⟨K.val % 128, Nat.mod_lt _ (by decide)⟩ m = row d r K := e1.symm.trans hr.2
    have hge : ¬ 128 * m + K.val % 128 < K.val := fun hlt => by
      refine absurd e3 (ne_of_gt ?_)
      refine h2 _ ?_
      show 128 * (m % 64) + K.val % 128 < K.val
      omega
    have hle : ¬ K.val / 128 < m := fun hlt => by
      have := h _ hlt
      rw [e3] at this
      refine absurd this (not_lt.2 (le_of_eq ?_))
      unfold ent
      congr 1
      apply Fin.ext
      show 128 * (K.val / 128 % 64) + K.val % 128 = K.val
      omega
    have : 128 * m + K.val % 128 = K.val := by omega
    show (((128 * m + K.val % 128 : ℕ) : ℝ) : EReal) = _
    rw [this]
  · rw [hsel]
    split_ifs with h
    · obtain ⟨m, hm, e1, e2, -⟩ := code_apply d r l
      rw [e2, EReal.coe_le_coe_iff, Nat.cast_le]
      by_contra hc
      have e3 : ent d r l m = row d r K := e1.symm.trans h
      refine absurd e3 (ne_of_gt ?_)
      refine h2 _ ?_
      show 128 * (m % 64) + l.val < K.val
      omega
    · rw [EReal.coe_le_coe_iff]
      have : ((K.val : ℕ) : ℝ) ≤ ((8192 : ℕ) : ℝ) := Nat.cast_le.2 hK.le
      exact_mod_cast this

end Cert.SearchIdeal.Gen
-- ==== Proof.Pieces.lean ====
module

public import proofs.«01_k».proof.Proof.Gen.SearchIdeal.Frame
public import Idealize.ShloMosaic.Lib.Pipeline.Value
public import Idealize.ShloMosaic.Lib.WholeRead
public import proofs.«01_k».proof.Proof.Scan

/-!
# What the body leaves in its four output blocks

The run's pieces for each output, in the first grid point's case (A) and in every later point's (B), are the recursions of
`Scan`; read back they are four functions of the input blocks and, for the two accumulated outputs, of what was there.
-/

@[expose] public section

noncomputable section

namespace Cert.SearchIdeal.Gen

open Idealize.ShloMosaic Idealize.ShloMosaic.TcCoe Idealize.SL.Sem

variable {F : FTy → Type} [FloatOps F]

/-- The distances of one block of rows. -/
abbrev dist (x0 : Vec F S256x64 .f32) (x1 : Vec F S64x8192 .f32) (x2 : Vec F S256x1 .f32) (x3 : Vec F S1x8192 .f32) :
    FVec F S256x8192 .f32 := k0_pay1 x0 x1 x2 x3

theorem inb_enc (n : ℕ) (a : Fin 2) : (![0, 128 * (n % 64)] : Fin 2 → ℕ) a + S256x128.size a ≤ S256x8192.size a := by
  have h := Nat.mod_lt n (by omega : 64 > 0)
  fin_cases a
  · show 0 + 256 ≤ 256
    omega
  · show 128 * (n % 64) + 128 ≤ 8192
    omega

theorem inb_cnt (n : ℕ) (a : Fin 2) : (![0, 128 * (n % 64)] : Fin 2 → ℕ) a + S1x128.size a ≤ S1x8192.size a := by
  have h := Nat.mod_lt n (by omega : 64 > 0)
  fin_cases a
  · show 0 + 1 ≤ 1
    omega
  · show 128 * (n % 64) + 128 ≤ 8192
    omega

/-- Chunk `n` of the one-hot block, and of the counts. -/
def encR (n : ℕ) : Rect S256x8192 := Rect.unit (s := S256x8192) ![0, 128 * (n % 64)] S256x128.size (inb_enc n)
@[inherit_doc encR] def cntR (n : ℕ) : Rect S1x8192 := Rect.unit (s := S1x8192) ![0, 128 * (n % 64)] S1x128.size (inb_cnt n)

/-- The one-hot block's pieces after `n` chunks, last first. -/
def encL (v : FVec F S256x1 .f32) : ℕ → List (View.Piece (Elt F) S256x8192 .f32)
  | 0 => []
  | n + 1 => ⟨encR n, oh k0_pay204 v n⟩ :: encL v n

/-- The counts' pieces after `n` chunks where chunk `n` is read from a function of the pieces before it. -/
def cntL (v : FVec F S256x1 .f32) (L0 : List (View.Piece (Elt F) S1x8192 .f32))
    (rd : List (View.Piece (Elt F) S1x8192 .f32) → ℕ → Vec F S1x128 .f32) : ℕ → List (View.Piece (Elt F) S1x8192 .f32)
  | 0 => L0
  | n + 1 => ⟨cntR n, cn k0_pay204 v n (rd (cntL v L0 rd n) n)⟩ :: cntL v L0 rd n

/-- Chunk `n` of a row of counts. -/
def cntLd (x : Vec F S1x8192 .f32) (n : ℕ) : Vec F S1x128 .f32 := fun j => x ((cntR n).emb j)

/-- The row of counts after a block: chunk by chunk, what was there plus the chunk's column sums. -/
def cntBlk (v : FVec F S256x1 .f32) (x : Vec F S1x8192 .f32) : Vec F S1x8192 .f32 := fun y =>
  cn k0_pay204 v ((y 1).val / 128) (cntLd x ((y 1).val / 128))
    (fun a => ⟨![0, (y 1).val % 128] a, by
      fin_cases a
      · exact Nat.one_pos
      · exact Nat.mod_lt _ (by decide : 128 > 0)⟩)

/-- The one-hot block: chunk by chunk. -/
def encBlk (v : FVec F S256x1 .f32) : Vec F S256x8192 .f32 := fun y =>
  oh k0_pay204 v ((y 1).val / 128)
    (fun a => ⟨![(y 0).val, (y 1).val % 128] a, by
      fin_cases a
      · exact (y 0).isLt
      · exact Nat.mod_lt _ (by decide : 128 > 0)⟩)

theorem encL_pieces (v : FVec F S256x1 .f32) : ∀ n ≤ 64, ∀ p ∈ encL v n, ∀ x : p.1.shape.Idx, p.2 x = encBlk v (p.1.emb x)
  | 0, _, p, hp, _ => absurd hp List.not_mem_nil
  | n + 1, hn, p, hp, x => by
    rcases List.mem_cons.mp hp with rfl | hp
    · have e1 : (((encR n).emb x) 1).val = 128 * n + (x 1).val := by
        show 128 * (n % 64) + 1 * (x 1).val = _
        rw [Nat.mod_eq_of_lt (by omega), Nat.one_mul]
      have e0 : (((encR n).emb x) 0).val = (x 0).val := by
        show 0 + 1 * (x 0).val = _
        omega
      have hx : (x 1).val < 128 := (x 1).isLt
      show oh k0_pay204 v n x = encBlk v ((encR n).emb x)
      unfold encBlk
      have hd : (((encR n).emb x) 1).val / 128 = n := by rw [e1]; omega
      have hm : (((encR n).emb x) 1).val % 128 = (x 1).val := by rw [e1]; omega
      rw [hd]
      congr 1
      funext a
      apply Fin.ext
      fin_cases a
      · exact e0.symm
      · exact hm.symm
    · exact encL_pieces v n (by omega) p hp x

/-- The counts' pieces over zeros, or over what was there: read back, the chunks below `n` are the new counts. -/
theorem cntL_canon (v : FVec F S256x1 .f32) (L0) (rd) (x : Vec F S1x8192 .f32) (n : ℕ) (hn : n ≤ 64)
    (hrd : ∀ n < 64, (∀ y : S1x8192.Idx, 128 * n ≤ (y 1).val → View.canon (cntL v L0 rd n) y = View.canon L0 y) →
      rd (cntL v L0 rd n) n = cntLd x n) :
    ∀ y : S1x8192.Idx, (128 * n ≤ (y 1).val → View.canon (cntL v L0 rd n) y = View.canon L0 y)
      ∧ ((y 1).val < 128 * n → View.canon (cntL v L0 rd n) y = cntBlk v x y) := by
  induction n with
  | zero => exact fun y => ⟨fun _ => rfl, fun h => absurd h (by omega)⟩
  | succ n ih =>
    have ih := ih (by omega)
    have hr := hrd n (by omega) (fun y hy => (ih y).1 hy)
    have hmem : ∀ y : S1x8192.Idx, y ∈ (cntR n).set ↔ 128 * n ≤ (y 1).val ∧ (y 1).val < 128 * n + 128 := by
      intro y
      unfold cntR
      rw [Rect.mem_set_unit]
      have h0 : (y 0).val < 1 := (y 0).isLt
      have hm : n % 64 = n := Nat.mod_eq_of_lt (by omega)
      constructor
      · intro h
        have := h 1
        change 128 * (n % 64) ≤ (y 1).val ∧ (y 1).val < 128 * (n % 64) + 128 at this
        rwa [hm] at this
      · intro h a
        fin_cases a
        · show 0 ≤ (y 0).val ∧ (y 0).val < 0 + 1
          omega
        · show 128 * (n % 64) ≤ (y 1).val ∧ (y 1).val < 128 * (n % 64) + 128
          rwa [hm]
    intro y
    constructor
    · intro hy
      have : y ∉ (cntR n).set := fun h => absurd ((hmem y).1 h).2 (Nat.not_lt.2 (by rw [Nat.mul_succ] at hy; exact hy))
      refine (View.canon_cons_of_not_mem (Val := Elt F) (e := .f32) ⟨cntR n, cn k0_pay204 v n (rd (cntL v L0 rd n) n)⟩ _ this).trans ?_
      exact (ih y).1 (le_trans (Nat.mul_le_mul_left _ (Nat.le_succ n)) hy)
    · intro hy
      show View.canon (⟨cntR n, cn k0_pay204 v n (rd (cntL v L0 rd n) n)⟩ :: cntL v L0 rd n) y = _
      by_cases hm : y ∈ (cntR n).set
      · obtain ⟨z, rfl⟩ := (cntR n).exists_idx_of_mem hm
        refine (View.canon_cons_emb (Val := Elt F) (e := .f32) (cntR n) (cn k0_pay204 v n (rd (cntL v L0 rd n) n)) _ z).trans ?_
        rw [hr]
        change _ = cntBlk v x ((cntR n).emb z)
        have e1 : (((cntR n).emb z) 1).val = 128 * n + (z 1).val := by
          show 128 * (n % 64) + 1 * (z 1).val = _
          rw [Nat.mod_eq_of_lt (by omega), Nat.one_mul]
        have hz : (z 1).val < 128 := (z 1).isLt
        have hz0 : (z 0).val < 1 := (z 0).isLt
        unfold cntBlk
        have hd : (((cntR n).emb z) 1).val / 128 = n := by rw [e1]; omega
        have hmm : (((cntR n).emb z) 1).val % 128 = (z 1).val := by rw [e1]; omega
        rw [hd]
        congr 1
        funext a
        apply Fin.ext
        fin_cases a
        · show (z 0).val = 0
          omega
        · exact hmm.symm
      · refine (View.canon_cons_of_not_mem (Val := Elt F) (e := .f32) ⟨cntR n, cn k0_pay204 v n (rd (cntL v L0 rd n) n)⟩ _ hm).trans ?_
        have := mt (hmem y).2 hm
        refine (ih y).2 ?_
        by_contra hc
        exact this ⟨Nat.not_lt.1 hc, by rw [Nat.mul_succ] at hy; exact hy⟩

section run
variable (c : Dev nD) (i : grid0.Coords) (arg1 : Memref sig .tc .vmem S256x64 .f32) (harg1 : arg1.IsWhole)
  (arg2 : Memref sig .tc .vmem S64x8192 .f32) (harg2 : arg2.IsWhole) (arg3 : Memref sig .tc .vmem S256x1 .f32) (harg3 : arg3.IsWhole)
  (arg4 : Memref sig .tc .vmem S1x8192 .f32) (harg4 : arg4.IsWhole) (arg5 : Memref sig .tc .vmem S256x8192 .f32) (harg5 : arg5.IsWhole)
  (arg6 : Memref sig .tc .vmem S1x1x256 .i32) (harg6 : arg6.IsWhole) (arg7 : Memref sig .tc .vmem S1x8192 .f32) (harg7 : arg7.IsWhole)
  (arg8 : Memref sig .tc .vmem S1x1 .f32) (harg8 : arg8.IsWhole)
  (x0 : Vec F S256x64 .f32) (x1 : Vec F S64x8192 .f32) (x2 : Vec F S256x1 .f32) (x3 : Vec F S1x8192 .f32)
  (xo6 : Vec F S1x8192 .f32) (xo7 : Vec F S1x1 .f32)

/-- A load of a whole block reads it. -/
theorem ldw {s : Shape} {e : EltTy} (arg : Memref sig .tc .vmem s e) (harg : arg.IsWhole) (off : Fin s.rank → ℕ) (hoff : ∀ a, off a = 0)
    (inb : ∀ a, off a + s.size a ≤ s.size a) (x : Vec F s e) :
    View.readAt (Elt F) arg.view (Rect.unit off s.size inb).toLoadRect (harg.unread x) = x := by
  obtain rfl : off = fun _ => 0 := funext hoff
  funext z
  exact (harg.readAt_unread x _ z).trans (congrArg x (Rect.emb_whole_apply s z))

theorem zero2 (a : Fin 2) : (![0, 0] : Fin 2 → ℕ) a = 0 := by fin_cases a <;> rfl

/-- The case's distances read the input blocks whole. -/
theorem rA : kernelRun0_A.sl.r c arg1 harg1 arg2 harg2 arg3 harg3 arg4 harg4 x0 x1 x2 x3 = dist x0 x1 x2 x3 := by
  unfold kernelRun0_A.sl.r dist
  rw [ldw arg1 harg1 _ zero2, ldw arg2 harg2 _ zero2, ldw arg3 harg3 _ zero2, ldw arg4 harg4 _ zero2]

theorem rB : kernelRun0_B.sl.r c arg1 harg1 arg2 harg2 arg3 harg3 arg4 harg4 x0 x1 x2 x3 = dist x0 x1 x2 x3 := by
  unfold kernelRun0_B.sl.r dist
  rw [ldw arg1 harg1 _ zero2, ldw arg2 harg2 _ zero2, ldw arg3 harg3 _ zero2, ldw arg4 harg4 _ zero2]

theorem r25A : kernelRun0_A.sl.r_25 c arg1 harg1 arg2 harg2 arg3 harg3 arg4 harg4 x0 x1 x2 x3 = minval (dist x0 x1 x2 x3) := by
  rw [← rA c arg1 harg1 arg2 harg2 arg3 harg3 arg4 harg4 x0 x1 x2 x3]
  rfl

theorem r26A : kernelRun0_A.sl.r_26 c arg1 harg1 arg2 harg2 arg3 harg3 arg4 harg4 x0 x1 x2 x3 = idxf (dist x0 x1 x2 x3) := by
  rw [← rA c arg1 harg1 arg2 harg2 arg3 harg3 arg4 harg4 x0 x1 x2 x3]
  rfl

theorem r25B : kernelRun0_B.sl.r_25 c arg1 harg1 arg2 harg2 arg3 harg3 arg4 harg4 x0 x1 x2 x3 = minval (dist x0 x1 x2 x3) := by
  rw [← rB c arg1 harg1 arg2 harg2 arg3 harg3 arg4 harg4 x0 x1 x2 x3]
  rfl

theorem r26B : kernelRun0_B.sl.r_26 c arg1 harg1 arg2 harg2 arg3 harg3 arg4 harg4 x0 x1 x2 x3 = idxf (dist x0 x1 x2 x3) := by
  rw [← rB c arg1 harg1 arg2 harg2 arg3 harg3 arg4 harg4 x0 x1 x2 x3]
  rfl

/-- The rows' columns as a column of the block. -/
abbrev col (d : FVec F S256x8192 .f32) : FVec F S256x1 .f32 := k0_pay210 (idxf d)

theorem encA (hc0) : (kernelRun0_A c i arg1 harg1 arg2 harg2 arg3 harg3 arg4 harg4 arg5 harg5 arg6 harg6 arg7 harg7 arg8 harg8 hc0 x0 x1 x2 x3).1
    = encL (k0_pay210 (kernelRun0_A.sl.r_26 c arg1 harg1 arg2 harg2 arg3 harg3 arg4 harg4 x0 x1 x2 x3)) 64 := rfl

theorem encB (hc0) : (kernelRun0_B c i arg1 harg1 arg2 harg2 arg3 harg3 arg4 harg4 arg5 harg5 arg6 harg6 arg7 harg7 arg8 harg8 hc0 x0 x1 x2 x3 xo6 xo7).1
    = encL (k0_pay210 (kernelRun0_B.sl.r_26 c arg1 harg1 arg2 harg2 arg3 harg3 arg4 harg4 x0 x1 x2 x3)) 64 := rfl

theorem cntA (hc0) : (kernelRun0_A c i arg1 harg1 arg2 harg2 arg3 harg3 arg4 harg4 arg5 harg5 arg6 harg6 arg7 harg7 arg8 harg8 hc0 x0 x1 x2 x3).2.2.1
    = cntL (k0_pay210 (kernelRun0_A.sl.r_26 c arg1 harg1 arg2 harg2 arg3 harg3 arg4 harg4 x0 x1 x2 x3))
      [⟨Rect.unit ![0, 0] S1x8192.size inb_S1x8192_S1x8192_0_0, k0_pay208⟩] (fun L n => arg7.view.readCov L (cntR n).toLoadRect) 64 := by sl_kernel_rfl

theorem cntB (hc0) : (kernelRun0_B c i arg1 harg1 arg2 harg2 arg3 harg3 arg4 harg4 arg5 harg5 arg6 harg6 arg7 harg7 arg8 harg8 hc0 x0 x1 x2 x3 xo6 xo7).2.2.1
    = cntL (k0_pay210 (kernelRun0_B.sl.r_26 c arg1 harg1 arg2 harg2 arg3 harg3 arg4 harg4 x0 x1 x2 x3))
      [] (fun _ n => View.readAt (Elt F) arg7.view (cntR n).toLoadRect (harg7.unread xo6)) 64 := rfl

theorem cntL_full (v : FVec F S256x1 .f32) (L0) (rd) (x : Vec F S1x8192 .f32)
    (hrd : ∀ n < 64, (∀ y : S1x8192.Idx, 128 * n ≤ (y 1).val → View.canon (cntL v L0 rd n) y = View.canon L0 y) →
      rd (cntL v L0 rd n) n = cntLd x n) : View.canon (cntL v L0 rd 64) = cntBlk v x :=
  funext fun y => (cntL_canon v L0 rd x 64 le_rfl hrd y).2 (y 1).isLt

theorem cntR_ge {n : ℕ} (hn : n < 64) (j : S1x128.Idx) : 128 * n ≤ (((cntR n).emb j) 1).val := by
  show 128 * n ≤ 128 * (n % 64) + 1 * (j 1).val
  rw [Nat.mod_eq_of_lt hn]
  exact Nat.le_add_right _ _

theorem out4_A (hc0) : out0_A_4 c i arg1 harg1 arg2 harg2 arg3 harg3 arg4 harg4 arg5 harg5 arg6 harg6 arg7 harg7 arg8 harg8 hc0 x0 x1 x2 x3
    = encBlk (col (dist x0 x1 x2 x3)) := by
  unfold out0_A_4
  rw [View.read_writes_junk_eq_canon]
  funext y
  refine View.canon_apply_of_pieces (Val := Elt F) (encBlk (col (dist x0 x1 x2 x3))) _ ?_ y
    (cover0_A_4 c i arg1 harg1 arg2 harg2 arg3 harg3 arg4 harg4 arg5 harg5 arg6 harg6 arg7 harg7 arg8 harg8 hc0 x0 x1 x2 x3 y)
  rw [encA, r26A]
  exact encL_pieces _ 64 le_rfl

theorem out4_B (hc0) : out0_B_4 c i arg1 harg1 arg2 harg2 arg3 harg3 arg4 harg4 arg5 harg5 arg6 harg6 arg7 harg7 arg8 harg8 hc0 x0 x1 x2 x3 xo6 xo7
    = encBlk (col (dist x0 x1 x2 x3)) := by
  unfold out0_B_4
  rw [View.read_writes_junk_eq_canon]
  funext y
  refine View.canon_apply_of_pieces (Val := Elt F) (encBlk (col (dist x0 x1 x2 x3))) _ ?_ y
    (cover0_B_4 c i arg1 harg1 arg2 harg2 arg3 harg3 arg4 harg4 arg5 harg5 arg6 harg6 arg7 harg7 arg8 harg8 hc0 x0 x1 x2 x3 xo6 xo7 y)
  rw [encB, r26B]
  exact encL_pieces _ 64 le_rfl

theorem zero3 : (![0, 0, 0] : Fin 3 → ℕ) = fun _ => 0 := by funext a; fin_cases a <;> rfl

theorem out5_A (hc0) : out0_A_5 c i arg1 harg1 arg2 harg2 arg3 harg3 arg4 harg4 arg5 harg5 arg6 harg6 arg7 harg7 arg8 harg8 hc0 x0 x1 x2 x3
    = k0_pay207 (idxf (dist x0 x1 x2 x3)) := by
  unfold out0_A_5
  rw [View.read_writes_junk_eq_canon, ← r26A c arg1 harg1 arg2 harg2 arg3 harg3 arg4 harg4 x0 x1 x2 x3]
  exact View.canon_unit_zero (Val := Elt F) (S := S1x1x256) zero3 inb_S1x1x256_S1x1x256_0_0_0 _

theorem out5_B (hc0) : out0_B_5 c i arg1 harg1 arg2 harg2 arg3 harg3 arg4 harg4 arg5 harg5 arg6 harg6 arg7 harg7 arg8 harg8 hc0 x0 x1 x2 x3 xo6 xo7
    = k0_pay207 (idxf (dist x0 x1 x2 x3)) := by
  unfold out0_B_5
  rw [View.read_writes_junk_eq_canon, ← r26B c arg1 harg1 arg2 harg2 arg3 harg3 arg4 harg4 x0 x1 x2 x3]
  exact View.canon_unit_zero (Val := Elt F) (S := S1x1x256) zero3 inb_S1x1x256_S1x1x256_0_0_0 _

theorem out6_A (hc0) : out0_A_6 c i arg1 harg1 arg2 harg2 arg3 harg3 arg4 harg4 arg5 harg5 arg6 harg6 arg7 harg7 arg8 harg8 hc0 x0 x1 x2 x3
    = cntBlk (col (dist x0 x1 x2 x3)) k0_pay208 := by
  unfold out0_A_6
  have hz := View.canon_unit_zero (Val := Elt F) (S := S1x8192) (e := .f32) (funext zero2) inb_S1x8192_S1x8192_0_0 k0_pay208
  rw [View.read_writes_junk_eq_canon, cntA, r26A]
  generalize hZ : (k0_pay208 : FVec F S1x8192 .f32) = Z at hz ⊢
  refine cntL_full _ _ _ Z fun n hn h => ?_
  rw [View.readCov_eq_canon', hz] at *
  funext j
  exact h ((cntR n).emb j) (cntR_ge hn j)

theorem out6_B (hc0) : out0_B_6 c i arg1 harg1 arg2 harg2 arg3 harg3 arg4 harg4 arg5 harg5 arg6 harg6 arg7 harg7 arg8 harg8 hc0 x0 x1 x2 x3 xo6 xo7
    = cntBlk (col (dist x0 x1 x2 x3)) xo6 := by
  unfold out0_B_6
  rw [View.read_writes_junk_eq_canon, cntB, r26B]
  refine cntL_full _ _ _ xo6 fun n hn h => ?_
  funext j
  show View.readAt (Elt F) arg7.view (cntR n).toLoadRect (harg7.unread xo6) j = xo6 ((cntR n).emb j)
  exact harg7.readAt_unread xo6 _ j

theorem out7_A (hc0) : out0_A_7 c i arg1 harg1 arg2 harg2 arg3 harg3 arg4 harg4 arg5 harg5 arg6 harg6 arg7 harg7 arg8 harg8 hc0 x0 x1 x2 x3
    = k0_pay352 (minval (dist x0 x1 x2 x3)) k0_pay209 := by
  unfold out0_A_7
  rw [View.read_writes_junk_eq_canon, ← r25A c arg1 harg1 arg2 harg2 arg3 harg3 arg4 harg4 x0 x1 x2 x3]
  refine (View.canon_cons_unit_zero (Val := Elt F) (S := S1x1) (funext zero2) inb_S1x1_S1x1_0_0 _ _).trans ?_
  refine congrArg (k0_pay352 (kernelRun0_A.sl.r_25 c arg1 harg1 arg2 harg2 arg3 harg3 arg4 harg4 x0 x1 x2 x3)) ?_
  exact View.readCov_unit_zero (Val := Elt F) (S := S1x1) arg8.view (funext zero2) inb_S1x1_S1x1_0_0 k0_pay209

theorem out7_B (hc0) : out0_B_7 c i arg1 harg1 arg2 harg2 arg3 harg3 arg4 harg4 arg5 harg5 arg6 harg6 arg7 harg7 arg8 harg8 hc0 x0 x1 x2 x3 xo6 xo7
    = k0_pay352 (minval (dist x0 x1 x2 x3)) xo7 := by
  unfold out0_B_7
  rw [View.read_writes_junk_eq_canon, ← r25B c arg1 harg1 arg2 harg2 arg3 harg3 arg4 harg4 x0 x1 x2 x3]
  refine (View.canon_unit_zero (Val := Elt F) (S := S1x1) (funext zero2) inb_S1x1_S1x1_0_0 _).trans ?_
  refine congrArg (k0_pay352 (kernelRun0_B.sl.r_25 c arg1 harg1 arg2 harg2 arg3 harg3 arg4 harg4 x0 x1 x2 x3)) ?_
  exact ldw arg8 harg8 _ zero2 inb_S1x1_S1x1_0_0 xo7

end run

end Cert.SearchIdeal.Gen
-- ==== Proof.Blocks.lean ====
module

public import proofs.«01_k».proof.Proof.Lane
public import proofs.«01_k».proof.Proof.Pieces

/-!
# The four output blocks, over the extended reals

For a block of rows with distances `d`: row `r` of the one-hot block is 1 at the row's first minimal column and 0 elsewhere, the
index is that column, the counts grow by the column sums of the one-hot block, the distance sum by the sum of the rows' minima.
-/

@[expose] public section

noncomputable section

namespace Cert.SearchIdeal.Gen

open Idealize.ShloMosaic Idealize.ShloMosaic.TcCoe

/-- 1 where two naturals agree, 0 elsewhere. -/
def hot (a b : ℕ) : EReal := if a = b then 1 else 0

attribute [local irreducible] rm ri slc minval idxf

variable (d : FVec Ideal S256x8192 .f32)

theorem col_apply (r : Fin 256) (z : Fin 1) : col d (ix2 r z) = (((amin (row d r)).val : ℝ) : EReal) := by
  refine (shapeCast_apply (idxf d) _ (ix2 r z) (ix1 r) ?_).trans (idxf_apply d r)
  rw [Shape.rowMajor_val_one, Shape.rowMajor_val_two]
  have : z.val = 0 := by omega
  show r.val = r.val * 1 + z.val
  omega

theorem ofBool_val (p : Prop) [Decidable p] : ((((BitVec.ofBool (decide p)).zeroExtend 32).toInt : ℝ) : EReal) = if p then 1 else 0 := by
  by_cases h : p
  · rw [decide_eq_true h, if_pos h]
    have : ((BitVec.ofBool true).zeroExtend 32).toInt = 1 := by decide
    rw [this]
    simp
  · rw [decide_eq_false h, if_neg h]
    have : ((BitVec.ofBool false).zeroExtend 32).toInt = 0 := by decide
    rw [this]
    simp

theorem oh_apply (n : ℕ) (hn : n < 64) (r : Fin 256) (l : Fin 128) :
    oh k0_pay204 (col d) n (ix2 r l) = hot (amin (row d r)).val (128 * n + l.val) := by
  have hb : broadcastTo S256x128 (subf (col d) (broadcast S256x1 (Scalar.ofBits .f32 (litBits (128 * n))))) broadcasts_S256x1_S256x128 (ix2 r l)
      = (((amin (row d r)).val : ℝ) : EReal) - (((128 * n : ℕ) : ℝ) : EReal) := by
    refine (broadcastTo_apply _ _ (ix2 r l) (ix2 r 0) fun a => by fin_cases a <;> rfl).trans ?_
    show col d (ix2 r 0) - Ideal.ofBits .f32 (litBits (128 * n)) = _
    rw [col_apply, lit128_val n hn]
  show ((((BitVec.ofBool (decide ((k0_pay204 : FVec Ideal S256x128 .f32) (ix2 r l)
    = broadcastTo S256x128 (subf (col d) (broadcast S256x1 (Scalar.ofBits .f32 (litBits (128 * n))))) broadcasts_S256x1_S256x128 (ix2 r l)))).zeroExtend 32).toInt : ℝ) : EReal) = _
  rw [ofBool_val, hb, pay204_apply, ← EReal.coe_sub]
  unfold hot
  refine if_congr ?_ rfl rfl
  rw [EReal.coe_eq_coe_iff, eq_sub_iff_add_eq]
  constructor
  · intro h
    have : ((l.val + 128 * n : ℕ) : ℝ) = ((amin (row d r)).val : ℝ) := by push_cast; push_cast at h; exact h
    have := Nat.cast_injective this
    omega
  · intro h
    rw [h]
    push_cast
    ring

theorem cn_apply (n : ℕ) (hn : n < 64) (x : Vec Ideal S1x128 .f32) (l : Fin 128) :
    cn k0_pay204 (col d) n x (ix2 0 l) = x (ix2 0 l) + ∑ r : Fin 256, hot (amin (row d r)).val (128 * n + l.val) := by
  unfold cn
  refine (shapeCast_apply _ _ (ix2 0 l) (ix1 l) ?_).trans ?_
  · rw [Shape.rowMajor_val_one, Shape.rowMajor_val_two]
    show l.val = 0 * 128 + l.val
    omega
  · show shapeCast S128 x shapeCasts_S1x128_S128 (ix1 l) + multiReduction .add [0] S128 (oh k0_pay204 (col d) n) 0x00000000#32 reduces_S256x128_S128 (.inl rfl) rfl (ix1 l) = _
    congr 1
    · refine shapeCast_apply _ _ (ix1 l) (ix2 0 l) ?_
      rw [Shape.rowMajor_val_one, Shape.rowMajor_val_two]
      show 0 * 128 + l.val = l.val
      omega
    · refine (Ideal.multiReduction_add_single (oh k0_pay204 (col d) n) _ reduces_S256x128_S128 (.inl rfl) rfl (ix1 l)).trans ?_
      refine Finset.sum_congr rfl fun r _ => ?_
      rw [← oh_apply d n hn r l]
      exact congrArg (oh k0_pay204 (col d) n) (Shape.idx_ext₂ rfl rfl)

/-- The one-hot block. -/
theorem encBlk_apply (r : Fin 256) (k : Fin 8192) : encBlk (col d) (ix2 r k) = hot (amin (row d r)).val k.val := by
  have hk := k.isLt
  have e : encBlk (col d) (ix2 r k) = oh k0_pay204 (col d) (k.val / 128) (ix2 r ⟨k.val % 128, Nat.mod_lt _ (by decide)⟩) := by
    unfold encBlk
    exact congrArg (oh k0_pay204 (col d) (k.val / 128)) (Shape.idx_ext₂ rfl rfl)
  rw [e, oh_apply d _ (by omega)]
  congr 1
  show 128 * (k.val / 128) + k.val % 128 = k.val
  omega

/-- The counts. -/
theorem cntBlk_apply (x : Vec Ideal S1x8192 .f32) (k : Fin 8192) :
    cntBlk (col d) x (ix2 0 k) = x (ix2 0 k) + ∑ r : Fin 256, hot (amin (row d r)).val k.val := by
  have hk := k.isLt
  have hq : 128 * (k.val / 128) + k.val % 128 = k.val := by omega
  have e : cntBlk (col d) x (ix2 0 k) = cn k0_pay204 (col d) (k.val / 128) (cntLd x (k.val / 128)) (ix2 0 ⟨k.val % 128, Nat.mod_lt _ (by decide)⟩) := by
    unfold cntBlk
    exact congrArg (cn k0_pay204 (col d) (k.val / 128) (cntLd x (k.val / 128))) (Shape.idx_ext₂ rfl rfl)
  rw [e, cn_apply d _ (by omega)]
  congr 1
  · unfold cntLd
    refine congrArg x (Shape.idx_ext₂ rfl ?_)
    show 128 * (k.val / 128 % 64) + 1 * (k.val % 128) = k.val
    omega
  · refine Finset.sum_congr rfl fun r _ => ?_
    congr 1

theorem toIntClamped_coe (lo hi : ℤ) (x : ℝ) : Ideal.toIntClamped lo hi (x : EReal) = max lo (min hi (if 0 ≤ x then ⌊x⌋ else ⌈x⌉)) := rfl

theorem fptosi_nat (K : ℕ) (hK : K < 2 ^ 31) : Ideal.fptosi 32 (((K : ℕ) : ℝ) : EReal) = BitVec.ofNat 32 K := by
  unfold Ideal.fptosi
  rw [toIntClamped_coe, if_pos (Nat.cast_nonneg K), Int.floor_natCast, min_eq_right (by norm_num; omega), max_eq_right (by norm_num),
    BitVec.ofInt_natCast]

/-- The indices. -/
theorem pay207_apply (r : Fin 256) : k0_pay207 (idxf d) (ix3 0 0 r) = BitVec.ofNat 32 (amin (row d r)).val := by
  refine (shapeCast_apply (fptosi 32 (idxf d)) _ (ix3 0 0 r) (ix1 r) ?_).trans ?_
  · rw [Shape.rowMajor_val_one, Shape.rowMajor_val_three]
    show r.val = (0 * 1 + 0) * 256 + r.val
    omega
  · show Ideal.fptosi 32 (idxf d (ix1 r)) = _
    rw [idxf_apply]
    exact fptosi_nat _ (by have := (amin (row d r)).isLt; omega)

/-- The distance sum. -/
theorem pay352_apply (x : Vec Ideal S1x1 .f32) (z w : Fin 1) :
    k0_pay352 (minval d) x (ix2 z w) = x (ix2 z w) + ∑ r : Fin 256, row d r (amin (row d r)) := by
  show shapeCast S1x1 x shapeCasts_S1x1_S1x1 (ix2 z w)
    + shapeCast S1x1 (multiReduction .add [0] S1 (minval d) 0x00000000#32 reduces_S256x1_S1 (.inl rfl) rfl) shapeCasts_S1_S1x1 (ix2 z w) = _
  congr 1
  · rw [shapeCast_self]
  · refine (shapeCast_apply _ _ (ix2 z w) (ix1 0) ?_).trans ?_
    · rw [Shape.rowMajor_val_one, Shape.rowMajor_val_two]
      have : z.val = 0 := by omega
      have : w.val = 0 := by omega
      show 0 = z.val * 1 + w.val
      omega
    · refine (Ideal.multiReduction_add_single (minval d) _ reduces_S256x1_S1 (.inl rfl) rfl (ix1 0)).trans ?_
      refine Finset.sum_congr rfl fun r _ => ?_
      rw [← minval_apply d r 0]
      exact congrArg (minval d) (Shape.idx_ext₂ rfl rfl)

end Cert.SearchIdeal.Gen
-- ==== Proof.Arrays.lean ====
module

public import proofs.«01_k».proof.Proof.Gen.SearchIdeal.Value
public import Idealize.ShloMosaic.Lib.Pipeline.ValueKit
public import proofs.«01_k».proof.Proof.Blocks

/-!
# The four output arrays, over the extended reals

With `D r k` the distance of row `r` to code `k` that the body computes from the staged arrays, the one-hot array, the
indices, the counts and the sum of the least distances are the four functions of `D` below.
-/

@[expose] public section

noncomputable section

namespace Cert.SearchIdeal.Gen

open Idealize.ShloMosaic Idealize.ShloMosaic.TcCoe Idealize.SL.Sem Idealize.SL

/-- The distances from the staged arrays: the rows' squared norms, the codes', less the product with the doubled codes. -/
def drow (X : FVec Ideal S16384x64 .f32) (E : FVec Ideal S64x8192 .f32) (s : FVec Ideal S16384x1 .f32)
    (u : FVec Ideal S1x8192 .f32) (r : Fin 16384) (k : Fin 8192) : EReal :=
  (s (ix2 r 0) + u (ix2 0 k)) - ∑ j : Fin 64, X (ix2 r j) * E (ix2 j k)

/-- Row `r` of block `t`. -/
def pt (t : ℕ) (ht : t < 64) (r : Fin 256) : Fin 16384 := ⟨256 * t + r.val, by omega⟩

section dist

variable (x0 : FVec Ideal S256x64 .f32) (x1 : FVec Ideal S64x8192 .f32) (x2 : FVec Ideal S256x1 .f32) (x3 : FVec Ideal S1x8192 .f32)

theorem dist_apply (r : Fin 256) (k : Fin 8192) :
    dist x0 x1 x2 x3 (ix2 r k) = (x2 (ix2 r 0) + x3 (ix2 0 k)) - ∑ j : Fin 64, x0 (ix2 r j) * x1 (ix2 j k) := by
  unfold dist k0_pay1
  simp only [shapeCast_self]
  show (broadcastTo S256x8192 x2 broadcasts_S256x1_S256x8192 (ix2 r k)
      + broadcastTo S256x8192 x3 broadcasts_S1x8192_S256x8192 (ix2 r k))
    - matmul dot_S256x64_S64x8192_S256x8192_1_0_0_1_n_n none x0 x1 (constant S256x8192 .f32 0x00000000#32) (ix2 r k) = _
  congr 1
  · congr 1
    · exact broadcastTo_apply _ _ (ix2 r k) (ix2 r 0) fun a => by fin_cases a <;> rfl
    · exact broadcastTo_apply _ _ (ix2 r k) (ix2 0 k) fun a => by fin_cases a <;> rfl
  · refine (Ideal.matmul_constant_zero_apply _ none x0 x1 (ix2 r k)).trans ?_
    refine (DotDims.sum_contr₁ dot_S256x64_S64x8192_S256x8192_1_0_0_1_n_n (a := 1) rfl (K := 64) rfl _).trans ?_
    refine Finset.sum_congr rfl fun j _ => ?_
    congr 1
    · congr 1; funext a; fin_cases a <;> rfl
    · congr 1; funext a; fin_cases a <;> rfl

/-- The distances of a block are the distances of its rows. -/
theorem row_dist (X : FVec Ideal S16384x64 .f32) (E : FVec Ideal S64x8192 .f32) (s : FVec Ideal S16384x1 .f32)
    (u : FVec Ideal S1x8192 .f32) (r : Fin 256) (R : Fin 16384) (h0 : ∀ j, x0 (ix2 r j) = X (ix2 R j))
    (h1 : ∀ j k, x1 (ix2 j k) = E (ix2 j k)) (h2 : x2 (ix2 r 0) = s (ix2 R 0)) (h3 : ∀ k, x3 (ix2 0 k) = u (ix2 0 k)) :
    row (dist (F := Ideal) x0 x1 x2 x3) r = drow X E s u R := by
  funext k
  show dist (F := Ideal) x0 x1 x2 x3 (ix2 r k) = _
  rw [dist_apply]
  unfold drow
  rw [h2, h3]
  congr 1
  exact Finset.sum_congr rfl fun j _ => by rw [h0, h1]

end dist

/-! ## The four arrays as functions of the distances -/

section arrays

variable (D : Fin 16384 → Fin 8192 → EReal)

/-- The one-hot array of the nearest codes. -/
def encArr : S16384x8192.Idx → EReal := fun i => hot (amin (D (i 0))).val (i 1).val

/-- The nearest codes' numbers, in 64 rows of 256. -/
def idxArr : S64x1x256.Idx → BitVec 32 := fun i =>
  BitVec.ofNat 32 (amin (D ⟨(i 0).val * 256 + (i 2).val, by
    have h0 : (i 0).val < 64 := (i 0).isLt
    have h2 : (i 2).val < 256 := (i 2).isLt
    omega⟩)).val

/-- How many rows each code is nearest to. -/
def cntArr : S1x8192.Idx → EReal := fun i => ∑ r : Fin 16384, hot (amin (D r)).val (i 1).val

/-- The sum of the rows' least distances. -/
def sumArr : S1x1.Idx → EReal := fun _ => ∑ r : Fin 16384, D r (amin (D r))

end arrays

/-! ## The blocks of the run -/

variable (m : (ℓ : Loc nD τ sig) → Buf (Elt Ideal) ℓ) (c : Dev nD)

/-- The distances, from the arrays that the region finds. -/
abbrev kD : Fin 16384 → Fin 8192 → EReal :=
  drow (V m c main_v1) (V m c main_v10) (V m c main_v4) (V m c main_v7)

/-- Row `r` of the block at point `t`. -/
def bpt (t : Fin cfg0.N) (r : Fin 256) : Fin 16384 :=
  ⟨t.val * 256 + r.val, by have := lt_of_lt_of_eq t.isLt N_0; omega⟩

theorem bpt_val (t : Fin cfg0.N) (r : Fin 256) : (bpt t r).val = t.val * 256 + r.val := rfl

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)

theorem iblk0_apply (t : Fin cfg0.N) (r : Fin 256) (j : Fin 64) :
    iblk m c 0 t (ix2 r j) = V m c main_v1 (ix2 (bpt t r) j) := by
  blk_simp [iblk]
  congr 1
  blk_ext [index0, bpt_val]

theorem iblk1_apply (t : Fin cfg0.N) (j : Fin 64) (k : Fin 8192) :
    iblk m c 1 t (ix2 j k) = V m c main_v10 (ix2 j k) := by
  blk_simp [iblk]
  congr 1
  blk_ext [index1]

theorem iblk2_apply (t : Fin cfg0.N) (r : Fin 256) :
    iblk m c 2 t (ix2 r 0) = V m c main_v4 (ix2 (bpt t r) 0) := by
  blk_simp [iblk]
  congr 1
  blk_ext [index2, bpt_val]

theorem iblk3_apply (t : Fin cfg0.N) (k : Fin 8192) :
    iblk m c 3 t (ix2 0 k) = V m c main_v7 (ix2 0 k) := by
  blk_simp [iblk]
  congr 1
  blk_ext [index3]

/-- The distances of the block at point `t`. -/
abbrev bD (t : Fin cfg0.N) : FVec Ideal S256x8192 .f32 :=
  dist (iblk m c 0 t) (iblk m c 1 t) (iblk m c 2 t) (iblk m c 3 t)

theorem row_bD (t : Fin cfg0.N) (r : Fin 256) : row (bD m c t) r = kD m c (bpt t r) :=
  row_dist _ _ _ _ _ _ _ _ r (bpt t r) (iblk0_apply m c t r) (iblk1_apply m c t) (iblk2_apply m c t r) (iblk3_apply m c t)

end Cert.SearchIdeal.Gen
-- ==== Proof.Final.lean ====
module

public import proofs.«01_k».proof.Proof.Arrays

/-!
# What the region leaves in its four result arrays

At every point the body writes the point's own rows of the one-hot array and of the indices; the counts and the sum of
the least distances are carried from point to point and written back after the last.
-/

@[expose] public section

noncomputable section

namespace Cert.SearchIdeal.Gen

open Idealize.ShloMosaic Idealize.ShloMosaic.TcCoe Idealize.SL.Sem Idealize.SL

attribute [local irreducible] rm ri slc minval idxf

variable (m : (ℓ : Loc nD τ sig) → Buf (Elt Ideal) ℓ) (c : Dev nD)

theorem outs4 (t : Fin cfg0.N) : (outsAt0 m c t.val t.isLt).1 = encBlk (col (bD m c t)) := by
  by_cases h0 : t.val % 64 = 0
  · rw [outsAt0_A m c t h0]; dsimp only; rw [out4_A]
  · rw [outsAt0_B m c t h0]; dsimp only; rw [out4_B]

theorem outs5 (t : Fin cfg0.N) : (outsAt0 m c t.val t.isLt).2.1 = k0_pay207 (idxf (bD m c t)) := by
  by_cases h0 : t.val % 64 = 0
  · rw [outsAt0_A m c t h0]; dsimp only; rw [out5_A]
  · rw [outsAt0_B m c t h0]; dsimp only; rw [out5_B]

theorem outs6_A (t : Fin cfg0.N) (h0 : t.val % 64 = 0) :
    (outsAt0 m c t.val t.isLt).2.2.1 = cntBlk (col (bD m c t)) (k0_pay208 (F := Ideal)) := by
  rw [outsAt0_A m c t h0]; dsimp only; rw [out6_A]

theorem outs6_B (t : Fin cfg0.N) (h0 : ¬t.val % 64 = 0) : (outsAt0 m c t.val t.isLt).2.2.1
    = cntBlk (col (bD m c t)) (outsAt0 m c (t.val - 1) (Nat.lt_of_le_of_lt (Nat.sub_le _ _) t.isLt)).2.2.1 := by
  rw [outsAt0_B m c t h0]; dsimp only; rw [out6_B]

theorem outs7_A (t : Fin cfg0.N) (h0 : t.val % 64 = 0) :
    (outsAt0 m c t.val t.isLt).2.2.2 = k0_pay352 (minval (bD m c t)) (k0_pay209 (F := Ideal)) := by
  rw [outsAt0_A m c t h0]; dsimp only; rw [out7_A]

theorem outs7_B (t : Fin cfg0.N) (h0 : ¬t.val % 64 = 0) : (outsAt0 m c t.val t.isLt).2.2.2
    = k0_pay352 (minval (bD m c t)) (outsAt0 m c (t.val - 1) (Nat.lt_of_le_of_lt (Nat.sub_le _ _) t.isLt)).2.2.2 := by
  rw [outsAt0_B m c t h0]; dsimp only; rw [out7_B]

/-! ## The carried blocks after the last point -/

/-- The last point. -/
def tLast : Fin cfg0.N := ⟨63, by rw [show cfg0.N = 64 from N_0]; decide⟩

theorem pay208_apply (i : S1x8192.Idx) : k0_pay208 (F := Ideal) i = 0 := Ideal.ofBits_zero_f32
theorem pay209_apply (i : S1x1.Idx) : k0_pay209 (F := Ideal) i = 0 := Ideal.ofBits_zero_f32

/-- A sum over the points and the rows of their blocks is a sum over all rows. -/
theorem sum_points (f : Fin 16384 → EReal) : ∑ t : Fin cfg0.N, ∑ r : Fin 256, f (bpt t r) = ∑ r : Fin 16384, f r :=
  Fin.sum_mul_add_fin cfg0.N 256 f (by rw [show cfg0.N = 64 from N_0])

theorem outs6_last (k : Fin 8192) : (outsAt0 m c tLast.val tLast.isLt).2.2.1 (ix2 0 k)
    = ∑ r : Fin 16384, hot (amin (kD m c r)).val k.val := by
  refine (Pipeline.eq_sum_fin_of_reset_step_apply_last (N := cfg0.N) (fun n h (k : Fin 8192) => (outsAt0 m c n h).2.2.1 (ix2 0 k))
    64 (fun _ => (0 : EReal)) (fun t k => ∑ r : Fin 256, hot (amin (kD m c (bpt t r))).val k.val) ?_ ?_
    (le_of_eq N_0) tLast N_0.symm k).trans ?_
  · intro t h0 k
    show (outsAt0 m c t.val t.isLt).2.2.1 (ix2 0 k) = _
    rw [outs6_A m c t h0, cntBlk_apply, pay208_apply]
    simp only [row_bD]
  · intro t h0 k
    show (outsAt0 m c t.val t.isLt).2.2.1 (ix2 0 k) = _
    rw [outs6_B m c t h0, cntBlk_apply]
    simp only [row_bD]
  · rw [zero_add]
    exact sum_points fun r => hot (amin (kD m c r)).val k.val

theorem outs7_last (i : S1x1.Idx) : (outsAt0 m c tLast.val tLast.isLt).2.2.2 i
    = ∑ r : Fin 16384, kD m c r (amin (kD m c r)) := by
  obtain ⟨z, w, rfl⟩ : ∃ (z w : Fin 1), i = ix2 z w := ⟨i 0, i 1, eq_ix2 i⟩
  refine (Pipeline.eq_sum_fin_of_reset_step_apply_last (N := cfg0.N) (fun n h (_ : Unit) => (outsAt0 m c n h).2.2.2 (ix2 z w))
    64 (fun _ => (0 : EReal)) (fun t _ => ∑ r : Fin 256, kD m c (bpt t r) (amin (kD m c (bpt t r)))) ?_ ?_
    (le_of_eq N_0) tLast N_0.symm ()).trans ?_
  · intro t h0 _
    show (outsAt0 m c t.val t.isLt).2.2.2 (ix2 z w) = _
    rw [outs7_A m c t h0, pay352_apply, pay209_apply]
    simp only [row_bD]
  · intro t h0 _
    show (outsAt0 m c t.val t.isLt).2.2.2 (ix2 z w) = _
    rw [outs7_B m c t h0, pay352_apply]
    simp only [row_bD]
  · rw [zero_add]
    exact sum_points fun r => kD m c r (amin (kD m c r))

/-! ## The arrays -/

theorem final4 : (dats m 0 c).arrAt 4 cfg0.N = encArr (kD m c) := by
  refine (dats m 0 c).arrAt_eq_of_covers 4 _ (by decide +kernel) fun t hf y => ?_
  blk_simp
  rw [after0_4, outs4]
  obtain ⟨r, k, rfl⟩ : ∃ (r : Fin 256) (k : Fin 8192), y = ix2 r k := ⟨y 0, y 1, eq_ix2 y⟩
  refine (encBlk_apply _ r k).trans ?_
  rw [row_bD]
  have e : (win0_4.blk t).view.emb (ix2 r k) = ix2 (bpt t r) k := by blk_ext [index4, bpt_val]
  rw [e]
  rfl

theorem final5 : (dats m 0 c).arrAt 5 cfg0.N = idxArr (kD m c) := by
  refine (dats m 0 c).arrAt_eq_of_covers 5 _ (by decide +kernel) fun t hf y => ?_
  blk_simp
  rw [after0_5, outs5]
  obtain ⟨z, w, r, rfl⟩ : ∃ (z w : Fin 1) (r : Fin 256), y = ix3 z w r := ⟨y 0, y 1, y 2, eq_ix3 y⟩
  obtain rfl : z = 0 := Subsingleton.elim _ _
  obtain rfl : w = 0 := Subsingleton.elim _ _
  have e : (win0_5.blk t).view.emb (ix3 0 0 r) = ix3 (⟨t.val, lt_of_lt_of_eq t.isLt N_0⟩ : Fin 64) 0 r := by blk_ext [index5]
  rw [pay207_apply, row_bD, e]
  rfl

theorem final6 : (dats m 0 c).arrAt 6 cfg0.N = cntArr (kD m c) := by
  refine (dats m 0 c).arrAt_eq_of_after_last 6 tLast (by decide +kernel) _ fun y => ?_
  blk_simp
  rw [after0_6]
  obtain ⟨z, k, rfl⟩ : ∃ (z : Fin 1) (k : Fin 8192), y = ix2 z k := ⟨y 0, y 1, eq_ix2 y⟩
  obtain rfl : z = 0 := Subsingleton.elim _ _
  exact outs6_last m c k

theorem final7 : (dats m 0 c).arrAt 7 cfg0.N = sumArr (kD m c) := by
  refine (dats m 0 c).arrAt_eq_of_after_last 7 tLast (by decide +kernel) _ fun y => ?_
  blk_simp
  rw [after0_7]
  exact outs7_last m c _

end Cert.SearchIdeal.Gen
-- ==== Proof.RefArg.lean ====
module

public import proofs.«01_k».proof.Proof.RefRun
public import proofs.«01_k».proof.Proof.Lane

/-!
# The reference's argmin, over the extended reals

The reduction folds the pairs of a row's entries and their columns, keeping the lesser entry and, of two equal ones, the
lesser column: its second component is the row's first minimal column.
-/

@[expose] public section

noncomputable section

namespace Cert.SearchReferenceIdeal.Gen

open Idealize.ShloMosaic Idealize.ShloMosaic.TcCoe
open Cert.SearchIdeal.Gen (IsFirstMin amin amin_spec)

/-- Pairs in order: by value, then by column. -/
def pairLe (a b : EReal × BitVec 32) : Prop := a.1 < b.1 ∨ (a.1 = b.1 ∧ a.2.toNat ≤ b.2.toNat)

theorem pairLe.refl (a : EReal × BitVec 32) : pairLe a a := Or.inr ⟨rfl, le_refl _⟩

theorem pairLe.trans {a b d : EReal × BitVec 32} (h : pairLe a b) (h' : pairLe b d) : pairLe a d := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

/-- The reduction's body picks one of its two pairs, and the picked one comes first. -/
theorem reducer_spec (a b : EReal × BitVec 32) (ha : a.2.toNat < 8192) (hb : b.2.toNat < 8192) :
    (reducer_argmin_f32_i32 (F := Ideal) a b = a ∨ reducer_argmin_f32_i32 (F := Ideal) a b = b)
      ∧ pairLe (reducer_argmin_f32_i32 (F := Ideal) a b) a ∧ pairLe (reducer_argmin_f32_i32 (F := Ideal) a b) b := by
  obtain ⟨x, p⟩ := a
  obtain ⟨y, q⟩ := b
  have hs : p.slt q = decide (p.toNat < q.toNat) := by
    dsimp only at ha hb
    rw [BitVec.slt, BitVec.toInt_eq_toNat_of_lt (by omega), BitVec.toInt_eq_toNat_of_lt (by omega)]
    simp
  have e : reducer_argmin_f32_i32 (F := Ideal) (x, p) (y, q)
      = if x < y then (x, p) else if x = y then (if p.toNat < q.toNat then (x, p) else (y, q)) else (y, q) := by
    unfold reducer_argmin_f32_i32
    simp only [Ideal.cmpf_def, Ideal.cmp, IntOp.cmpi, Scalar.select, IntOp.ori, IntOp.andi]
    by_cases h : x < y
    · have hne : x ≠ y := h.ne
      simp [h, hne]
    · by_cases h' : x = y
      · subst h'
        by_cases h'' : p.toNat < q.toNat <;> simp [hs, h'']
      · simp [h, h']
  rw [e]
  dsimp only at ha hb
  split_ifs with h h' h''
  · exact ⟨Or.inl rfl, .refl _, Or.inl h⟩
  · exact ⟨Or.inl rfl, .refl _, Or.inr ⟨h', h''.le⟩⟩
  · exact ⟨Or.inr rfl, Or.inr ⟨h'.symm, not_lt.1 h''⟩, .refl _⟩
  · exact ⟨Or.inr rfl, Or.inl (lt_of_le_of_ne (not_lt.1 h) (Ne.symm h')), .refl _⟩

/-- The fold ends at a pair that comes first of all. -/
theorem foldl_spec (L : List (EReal × BitVec 32)) (hL : ∀ p ∈ L, p.2.toNat < 8192) (a : EReal × BitVec 32)
    (ha : a.2.toNat < 8192) :
    (L.foldl (reducer_argmin_f32_i32 (F := Ideal)) a = a ∨ L.foldl (reducer_argmin_f32_i32 (F := Ideal)) a ∈ L)
      ∧ pairLe (L.foldl (reducer_argmin_f32_i32 (F := Ideal)) a) a
      ∧ ∀ p ∈ L, pairLe (L.foldl (reducer_argmin_f32_i32 (F := Ideal)) a) p := by
  induction L generalizing a with
  | nil => exact ⟨Or.inl rfl, .refl _, fun p hp => absurd hp (List.not_mem_nil)⟩
  | cons b L ih =>
    obtain ⟨hor, hla, hlb⟩ := reducer_spec a b ha (hL b List.mem_cons_self)
    have hb := hL b List.mem_cons_self
    have hr : (reducer_argmin_f32_i32 (F := Ideal) a b).2.toNat < 8192 := by
      rcases hor with h | h <;> rw [h] <;> assumption
    obtain ⟨h1, h2, h3⟩ := ih (fun p hp => hL p (List.mem_cons_of_mem _ hp)) _ hr
    rw [List.foldl_cons]
    refine ⟨?_, h2.trans hla, ?_⟩
    · rcases h1 with h1 | h1
      · rw [h1]
        rcases hor with h | h <;> rw [h]
        · exact Or.inl rfl
        · exact Or.inr List.mem_cons_self
      · exact Or.inr (List.mem_cons_of_mem _ h1)
    · intro p hp
      rcases List.mem_cons.1 hp with rfl | hp
      · exact h2.trans hlb
      · exact h3 p hp

/-- Reducing along the columns keeps the row. -/
theorem drop_row (r : Fin 16384) (k : Fin 8192) : reducesTo_S16384x8192_S16384_d1.drop (ix2 r k) = ix1 r := by
  have h : S16384x8192.Reduces [1] S16384 := by decide
  rw [Shape.ReducesTo.drop_eq_drop reducesTo_S16384x8192_S16384_d1 h]
  have e : h.lift (ix1 r) k = ix2 r k := by funext a; fin_cases a <;> rfl
  rw [← e]
  exact h.drop_lift (ix1 r) k

/-- The pairs folded at a row are its entries with their columns. -/
theorem mem_fiber (d : FVec Ideal S16384x8192 .f32) (r : Fin 16384) (p : EReal × BitVec 32) :
    p ∈ Host.argReduceFiber d (iotaInDim S16384x8192 32 1) reducesTo_S16384x8192_S16384_d1 (ix1 r)
      ↔ ∃ k : Fin 8192, p = (d (ix2 r k), BitVec.ofNat 32 k.val) := by
  have hi : ∀ (r : Fin 16384) (k : Fin 8192), iotaInDim S16384x8192 32 1 (ix2 r k) = BitVec.ofNat 32 k.val := fun r k => rfl
  rw [Host.argReduceFiber, List.mem_map]
  constructor
  · rintro ⟨n, hn, rfl⟩
    have hn := of_decide_eq_true (List.mem_filter.1 hn).2
    generalize S16384x8192.rowMajor.symm n = i at hn ⊢
    obtain ⟨r', k, rfl⟩ : ∃ (r' : Fin 16384) (k : Fin 8192), i = ix2 r' k := ⟨i 0, i 1, eq_ix2 i⟩
    rw [drop_row] at hn
    obtain rfl : r' = r := congrFun hn 0
    exact ⟨k, by rw [hi]⟩
  · rintro ⟨k, rfl⟩
    refine ⟨S16384x8192.rowMajor (ix2 r k), List.mem_filter.2 ⟨List.mem_finRange _, ?_⟩, ?_⟩
    · rw [Equiv.symm_apply_apply, drop_row]
      exact decide_eq_true rfl
    · rw [Equiv.symm_apply_apply, hi]

/-- The fold of a row's pairs, from the pair of the greatest value and column 0, gives the first minimal column. -/
theorem foldl_amin (g : Fin 8192 → EReal) (L : List (EReal × BitVec 32))
    (hmem : ∀ p, p ∈ L ↔ ∃ k : Fin 8192, p = (g k, BitVec.ofNat 32 k.val)) :
    (L.foldl (reducer_argmin_f32_i32 (F := Ideal)) (⊤, 0#32)).2 = BitVec.ofNat 32 (amin g).val := by
  have hlt : ∀ p ∈ L, p.2.toNat < 8192 := by
    intro p hp
    obtain ⟨k, rfl⟩ := (hmem p).1 hp
    have := k.isLt
    simp only [BitVec.toNat_ofNat]
    omega
  obtain ⟨h1, h2, h3⟩ := foldl_spec L hlt (⊤, 0#32) (by decide)
  generalize L.foldl (reducer_argmin_f32_i32 (F := Ideal)) (⊤, 0#32) = z at h1 h2 h3 ⊢
  obtain ⟨k, rfl⟩ : ∃ k : Fin 8192, z = (g k, BitVec.ofNat 32 k.val) := by
    rcases h1 with rfl | h1
    · refine ⟨0, ?_⟩
      rcases h3 _ ((hmem _).2 ⟨0, rfl⟩) with h | ⟨h, -⟩
      · exact absurd h not_top_lt
      · exact Prod.ext h rfl
    · exact (hmem z).1 h1
  have hk : IsFirstMin g k := by
    constructor
    · intro j
      rcases h3 _ ((hmem _).2 ⟨j, rfl⟩) with h | ⟨h, -⟩
      · exact h.le
      · exact h.le
    · intro j hj
      rcases h3 _ ((hmem _).2 ⟨j, rfl⟩) with h | ⟨-, h⟩
      · exact h
      · have h1 := k.isLt
        have h2 := j.isLt
        have h3 : j.val < k.val := hj
        simp only [BitVec.toNat_ofNat] at h
        omega
  rw [hk.unique (amin_spec g)]

theorem top_f32 : Ideal.ofBits .f32 0x7F800000#32 = (⊤ : EReal) := by simp [Ideal.ofBits, Ideal.ieee]

section fold

variable {s t u : Shape} {axes : List (Fin s.rank)} (h : s.ReducesTo axes t) (hu : 0 < u.numel)

/-- The index that the reduction gives at `j`, when the pairs it folds there are a row's entries with their columns. -/
theorem argReduce_amin (x : FVec Ideal s .f32) (y : IVec s 32) (ix : FVec Ideal u .f32) (iy : IVec u 32)
    (hx : ∀ i, ix i = (⊤ : EReal)) (hy : ∀ i, iy i = 0#32) (j : t.Idx) (g : Fin 8192 → EReal)
    (hmem : ∀ p, p ∈ Host.argReduceFiber x y h j ↔ ∃ k : Fin 8192, p = (g k, BitVec.ofNat 32 k.val)) :
    (Host.argReduce reducer_argmin_f32_i32 x y ix iy h hu j).2 = BitVec.ofNat 32 (amin g).val := by
  rw [Ideal.argReduce_eq_reduce2, Host.reduce2_eq_foldl_fiber, hx, hy]
  exact foldl_amin g _ hmem

end fold

theorem ridx_fun (d : FVec Ideal S16384x8192 .f32) : ridx d = fun j =>
    (Host.argReduce reducer_argmin_f32_i32 d (iotaInDim S16384x8192 32 1) (constant S_ .f32 0x7F800000#32)
      (constantI S_ 32 0#32) reducesTo_S16384x8192_S16384_d1 h_S_ j).2 := rfl

theorem top_const (i : S_.Idx) : (constant S_ .f32 0x7F800000#32 : FVec Ideal S_ .f32) i = (⊤ : EReal) := top_f32
theorem zero_const (i : S_.Idx) : (constantI S_ 32 0#32 : IVec S_ 32) i = 0#32 := rfl

/-- The reference's index of a row is the row's first minimal column. -/
theorem ridx_apply (d : FVec Ideal S16384x8192 .f32) (r : Fin 16384) :
    ridx d (ix1 r) = BitVec.ofNat 32 (amin fun k => d (ix2 r k)).val := by
  rw [ridx_fun]
  exact argReduce_amin reducesTo_S16384x8192_S16384_d1 h_S_ d (iotaInDim S16384x8192 32 1) (constant S_ .f32 0x7F800000#32)
    (constantI S_ 32 0#32) top_const zero_const (ix1 r) (fun k => d (ix2 r k)) (mem_fiber d r)

end Cert.SearchReferenceIdeal.Gen
-- ==== Proof.RefVals.lean ====
module

public import proofs.«01_k».proof.Proof.RefArg
public import proofs.«01_k».proof.Proof.Blocks
public import Idealize.ShloMosaic.Lib.Pointwise.Contract

/-!
# The reference's results, over the extended reals

The reference's distances are the body's; its one-hot rows, its counts and its indices follow from the rows' first minimal
columns, and, the inputs being finite, the sum of the squared differences is the sum of the rows' least distances.
-/

@[expose] public section

noncomputable section

namespace Cert.SearchReferenceIdeal.Gen

open Idealize.ShloMosaic Idealize.ShloMosaic.TcCoe
open Cert.SearchIdeal.Gen (IsFirstMin amin amin_spec hot)

variable (x : FVec Ideal S16x64x32x32 .f32) (e : FVec Ideal S8192x64 .f32)

/-- The squared distances, the codes doubled before the product. -/
def kdist (r : Fin 16384) (k : Fin 8192) : EReal :=
  (sq x (ix1 r) + sqe e (ix1 k)) - ∑ j : Fin 64, flat x (ix2 r j) * (e (ix2 k j) * 2)

theorem two_f32 : Ideal.ofBits .f32 0x40000000#32 = (2 : EReal) :=
  (Cert.SearchIdeal.Gen.ofBits_nat _ 2 (by decide) (by decide) (by decide) (by decide)).trans (by norm_cast)

theorem zero_first : (constant S_ .f32 0x00000000#32 : FVec Ideal S_ .f32) (Shape.Idx.first h_S_) = (0 : EReal) :=
  Ideal.ofBits_zero_f32

theorem two_mul_sum {n : ℕ} (f : Fin n → EReal) : (2 : EReal) * ∑ j, f j = ∑ j, 2 * f j := by
  have h2 : (0 : EReal) ≤ 2 := by norm_num
  have ht : (2 : EReal) ≠ ⊤ := by exact EReal.coe_ne_top 2
  induction n with
  | zero => simp
  | succ n ih => rw [Fin.sum_univ_succ, Fin.sum_univ_succ, EReal.left_distrib_of_nonneg_of_ne_top h2 ht, ih]

theorem rdist_apply (r : Fin 16384) (k : Fin 8192) : rdist x e (ix2 r k) = kdist x e r k := by
  show ((broadcastInDim S16384x8192 ![0, 1] bcast_S16384x1_S16384x8192_0_1
        (broadcastInDim S16384x1 ![0] bcast_S16384_S16384x1_0 (sq x))) (ix2 r k)
      + (broadcastInDim S16384x8192 ![0, 1] bcast_S1x8192_S16384x8192_0_1
        (broadcastInDim S1x8192 ![1] bcast_S8192_S1x8192_1 (sqe e))) (ix2 r k))
    - (Ideal.ofBits .f32 0x40000000#32 * (Host.dotGeneral dot_S16384x64_S64x8192_S16384x8192_1_0_0_1_n_n none (flat x)
        (transpose S64x8192 [1, 0] e transposes_S8192x64_S64x8192_1_0)) (ix2 r k)) = _
  unfold kdist
  refine congrArg₂ (fun a b : EReal => a - b) (congrArg₂ (fun a b : EReal => a + b) ?_ ?_) ?_
  · refine (broadcastInDim_apply _ _ _ (ix2 r k) (ix2 r 0) fun a => by fin_cases a <;> rfl).trans ?_
    exact broadcastInDim_apply _ _ _ (ix2 r 0) (ix1 r) fun a => by fin_cases a <;> rfl
  · refine (broadcastInDim_apply _ _ _ (ix2 r k) (ix2 0 k) fun a => by fin_cases a <;> rfl).trans ?_
    exact broadcastInDim_apply _ _ _ (ix2 0 k) (ix1 k) fun a => by fin_cases a <;> rfl
  · rw [two_f32]
    have h : (Host.dotGeneral dot_S16384x64_S64x8192_S16384x8192_1_0_0_1_n_n none (flat x)
        (transpose S64x8192 [1, 0] e transposes_S8192x64_S64x8192_1_0)) (ix2 r k)
        = ∑ j : Fin 64, flat x (ix2 r j) * e (ix2 k j) := by
      simp only [Host.dotGeneral]
      refine (Ideal.dotGeneral_apply ..).trans ?_
      refine (DotDims.sum_contr₁ dot_S16384x64_S64x8192_S16384x8192_1_0_0_1_n_n (a := 1) rfl (K := 64) rfl _).trans ?_
      refine Finset.sum_congr rfl fun j _ => ?_
      refine congrArg₂ (fun a b : EReal => a * b) ?_ ?_
      · congr 1; funext a; fin_cases a <;> rfl
      · exact transpose_apply _ _ _ _ (ix2 k j) fun b => by fin_cases b <;> rfl
    rw [h, two_mul_sum]
    exact Finset.sum_congr rfl fun j _ => by rw [mul_comm, mul_assoc]

/-- The nearest code of a row. -/
abbrev near (r : Fin 16384) : Fin 8192 := amin (kdist x e r)

theorem ridx_near (r : Fin 16384) : ridx (rdist x e) (ix1 r) = BitVec.ofNat 32 (near x e r).val := by
  rw [ridx_apply]
  simp only [rdist_apply]

theorem ofNat_eq_iff (a b : Fin 8192) : BitVec.ofNat 32 a.val = BitVec.ofNat 32 b.val ↔ a.val = b.val := by
  constructor
  · intro h
    have h := congrArg BitVec.toNat h
    have ha := a.isLt
    have hb := b.isLt
    simp only [BitVec.toNat_ofNat] at h
    omega
  · intro h; rw [h]

theorem renc_apply (n : IVec S16384 32) (r : Fin 16384) (q k : Fin 8192) (h : n (ix1 r) = BitVec.ofNat 32 q.val) :
    renc (F := Ideal) n (ix2 r k) = hot q.val k.val := by
  have h1 : (broadcastInDim S16384x8192 ![0, 1] bcast_S16384x1_S16384x8192_0_1
      (broadcastInDim S16384x1 ![0] bcast_S16384_S16384x1_0 n)) (ix2 r k) = BitVec.ofNat 32 q.val := by
    refine (broadcastInDim_apply _ _ _ (ix2 r k) (ix2 r 0) fun a => by fin_cases a <;> rfl).trans ?_
    exact (broadcastInDim_apply _ _ _ (ix2 r 0) (ix1 r) fun a => by fin_cases a <;> rfl).trans h
  have h2 : (broadcastInDim S16384x8192 ![0, 1] bcast_S1x8192_S16384x8192_0_1 (iotaInDim S1x8192 32 1)) (ix2 r k)
      = BitVec.ofNat 32 k.val :=
    (broadcastInDim_apply _ _ _ (ix2 r k) (ix2 0 k) fun a => by fin_cases a <;> rfl).trans rfl
  have h3 : renc (F := Ideal) n (ix2 r k)
      = (((IntOp.cmpi .eq (BitVec.ofNat 32 q.val) (BitVec.ofNat 32 k.val)).toNat : ℝ) : EReal) := by
    rw [← h1, ← h2]; rfl
  rw [h3]
  unfold hot IntOp.cmpi
  by_cases hq : q.val = k.val
  · rw [if_pos hq, (ofNat_eq_iff q k).2 hq]; simp
  · rw [if_neg hq]
    have : ¬BitVec.ofNat 32 q.val = BitVec.ofNat 32 k.val := fun h => hq ((ofNat_eq_iff q k).1 h)
    simp [beq_eq_false_iff_ne.2 this]

theorem renc_near (r : Fin 16384) (k : Fin 8192) :
    renc (F := Ideal) (ridx (rdist x e)) (ix2 r k) = hot (near x e r).val k.val := renc_apply _ r _ k (ridx_near x e r)

theorem rcnt_apply (h : FVec Ideal S16384x8192 .f32) (z : Fin 1) (k : Fin 8192) :
    rcnt h (ix2 z k) = ∑ r : Fin 16384, h (ix2 r k) := by
  unfold rcnt
  refine (shapeCast_apply _ _ (ix2 z k) (ix1 k) ?_).trans ?_
  · rw [Shape.rowMajor_val_one, Shape.rowMajor_val_two]
    show k.val = z.val * 8192 + k.val
    omega
  · refine (Ideal.hostReduceAdd_single reducesTo_S16384x8192_S8192_d0 (by decide) h _ (ix1 k)).trans ?_
    rw [zero_first, zero_add]
    refine Finset.sum_congr rfl fun r _ => ?_
    congr 1; funext a; fin_cases a <;> rfl

/-! ## The sum of the squared differences -/

theorem sq_apply (r : Fin 16384) : sq x (ix1 r) = ∑ j : Fin 64, flat x (ix2 r j) * flat x (ix2 r j) := by
  unfold sq
  refine (Ideal.hostReduceAdd_single reducesTo_S16384x64_S16384_d1 (by decide) _ _ (ix1 r)).trans ?_
  rw [zero_first, zero_add]
  refine Finset.sum_congr rfl fun j _ => ?_
  generalize flat x = y
  have h : ∀ h : S16384x64.Reduces [1] S16384, h.lift (ix1 r) j = ix2 r j := fun h => by
    funext a; fin_cases a <;> rfl
  rw [h]; rfl

theorem sqe_apply (k : Fin 8192) : sqe e (ix1 k) = ∑ j : Fin 64, e (ix2 k j) * e (ix2 k j) := by
  unfold sqe
  refine (Ideal.hostReduceAdd_single reducesTo_S8192x64_S8192_d1 (by decide) _ _ (ix1 k)).trans ?_
  rw [zero_first, zero_add]
  refine Finset.sum_congr rfl fun j _ => ?_
  have h : ∀ h : S8192x64.Reduces [1] S8192, h.lift (ix1 k) j = ix2 k j := fun h => by
    funext a; fin_cases a <;> rfl
  rw [h]; rfl

theorem coe_sum {n : ℕ} (f : Fin n → ℝ) : ((∑ j, f j : ℝ) : EReal) = ∑ j, (f j : EReal) := by
  induction n with
  | zero => simp
  | succ n ih => rw [Fin.sum_univ_succ, Fin.sum_univ_succ, EReal.coe_add, ih]

/-- The squared distance of two finite rows, expanded. -/
theorem sum_sq_sub {n : ℕ} (a b : Fin n → ℝ) :
    ∑ j, ((b j : EReal) - a j) * ((b j : EReal) - a j)
      = ((∑ j, (a j : EReal) * a j) + ∑ j, (b j : EReal) * b j) - ∑ j, (a j : EReal) * (b j * 2) := by
  have e2 : (2 : EReal) = ((2 : ℝ) : EReal) := by norm_cast
  rw [e2]
  simp only [← EReal.coe_sub, ← EReal.coe_mul, ← coe_sum, ← EReal.coe_add]
  congr 1
  rw [← Finset.sum_add_distrib, ← Finset.sum_sub_distrib]
  exact Finset.sum_congr rfl fun j _ => by ring

theorem sum_hot_mul (q : Fin 8192) (f : Fin 8192 → EReal) : ∑ k : Fin 8192, hot q.val k.val * f k = f q := by
  rw [Finset.sum_eq_single q]
  · unfold hot; rw [if_pos rfl, one_mul]
  · intro k _ hk
    unfold hot
    rw [if_neg fun h => hk (Fin.ext h.symm), zero_mul]
  · intro h; exact absurd (Finset.mem_univ q) h

/-- The chosen codes, as the product of the one-hot rows with the codes. -/
theorem quant_apply (h : FVec Ideal S16384x8192 .f32) (q : Fin 16384 → Fin 8192)
    (hh : ∀ r k, h (ix2 r k) = hot (q r).val k.val) (r : Fin 16384) (c : Fin 64) :
    Host.dotGeneral dot_S16384x8192_S8192x64_S16384x64_1_0_0_1_n_n none h e (ix2 r c) = e (ix2 (q r) c) := by
  simp only [Host.dotGeneral]
  refine (Ideal.dotGeneral_apply ..).trans ?_
  refine (DotDims.sum_contr₁ dot_S16384x8192_S8192x64_S16384x64_1_0_0_1_n_n (a := 1) rfl (K := 8192) rfl _).trans ?_
  refine Eq.trans ?_ (sum_hot_mul (q r) fun k => e (ix2 k c))
  refine Finset.sum_congr rfl fun k _ => ?_
  refine congrArg₂ (fun a b : EReal => a * b) ?_ ?_
  · rw [← hh]; congr 1; funext a; fin_cases a <;> rfl
  · congr 1; funext a; fin_cases a <;> rfl

theorem nhwc_eq (i : S16x32x32x64.Idx) :
    nhwc x i = flat x (Shape.reshapeEquiv shapeCasts_S16384x64_S16x32x32x64 i) := by
  unfold flat shapeCast
  rw [Shape.reshapeEquiv_reshapeEquiv, Shape.reshapeEquiv_self]

/-- The squared difference of two arrays' entries. -/
def sqd (u v : FVec Ideal S16384x64 .f32) (j : S16384x64.Idx) : EReal := (u j - v j) * (u j - v j)

/-- A sum over a reshaped array's indices is the sum over the array's rows and columns. -/
theorem sum_reshape (f : S16384x64.Idx → EReal) (h : S16384x64.ShapeCasts S16x32x32x64) :
    ∑ i : S16x32x32x64.Idx, f (Shape.reshapeEquiv h i) = ∑ r : Fin 16384, ∑ j : Fin 64, f (ix2 r j) :=
  (Equiv.sum_comp (Shape.reshapeEquiv h) f).trans (sum_idx2 f)

/-- The sum of the squared differences is the sum of the rows' squared distances to the chosen codes. -/
theorem rsum_apply (h : FVec Ideal S16384x8192 .f32) (q : Fin 16384 → Fin 8192)
    (hh : ∀ r k, h (ix2 r k) = hot (q r).val k.val) (i : S1x1.Idx) :
    rsum (nhwc x) e h i = ∑ r : Fin 16384, ∑ j : Fin 64,
      (e (ix2 (q r) j) - flat x (ix2 r j)) * (e (ix2 (q r) j) - flat x (ix2 r j)) := by
  unfold rsum shapeCast
  refine (Ideal.hostReduceAdd_total reducesTo_S16x32x32x64_S_d0_1_2_3 (fun b => b.elim0) _ _ _).trans ?_
  rw [zero_first, zero_add]
  have hd : ∀ i, mulf (rdiff (nhwc x) e h) (rdiff (nhwc x) e h) i
      = sqd (Host.dotGeneral dot_S16384x8192_S8192x64_S16384x64_1_0_0_1_n_n none h e) (flat x)
        (Shape.reshapeEquiv shapeCasts_S16384x64_S16x32x32x64 i) := fun i => by
    have : rdiff (nhwc x) e h i = (Host.dotGeneral dot_S16384x8192_S8192x64_S16384x64_1_0_0_1_n_n none h e
        (Shape.reshapeEquiv shapeCasts_S16384x64_S16x32x32x64 i)
          - flat x (Shape.reshapeEquiv shapeCasts_S16384x64_S16x32x32x64 i) : EReal) := by
      rw [← nhwc_eq]; rfl
    show (rdiff (nhwc x) e h i * rdiff (nhwc x) e h i : EReal) = _
    rw [this]; rfl
  refine (Finset.sum_congr rfl fun i _ => hd i).trans ((sum_reshape _ _).trans ?_)
  refine Finset.sum_congr rfl fun r _ => Finset.sum_congr rfl fun j _ => ?_
  unfold sqd
  rw [quant_apply e h q hh]

/-- Finite arrays: every entry is a real number. -/
def IsFin {s : Shape} (y : FVec Ideal s .f32) : Prop := ∀ i, ∃ a : ℝ, y i = (a : EReal)

theorem flat_fin (hx : IsFin x) : IsFin (flat x) := fun _ => hx _

/-- The inputs finite, the reference's sum is the sum of the rows' least distances. -/
theorem rsum_near (hx : IsFin x) (he : IsFin e) (i : S1x1.Idx) :
    rsum (nhwc x) e (renc (ridx (rdist x e))) i = ∑ r : Fin 16384, kdist x e r (near x e r) := by
  rw [rsum_apply x e _ (near x e) (renc_near x e)]
  refine Finset.sum_congr rfl fun r _ => ?_
  generalize near x e r = k
  choose a ha using fun j : Fin 64 => flat_fin x hx (ix2 r j)
  choose b hb using fun j : Fin 64 => he (ix2 k j)
  unfold kdist
  rw [sq_apply, sqe_apply]
  simp only [ha, hb]
  exact sum_sq_sub a b

end Cert.SearchReferenceIdeal.Gen
-- ==== Proof.Entry.lean ====
module

public import proofs.«01_k».proof.Proof.Final
public import proofs.«01_k».proof.Proof.RefVals

/-!
# The arrays that the region finds

The host operations before the call give the rows, the two arrays of squared norms and the doubled codes: the distances
computed from them are the reference's.
-/

@[expose] public section

noncomputable section

namespace Cert.SearchIdeal.Gen

open Idealize.ShloMosaic Idealize.ShloMosaic.TcCoe Idealize.ShloMosaic.StableHlo Idealize.SL.Sem Idealize.SL
open Cert.SearchReferenceIdeal.Gen (flat sq sqe kdist two_f32)

variable (m : (ℓ : Loc nD τ sig) → Buf (Elt Ideal) ℓ) (c : Dev nD)

/-- The input's contents. -/
abbrev aX : FVec Ideal S16x64x32x32 .f32 := m ((c : Thread nD τ).loc main_arg0)

/-- The codes' contents. -/
abbrev aE : FVec Ideal S8192x64 .f32 := m ((c : Thread nD τ).loc main_arg1)

theorem V_v1 : V m c main_v1 = flat (aX m c) := by
  unfold V
  after_results_simp
  rfl

theorem V_v4 : V m c main_v4 = broadcastInDim S16384x1 ![0] bcast_S16384_S16384x1_0 (sq (aX m c)) := by
  unfold V
  after_results_simp
  rfl

theorem V_v7 : V m c main_v7 = shapeCast S1x8192 (sqe (aE m c)) shapeCasts_S8192_S1x8192 := by
  unfold V
  after_results_simp
  rfl

theorem V_v10 : V m c main_v10 = (mulf (transpose S64x8192 [1, 0] (aE m c) transposes_S8192x64_S64x8192_1_0)
    (broadcastInDim S64x8192 ![] bcast_S_S64x8192 (constant S_ .f32 0x40000000#32)) : FVec Ideal S64x8192 .f32) := by
  unfold V
  after_results_simp

theorem v4_apply (a : FVec Ideal S16384 .f32) (r : Fin 16384) :
    broadcastInDim S16384x1 ![0] bcast_S16384_S16384x1_0 a (ix2 r 0) = a (ix1 r) :=
  broadcastInDim_apply _ _ _ (ix2 r 0) (ix1 r) fun a => by fin_cases a <;> rfl

theorem v7_apply (a : FVec Ideal S8192 .f32) (k : Fin 8192) :
    shapeCast S1x8192 a shapeCasts_S8192_S1x8192 (ix2 0 k) = a (ix1 k) := by
  refine shapeCast_apply _ _ (ix2 0 k) (ix1 k) ?_
  rw [Shape.rowMajor_val_one, Shape.rowMajor_val_two]
  show k.val = 0 * 8192 + k.val
  omega

theorem v10_apply (e : FVec Ideal S8192x64 .f32) (j : Fin 64) (k : Fin 8192) :
    (mulf (transpose S64x8192 [1, 0] e transposes_S8192x64_S64x8192_1_0)
      (broadcastInDim S64x8192 ![] bcast_S_S64x8192 (constant S_ .f32 0x40000000#32)) : FVec Ideal S64x8192 .f32) (ix2 j k)
      = (e (ix2 k j) * 2 : EReal) := by
  refine congrArg₂ (fun a b : EReal => a * b) ?_ two_f32
  exact transpose_apply _ _ _ _ (ix2 k j) fun b => by fin_cases b <;> rfl

/-- Two differences with the same first term and equal terms in their sums are equal. -/
theorem sub_sum_congr {n : ℕ} (a : EReal) {f g : Fin n → EReal} (h : ∀ j, f j = g j) :
    a - ∑ j, f j = a - ∑ j, g j := by
  rw [Finset.sum_congr rfl fun j _ => h j]

theorem kD_eq : kD m c = kdist (aX m c) (aE m c) := by
  funext r k
  unfold kD drow kdist
  rw [V_v1, V_v4, V_v7, V_v10, v4_apply, v7_apply]
  refine sub_sum_congr _ fun j => ?_
  exact congrArg (fun b : EReal => flat (aX m c) (ix2 r j) * b) (v10_apply (aE m c) j k)

end Cert.SearchIdeal.Gen
-- ==== Proof.Results.lean ====
module

public import proofs.«01_k».proof.Proof.Arrays
public import proofs.«01_k».proof.Proof.RefVals

/-!
# The reference's results are the kernel's four arrays

Each of the reference's results is the function of the distances that the call leaves in the corresponding array.
-/

@[expose] public section

noncomputable section

namespace Cert.SearchReferenceIdeal.Gen

open Idealize.ShloMosaic Idealize.ShloMosaic.TcCoe
open Cert.SearchIdeal.Gen (amin hot encArr idxArr cntArr sumArr)

variable (x : FVec Ideal S16x64x32x32 .f32) (e : FVec Ideal S8192x64 .f32)

theorem renc_eq : renc (F := Ideal) (ridx (rdist x e)) = encArr (kdist x e) := by
  funext i
  obtain ⟨r, k, rfl⟩ : ∃ (r : Fin 16384) (k : Fin 8192), i = ix2 r k := ⟨i 0, i 1, eq_ix2 i⟩
  exact renc_near x e r k

theorem rcnt_eq : rcnt (F := Ideal) (renc (ridx (rdist x e))) = cntArr (kdist x e) := by
  funext i
  obtain ⟨z, k, rfl⟩ : ∃ (z : Fin 1) (k : Fin 8192), i = ix2 z k := ⟨i 0, i 1, eq_ix2 i⟩
  rw [rcnt_apply]
  simp only [renc_near]
  rfl

theorem ridx_eq : shapeCast S64x1x256 (ridx (rdist x e)) shapeCasts_S16384_S64x1x256 = idxArr (kdist x e) := by
  funext i
  obtain ⟨a, z, b, rfl⟩ : ∃ (a : Fin 64) (z : Fin 1) (b : Fin 256), i = ix3 a z b := ⟨i 0, i 1, i 2, eq_ix3 i⟩
  refine (shapeCast_apply _ _ (ix3 a z b) (ix1 (⟨a.val * 256 + b.val, by omega⟩ : Fin 16384)) ?_).trans ?_
  · rw [Shape.rowMajor_val_one, Shape.rowMajor_val_three]
    show a.val * 256 + b.val = (a.val * 1 + z.val) * 256 + b.val
    omega
  · rw [ridx_near]
    rfl

theorem rsum_eq (hx : IsFin x) (he : IsFin e) :
    rsum (nhwc x) e (renc (ridx (rdist x e))) = sumArr (kdist x e) :=
  funext fun i => rsum_near x e hx he i

end Cert.SearchReferenceIdeal.Gen
-- ==== Proof.Finite.lean ====
module

public import proofs.«01_k».proof.Proof.RefVals
public import proofs.«01_k».proof.Proof.Gen.Pre_finite
public import Idealize.ShloMosaic.Lib.ReduceAll

/-!
# The precondition, read entry by entry

The predicate is all ones exactly when every entry's absolute value is below infinity: every entry is then a real number.
-/

@[expose] public section

noncomputable section

namespace Cert.SearchReferenceIdeal.Gen

open Idealize.ShloMosaic Idealize.ShloMosaic.TcCoe

theorem real_of_abs_lt (a : EReal) (h : Ideal.cmp .olt (max a (-a)) (⊤ : EReal) = 1#1) : ∃ r : ℝ, a = (r : EReal) := by
  have h : max a (-a) < ⊤ := by
    unfold Ideal.cmp at h
    by_contra hn
    simp [hn] at h
  induction a using EReal.rec with
  | bot => simp at h
  | coe r => exact ⟨r, rfl⟩
  | top => simp at h

theorem finite_spec (x : FVec Ideal Cert.Pre_finite.S16x64x32x32 .f32) (e : FVec Ideal Cert.Pre_finite.S8192x64 .f32)
    (h : Cert.Pre_finite.fn (F := Ideal) x e = fun _ => 1#1) : IsFin x ∧ IsFin e := by
  have h0 := congrFun h (fun a => a.elim0)
  unfold Cert.Pre_finite.fn at h0
  obtain ⟨h1, h2⟩ := IntOp.andi_eq_one.1 h0
  haveI : Subsingleton Cert.Pre_finite.S_.Idx := ⟨fun a b => funext fun i => i.elim0⟩
  constructor
  · intro i
    have := Host.reduce_andi_all _ _ _ _ _ h1 i
    refine real_of_abs_lt (x i) ?_
    rw [← top_f32]
    exact this
  · intro i
    have := Host.reduce_andi_all _ _ _ _ _ h2 i
    refine real_of_abs_lt (e i) ?_
    rw [← top_f32]
    exact this

end Cert.SearchReferenceIdeal.Gen
-- ==== Proof.RefWhole.lean ====
module

public import proofs.«01_k».proof.Proof.Gen.ReferenceIdeal
public import proofs.«01_k».proof.Proof.RefRun

/-!
# The whole reference's run

As the search's reference, whose named functions its results are stated by, and further to the loss, the quantized output and the
perplexity.
-/

@[expose] public section

noncomputable section

namespace Cert.ReferenceIdeal.Gen

open Cert.ReferenceIdeal
open Idealize.ShloMosaic Idealize.ShloMosaic.TcCoe Idealize.ShloMosaic.StableHlo Idealize.SL.Sem
open Cert.SearchReferenceIdeal.Gen (nhwc rdist ridx renc rdiff)

variable {F : FTy → Type} [FloatOps F]

/-- The total of the squared differences. -/
def tot (d : FVec F S16x32x32x64 .f32) : FVec F S_ .f32 :=
  Host.reduceAdd (mulf d d) (constant S_ .f32 0x00000000#32) reducesTo_S16x32x32x64_S_d0_1_2_3 h_S_

/-- The loss of a total of squared differences: a quarter of their mean. -/
def lossOf (t : FVec F S_ .f32) : FVec F S_ .f32 :=
  mulf (constant S_ .f32 0x3E800000#32) (Host.divf t (constant S_ .f32 0x49800000#32))

/-- How often each code is chosen. -/
def cnt (h : FVec F S16384x8192 .f32) : FVec F S8192 .f32 :=
  Host.reduceAdd h (constant S_ .f32 0x00000000#32) reducesTo_S16384x8192_S8192_d0 h_S_

/-- The codes' frequencies. -/
def freq (n : FVec F S8192 .f32) : FVec F S8192 .f32 :=
  Host.divf n (broadcastInDim S8192 ![] bcast_S_S8192 (constant S_ .f32 0x46800000#32))

/-- The perplexity of the codes' counts. -/
def perpOf (n : FVec F S8192 .f32) : FVec F S_ .f32 :=
  Host.exp (Host.negf (Host.reduceAdd
    (mulf (freq n) (Host.log (addf (freq n) (broadcastInDim S8192 ![] bcast_S_S8192 (constant S_ .f32 0x2EDBE6FF#32)))))
    (constant S_ .f32 0x00000000#32) reducesTo_S8192_S_d0 h_S_))

/-- The quantized output, channels first, from the input, channels last, and the differences. -/
def outOf (x d : FVec F S16x32x32x64 .f32) : FVec F S16x64x32x32 .f32 :=
  transpose S16x64x32x32 [0, 3, 1, 2] (addf x d) transposes_S16x32x32x64_S16x64x32x32_0_3_1_2

/-- @main's operations: the distances. -/
abbrev opsA : List (HloOp τ sig (Elt F)) :=
  [ unary main_arg0 main_v0 ((transpose S16x32x32x64 [0, 2, 3, 1] · transposes_S16x64x32x32_S16x32x32x64_0_2_3_1) : (⟨S16x64x32x32, .f32⟩ : BufTy).Contents (Elt F) → (⟨S16x32x32x64, .f32⟩ : BufTy).Contents (Elt F)),
    reshape main_v0 main_v1 (rfl : (.f32 : EltTy) = .f32) shapeCasts_S16x32x32x64_S16384x64,
    binary main_v1 main_v1 main_v2 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v2 main_cst main_v3 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v3 main_v4 (broadcastInDim S16384x1 ![0] bcast_S16384_S16384x1_0 : (⟨S16384, .f32⟩ : BufTy).Contents (Elt F) → (⟨S16384x1, .f32⟩ : BufTy).Contents (Elt F)),
    binary main_arg1 main_arg1 main_v5 (mulf : (⟨S8192x64, .f32⟩ : BufTy).Contents (Elt F) → (⟨S8192x64, .f32⟩ : BufTy).Contents (Elt F) → (⟨S8192x64, .f32⟩ : BufTy).Contents (Elt F)),
    nullary main_cst_0 (constant S_ .f32 0x00000000#32),
    binary main_v5 main_cst_0 main_v6 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v6 main_v7 (broadcastInDim S1x8192 ![1] bcast_S8192_S1x8192_1 : (⟨S8192, .f32⟩ : BufTy).Contents (Elt F) → (⟨S1x8192, .f32⟩ : BufTy).Contents (Elt F)),
    unary main_v4 main_v8 (broadcastInDim S16384x8192 ![0, 1] bcast_S16384x1_S16384x8192_0_1 : (⟨S16384x1, .f32⟩ : BufTy).Contents (Elt F) → (⟨S16384x8192, .f32⟩ : BufTy).Contents (Elt F)),
    unary main_v7 main_v9 (broadcastInDim S16384x8192 ![0, 1] bcast_S1x8192_S16384x8192_0_1 : (⟨S1x8192, .f32⟩ : BufTy).Contents (Elt F) → (⟨S16384x8192, .f32⟩ : BufTy).Contents (Elt F)),
    binary main_v8 main_v9 main_v10 (addf : (⟨S16384x8192, .f32⟩ : BufTy).Contents (Elt F) → (⟨S16384x8192, .f32⟩ : BufTy).Contents (Elt F) → (⟨S16384x8192, .f32⟩ : BufTy).Contents (Elt F)),
    unary main_arg1 main_v11 ((transpose S64x8192 [1, 0] · transposes_S8192x64_S64x8192_1_0) : (⟨S8192x64, .f32⟩ : BufTy).Contents (Elt F) → (⟨S64x8192, .f32⟩ : BufTy).Contents (Elt F)),
    binary main_v1 main_v11 main_v12 ((fun l r => Host.dotGeneral dot_S16384x64_S64x8192_S16384x8192_1_0_0_1_n_n none l r) : (⟨S16384x64, .f32⟩ : BufTy).Contents (Elt F) → (⟨S64x8192, .f32⟩ : BufTy).Contents (Elt F) → (⟨S16384x8192, .f32⟩ : BufTy).Contents (Elt F)),
    nullary main_cst_1 (constant S_ .f32 0x40000000#32),
    unary main_cst_1 main_v13 (broadcastInDim S16384x8192 ![] bcast_S_S16384x8192 : (⟨S_, .f32⟩ : BufTy).Contents (Elt F) → (⟨S16384x8192, .f32⟩ : BufTy).Contents (Elt F)),
    binary main_v13 main_v12 main_v14 (mulf : (⟨S16384x8192, .f32⟩ : BufTy).Contents (Elt F) → (⟨S16384x8192, .f32⟩ : BufTy).Contents (Elt F) → (⟨S16384x8192, .f32⟩ : BufTy).Contents (Elt F)),
    binary main_v10 main_v14 main_v15 (subf : (⟨S16384x8192, .f32⟩ : BufTy).Contents (Elt F) → (⟨S16384x8192, .f32⟩ : BufTy).Contents (Elt F) → (⟨S16384x8192, .f32⟩ : BufTy).Contents (Elt F)) ]

/-- @main's operations: the index of the least, its function's operations. -/
abbrev opsB : List (HloOp τ sig (Elt F)) :=
  [ TRef.nullary main_call0.v0 (iotaInDim S16384x8192 32 1),
    TRef.nullary main_call0.cst (constant S_ .f32 0x7F800000#32),
    TRef.nullary main_call0.c (constantI S_ 32 0#32),
    TRef.quaternary (TRef.of main_v15 : TRef sig ⟨S16384x8192, .f32⟩) main_call0.v0 main_call0.cst main_call0.c main_call0.v1_0 (fun x y u v j => (Host.argReduce reducer_argmin_f32_i32 x y u v reducesTo_S16384x8192_S16384_d1 h_S_ j).1),
    TRef.quaternary (TRef.of main_v15 : TRef sig ⟨S16384x8192, .f32⟩) main_call0.v0 main_call0.cst main_call0.c main_call0.v1_1 (fun x y u v j => (Host.argReduce reducer_argmin_f32_i32 x y u v reducesTo_S16384x8192_S16384_d1 h_S_ j).2) ]

/-- @main's operations: the one-hot rows, its function's operations. -/
abbrev opsC : List (HloOp τ sig (Elt F)) :=
  [ TRef.unary main_call0.v1_1 main_call1.v0 (broadcastInDim S16384x1 ![0] bcast_S16384_S16384x1_0),
    TRef.nullary main_call1.v1 (iotaInDim S1x8192 32 1),
    TRef.unary main_call1.v0 main_call1.v2 (broadcastInDim S16384x8192 ![0, 1] bcast_S16384x1_S16384x8192_0_1),
    TRef.unary main_call1.v1 main_call1.v3 (broadcastInDim S16384x8192 ![0, 1] bcast_S1x8192_S16384x8192_0_1),
    TRef.binary main_call1.v2 main_call1.v3 main_call1.v4 (cmpi .eq),
    TRef.unary main_call1.v4 main_call1.v5 (uitofp .f32) ]

/-- @main's operations: the loss, the output and the perplexity. -/
abbrev opsD : List (HloOp τ sig (Elt F)) :=
  [ binary main_v17 main_arg1 main_v18 ((fun l r => Host.dotGeneral dot_S16384x8192_S8192x64_S16384x64_1_0_0_1_n_n none l r) : (⟨S16384x8192, .f32⟩ : BufTy).Contents (Elt F) → (⟨S8192x64, .f32⟩ : BufTy).Contents (Elt F) → (⟨S16384x64, .f32⟩ : BufTy).Contents (Elt F)),
    reshape main_v18 main_v19 (rfl : (.f32 : EltTy) = .f32) shapeCasts_S16384x64_S16x32x32x64,
    binary main_v19 main_v0 main_v20 (subf : (⟨S16x32x32x64, .f32⟩ : BufTy).Contents (Elt F) → (⟨S16x32x32x64, .f32⟩ : BufTy).Contents (Elt F) → (⟨S16x32x32x64, .f32⟩ : BufTy).Contents (Elt F)),
    binary main_v20 main_v20 main_v21 (mulf : (⟨S16x32x32x64, .f32⟩ : BufTy).Contents (Elt F) → (⟨S16x32x32x64, .f32⟩ : BufTy).Contents (Elt F) → (⟨S16x32x32x64, .f32⟩ : BufTy).Contents (Elt F)),
    nullary main_cst_2 (constant S_ .f32 0x00000000#32),
    binary main_v21 main_cst_2 main_v22 ((fun x v => Host.reduceAdd x v reducesTo_S16x32x32x64_S_d0_1_2_3 h_S_) : (⟨S16x32x32x64, .f32⟩ : BufTy).Contents (Elt F) → (⟨S_, .f32⟩ : BufTy).Contents (Elt F) → (⟨S_, .f32⟩ : BufTy).Contents (Elt F)),
    nullary main_cst_3 (constant S_ .f32 0x49800000#32),
    binary main_v22 main_cst_3 main_v23 (Host.divf : (⟨S_, .f32⟩ : BufTy).Contents (Elt F) → (⟨S_, .f32⟩ : BufTy).Contents (Elt F) → (⟨S_, .f32⟩ : BufTy).Contents (Elt F)),
    nullary main_cst_4 (constant S_ .f32 0x3E800000#32),
    binary main_cst_4 main_v23 main_v24 (mulf : (⟨S_, .f32⟩ : BufTy).Contents (Elt F) → (⟨S_, .f32⟩ : BufTy).Contents (Elt F) → (⟨S_, .f32⟩ : BufTy).Contents (Elt F)),
    binary main_v19 main_v0 main_v25 (subf : (⟨S16x32x32x64, .f32⟩ : BufTy).Contents (Elt F) → (⟨S16x32x32x64, .f32⟩ : BufTy).Contents (Elt F) → (⟨S16x32x32x64, .f32⟩ : BufTy).Contents (Elt F)),
    binary main_v0 main_v25 main_v26 (addf : (⟨S16x32x32x64, .f32⟩ : BufTy).Contents (Elt F) → (⟨S16x32x32x64, .f32⟩ : BufTy).Contents (Elt F) → (⟨S16x32x32x64, .f32⟩ : BufTy).Contents (Elt F)),
    nullary main_cst_5 (constant S_ .f32 0x00000000#32),
    binary main_v17 main_cst_5 main_v27 ((fun x v => Host.reduceAdd x v reducesTo_S16384x8192_S8192_d0 h_S_) : (⟨S16384x8192, .f32⟩ : BufTy).Contents (Elt F) → (⟨S_, .f32⟩ : BufTy).Contents (Elt F) → (⟨S8192, .f32⟩ : BufTy).Contents (Elt F)),
    nullary main_cst_6 (constant S_ .f32 0x46800000#32),
    unary main_cst_6 main_v28 (broadcastInDim S8192 ![] bcast_S_S8192 : (⟨S_, .f32⟩ : BufTy).Contents (Elt F) → (⟨S8192, .f32⟩ : BufTy).Contents (Elt F)),
    binary main_v27 main_v28 main_v29 (Host.divf : (⟨S8192, .f32⟩ : BufTy).Contents (Elt F) → (⟨S8192, .f32⟩ : BufTy).Contents (Elt F) → (⟨S8192, .f32⟩ : BufTy).Contents (Elt F)),
    nullary main_cst_7 (constant S_ .f32 0x2EDBE6FF#32),
    unary main_cst_7 main_v30 (broadcastInDim S8192 ![] bcast_S_S8192 : (⟨S_, .f32⟩ : BufTy).Contents (Elt F) → (⟨S8192, .f32⟩ : BufTy).Contents (Elt F)),
    binary main_v29 main_v30 main_v31 (addf : (⟨S8192, .f32⟩ : BufTy).Contents (Elt F) → (⟨S8192, .f32⟩ : BufTy).Contents (Elt F) → (⟨S8192, .f32⟩ : BufTy).Contents (Elt F)),
    unary main_v31 main_v32 (Host.log : (⟨S8192, .f32⟩ : BufTy).Contents (Elt F) → (⟨S8192, .f32⟩ : BufTy).Contents (Elt F)),
    binary main_v29 main_v32 main_v33 (mulf : (⟨S8192, .f32⟩ : BufTy).Contents (Elt F) → (⟨S8192, .f32⟩ : BufTy).Contents (Elt F) → (⟨S8192, .f32⟩ : BufTy).Contents (Elt F)),
    nullary main_cst_8 (constant S_ .f32 0x00000000#32),
    binary main_v33 main_cst_8 main_v34 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v34 main_v35 (Host.negf : (⟨S_, .f32⟩ : BufTy).Contents (Elt F) → (⟨S_, .f32⟩ : BufTy).Contents (Elt F)),
    unary main_v35 main_v36 (Host.exp : (⟨S_, .f32⟩ : BufTy).Contents (Elt F) → (⟨S_, .f32⟩ : BufTy).Contents (Elt F)),
    unary main_v26 main_v37 ((transpose S16x64x32x32 [0, 3, 1, 2] · transposes_S16x32x32x64_S16x64x32x32_0_3_1_2) : (⟨S16x32x32x64, .f32⟩ : BufTy).Contents (Elt F) → (⟨S16x64x32x32, .f32⟩ : BufTy).Contents (Elt F)) ]

/-- @main's operations, in order, the two called functions' in their places. -/
abbrev ops : List (HloOp τ sig (Elt F)) := opsA ++ (opsB ++ (opsC ++ opsD))

theorem main_eq (c : Dev nD) : main (F := F) c = seq ops := by
  sl_kernel_rfl

theorem after_append (l₁ l₂ : List (HloOp τ sig (Elt F))) (V : Valuation τ sig (Elt F)) :
    after (l₁ ++ l₂) V = after l₂ (after l₁ V) := by
  induction l₁ generalizing V with
  | nil => rfl
  | cons op l ih => exact ih _

section stages

variable (V : Valuation τ sig (Elt F))

theorem A_v15 : after opsA V (main_v15 : DevRef τ sig) = rdist (V (main_arg0 : DevRef τ sig)) (V (main_arg1 : DevRef τ sig)) := by
  after_results_simp
  rfl

theorem A_v0 : after opsA V (main_v0 : DevRef τ sig) = nhwc (V (main_arg0 : DevRef τ sig)) := by
  after_results_simp
  rfl

theorem A_arg0 : after opsA V (main_arg0 : DevRef τ sig) = V (main_arg0 : DevRef τ sig) := by after_results_simp
theorem A_arg1 : after opsA V (main_arg1 : DevRef τ sig) = V (main_arg1 : DevRef τ sig) := by after_results_simp

theorem reducer_eq : @Cert.ReferenceIdeal.reducer_argmin_f32_i32 F _ = @Cert.SearchReferenceIdeal.reducer_argmin_f32_i32 F _ := rfl

theorem B_v16 : after opsB V (main_v16 : DevRef τ sig) = ridx (V (main_v15 : DevRef τ sig)) := by
  after_results_simp
  rw [reducer_eq]
  rfl

theorem B_v0 : after opsB V (main_v0 : DevRef τ sig) = V (main_v0 : DevRef τ sig) := by after_results_simp
theorem B_arg0 : after opsB V (main_arg0 : DevRef τ sig) = V (main_arg0 : DevRef τ sig) := by after_results_simp
theorem B_arg1 : after opsB V (main_arg1 : DevRef τ sig) = V (main_arg1 : DevRef τ sig) := by after_results_simp

theorem C_v17 : after opsC V (main_v17 : DevRef τ sig) = renc (V (main_v16 : DevRef τ sig)) := by
  after_results_simp
  rfl

theorem C_v0 : after opsC V (main_v0 : DevRef τ sig) = V (main_v0 : DevRef τ sig) := by after_results_simp
theorem C_arg0 : after opsC V (main_arg0 : DevRef τ sig) = V (main_arg0 : DevRef τ sig) := by after_results_simp
theorem C_arg1 : after opsC V (main_arg1 : DevRef τ sig) = V (main_arg1 : DevRef τ sig) := by after_results_simp

theorem D_v24 : after opsD V (main_v24 : DevRef τ sig)
    = lossOf (tot (rdiff (V (main_v0 : DevRef τ sig)) (V (main_arg1 : DevRef τ sig)) (V (main_v17 : DevRef τ sig)))) := by
  after_results_simp
  rfl

theorem D_v37 : after opsD V (main_v37 : DevRef τ sig)
    = outOf (V (main_v0 : DevRef τ sig))
        (rdiff (V (main_v0 : DevRef τ sig)) (V (main_arg1 : DevRef τ sig)) (V (main_v17 : DevRef τ sig))) := by
  after_results_simp
  rfl

theorem D_v36 : after opsD V (main_v36 : DevRef τ sig) = perpOf (cnt (V (main_v17 : DevRef τ sig))) := by
  after_results_simp
  rfl

theorem D_v17 : after opsD V (main_v17 : DevRef τ sig) = V (main_v17 : DevRef τ sig) := by after_results_simp
theorem D_arg0 : after opsD V (main_arg0 : DevRef τ sig) = V (main_arg0 : DevRef τ sig) := by after_results_simp
theorem D_arg1 : after opsD V (main_arg1 : DevRef τ sig) = V (main_arg1 : DevRef τ sig) := by after_results_simp

/-- The one-hot rows, from the arguments. -/
abbrev encOf (x : FVec F S16x64x32x32 .f32) (e : FVec F S8192x64 .f32) : FVec F S16384x8192 .f32 := renc (ridx (rdist x e))

theorem loss_eq : after ops V (main_v24 : DevRef τ sig)
    = lossOf (tot (rdiff (nhwc (V (main_arg0 : DevRef τ sig))) (V (main_arg1 : DevRef τ sig))
        (encOf (V (main_arg0 : DevRef τ sig)) (V (main_arg1 : DevRef τ sig))))) := by
  rw [after_append, after_append, after_append, D_v24, C_v0, C_arg1, C_v17, B_v0, B_arg1, B_v16, A_v0, A_arg1, A_v15]

theorem out_eq : after ops V (main_v37 : DevRef τ sig)
    = outOf (nhwc (V (main_arg0 : DevRef τ sig))) (rdiff (nhwc (V (main_arg0 : DevRef τ sig))) (V (main_arg1 : DevRef τ sig))
        (encOf (V (main_arg0 : DevRef τ sig)) (V (main_arg1 : DevRef τ sig)))) := by
  rw [after_append, after_append, after_append, D_v37, C_v0, C_arg1, C_v17, B_v0, B_arg1, B_v16, A_v0, A_arg1, A_v15]

theorem perp_eq : after ops V (main_v36 : DevRef τ sig)
    = perpOf (cnt (encOf (V (main_arg0 : DevRef τ sig)) (V (main_arg1 : DevRef τ sig)))) := by
  rw [after_append, after_append, after_append, D_v36, C_v17, B_v16, A_v15]

theorem enc_eq : after ops V (main_v17 : DevRef τ sig)
    = encOf (V (main_arg0 : DevRef τ sig)) (V (main_arg1 : DevRef τ sig)) := by
  rw [after_append, after_append, after_append, D_v17, C_v17, B_v16, A_v15]

theorem arg0_eq : after ops V (main_arg0 : DevRef τ sig) = V (main_arg0 : DevRef τ sig) := by
  rw [after_append, after_append, after_append, D_arg0, C_arg0, B_arg0, A_arg0]

theorem arg1_eq : after ops V (main_arg1 : DevRef τ sig) = V (main_arg1 : DevRef τ sig) := by
  rw [after_append, after_append, after_append, D_arg1, C_arg1, B_arg1, A_arg1]

end stages

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., binary_bufs_sub .., nullary_bufs_sub .., binary_bufs_sub ..,
    unary_bufs_sub .., binary_bufs_sub .., nullary_bufs_sub .., binary_bufs_sub .., unary_bufs_sub ..,
    unary_bufs_sub .., unary_bufs_sub .., binary_bufs_sub .., unary_bufs_sub .., binary_bufs_sub ..,
    nullary_bufs_sub .., unary_bufs_sub .., binary_bufs_sub .., binary_bufs_sub .., nullary_bufs_sub ..,
    nullary_bufs_sub .., nullary_bufs_sub .., quaternary_bufs_sub .., quaternary_bufs_sub .., unary_bufs_sub ..,
    nullary_bufs_sub .., unary_bufs_sub .., unary_bufs_sub .., binary_bufs_sub .., unary_bufs_sub ..,
    binary_bufs_sub .., reshape_bufs_sub .., binary_bufs_sub .., binary_bufs_sub .., nullary_bufs_sub ..,
    binary_bufs_sub .., nullary_bufs_sub .., binary_bufs_sub .., nullary_bufs_sub .., binary_bufs_sub ..,
    binary_bufs_sub .., binary_bufs_sub .., nullary_bufs_sub .., binary_bufs_sub .., nullary_bufs_sub ..,
    unary_bufs_sub .., binary_bufs_sub .., nullary_bufs_sub .., unary_bufs_sub .., binary_bufs_sub ..,
    unary_bufs_sub .., binary_bufs_sub .., nullary_bufs_sub .., binary_bufs_sub .., unary_bufs_sub ..,
    unary_bufs_sub .., unary_bufs_sub ..⟩

/-- Every buffer ends at the operations' fold over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The frame: the arguments unchanged, every counter zero (the program declares no semaphore). -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c main_arg0).trans (arg0_eq _), (h c main_arg1).trans (arg1_eq _)⟩,
    sem_eq_zero_of_no_sems (by decide) r.2⟩) (run_ops m ρ)

end Cert.ReferenceIdeal.Gen
-- ==== Proof.ScBatch.lean ====
module

public import Idealize.ShloMosaic.Lib.SparseCore.Stream
public import Idealize.ShloMosaic.Lib.SparseCore.Ops
public import Idealize.ShloMosaic.Lib.Batch

/-!
# Several indirect gathers outstanding on one semaphore

Each tile issues four indirect gathers on one DMA semaphore before it waits for any of them. The rows of all four streams are the
transfers of one counted batch: a stream's issue takes the issue rights of its rows, every row pays into the batch, and the
deliveries come out together after the last wait.
-/

@[expose] public section

noncomputable section

namespace Cert.Proof.GatherBatch

open Idealize.ShloMosaic Idealize.ShloMosaic.SparseCore
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The element of the offset list that entry `k` is. -/
def entryAt {o : ℕ} (hn : si.numel = o) (k : Fin o) : si.Idx := si.rowMajor.symm (k.cast hn.symm)

theorem entryAt_bijective {o : ℕ} (hn : si.numel = o) : Function.Bijective (entryAt hn) :=
  si.rowMajor.symm.bijective.comp (finCongr hn.symm).bijective

/-- The source's row that the list names for row `k` of the destination. -/
def rowPayload (src : Memref sig c.2.kind sp s₀ e) (hg : s₀.Gathers a s) (fs : Buf (Elt F) (src.view.loc c))
    (r : Fin (s.size hg.axis') → Fin (s₀.size hg.axis)) (k : Fin (s.size hg.axis')) : (s.rowShape hg.axis').Idx → Elt F e :=
  fun i => src.view.read (Elt F) fs (hg.rowIdx (r k) i)

/-- What one row of a gather delivers: that row of the destination written with the source's row the list names, the entry's
share of the list, and the row's piece of the source's share. -/
def rowDelivered (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (k : Fin (s.size hg.axis')) : sProp 𝕄 :=
  iprop(((dst.view.loc c ↦[(dst.view.slice (s.rowRect hg.axis' k)).set]{fullShare}
          ((dst.view.slice (s.rowRect hg.axis' k)).write (Elt F) fd (rowPayload c src hg fs r k) Finset.univ))
      ∗ (offs.view.loc c ↦[{offs.view.emb (entryAt hn k)}]{qo} fo)) ∗ (src.view.loc c ↦[src.view.set]{pieceOf q _ ho k} fs))

instance rowDelivered_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (k : Fin (s.size hg.axis')) :
    Storable (upEmb : UEmb _ 𝕄) (rowDelivered c src dst hg offs hn ho q qo fs fd fo r k) := by
  unfold rowDelivered; infer_instance

/-- All the rows' deliveries are the destination written with the gather's payload, and the two shares back. -/
theorem rowDelivered_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) :
    bigSep Finset.univ (rowDelivered c src dst hg offs hn ho q qo fs fd fo r)
      ⊢ (iprop((dst.view.loc c ↦[dst.view.set]{fullShare}
              (dst.view.write (Elt F) fd (gatherPayload hg (src.view.read (Elt F) fs) r) Finset.univ))
          ∗ (src.view.loc c ↦[src.view.set]{q} fs) ∗ (offs.view.loc c ↦[offs.view.set]{qo} fo)) : sProp 𝕄) := by
  have hW : ∀ k i, rowPayload c src hg fs r k i
      = gatherPayload hg (src.view.read (Elt F) fs) r ((s.rowRect hg.axis' k).emb i) := fun k i => by
    unfold gatherPayload rowPayload; rw [Shape.Gathers.idx_rowRect_emb]
  unfold rowDelivered
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]; · iapply (pointsTo_rows_write c dst.view hg.axis' fd (rowPayload c src hg fs r) _ hW) $$ Hrows
  isplitl [Hsrc]; · iapply (Entails.of_eq (pointsTo_piecesOf (src.view.set) fs ho q).symm) $$ Hsrc
  iapply (Entails.of_eq (pointsTo_entries c offs.view (entryAt hn) (entryAt_bijective hn) qo fo).symm) $$ Hoffs

/-- The next `o` transfers from `j`. -/
def nextOf {n : ℕ} (j o : ℕ) (hj : j + o ≤ n) : Fin o ↪ Fin n where
  toFun k := ⟨j + k.val, by have := k.isLt; omega⟩
  inj' k k' h := by
    have h' := congrArg Fin.val h
    exact Fin.ext (Nat.add_left_cancel h')

theorem mem_next {n : ℕ} {j o : ℕ} {hj : j + o ≤ n} {t : Fin n} (h : t ∈ Finset.univ.map (nextOf j o hj)) : j ≤ t.val ∧ t.val < j + o := by
  obtain ⟨k, -, rfl⟩ := Finset.mem_map.mp h
  have := k.isLt
  exact ⟨Nat.le_add_right j k.val, Nat.add_lt_add_left this j⟩

theorem mem_pending {n : ℕ} {j : ℕ} {t : Fin n} : t ∈ Transfers.pending j ↔ j ≤ t.val :=
  ⟨fun h => (Finset.mem_filter.mp h).2, fun h => Finset.mem_filter.mpr ⟨Finset.mem_univ _, h⟩⟩

/-- The transfers pending from `j` are the next `o` and those pending from `j + o`. -/
theorem pending_block {n : ℕ} (j o : ℕ) (hj : j + o ≤ n) (Φ : Fin n → sProp 𝕄) :
    bigSep (Transfers.pending j) Φ
      = iprop(bigSep Finset.univ (fun k : Fin o => Φ (nextOf j o hj k)) ∗ bigSep (Transfers.pending (j + o)) Φ) := by
  have hset : Transfers.pending (n := n) j = Finset.univ.map (nextOf j o hj) ∪ Transfers.pending (j + o) := by
    ext t
    rw [Finset.mem_union, mem_pending, mem_pending]
    constructor
    · intro h
      by_cases h' : j + o ≤ t.val
      · exact .inr h'
      · exact .inl (Finset.mem_map.mpr ⟨⟨t.val - j, by omega⟩, Finset.mem_univ _, Fin.ext (Nat.add_sub_cancel' h)⟩)
    · rintro (h | h)
      · exact (mem_next h).1
      · omega
  rw [hset, BI.bigSep_union, BI.bigSep_map]
  · rfl
  · rw [Finset.disjoint_left]
    intro t ht ht'
    exact absurd (mem_next ht).2 (Nat.not_lt.mpr (mem_pending.mp ht'))

/-- The issue of an indirect gather into a batch: its rows are the batch's next transfers. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {j u : ℕ}
    (ι : Ix) (N : ℕ) (hN : ∀ t, (dst.slice (s.rowRect hg.axis' t) (s.stride_rowRect hg.axis' t)).view.dmaCredit = N)
    (ho : 0 < s.size hg.axis') (hin : ∀ x, (offs.view.read (Elt F) fo x).toNat < s₀.size hg.axis)
    (hj : j + s.size hg.axis' ≤ n) (hu : u ≤ j * N)
    (hD : ∀ t : Fin (s.size hg.axis'),
      rowDelivered c src dst hg offs hn ho q qo fs fd fo (rows (offs.view.read (Elt F) fo) hn hin) t ⊢ D (nextOf j _ hj t)) :
    iprop((src.view.loc c ↦[src.view.set]{q} fs) ∗ (dst.view.loc c ↦[dst.view.set]{fullShare} fd)
        ∗ (offs.view.loc c ↦[offs.view.set]{qo} fo) ∗ Transfers.Batch EC c (.dma sem) ι N D j u)
      ⊢ iprop((Transfers.Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ t, (rd t).dst.view.dmaCredit = s.size hg.axis' * N := by
    rw [Finset.sum_congr rfl fun t _ => hN t, Finset.sum_const, Finset.card_univ, Fintype.card_fin, smul_eq_mul]
  unfold Transfers.Batch
  iintro ⟨Hs, Hd, Ho, ⟨%γ, %γ₀, %κ, #Hinv, HI, H0, Hcred⟩⟩ Hk
  ihave HI' := (Entails.of_eq (pending_block j (s.size hg.axis') hj (fun t => count EC (γ t) 0))) $$ HI
  icases HI' with ⟨Hγ, HI⟩
  ihave Hd' := (Entails.of_eq (pointsTo_rows c dst.view hg.axis' fullShare fd)) $$ Hd
  ihave Ho' := (Entails.of_eq (pointsTo_entries c offs.view (entryAt hn) (entryAt_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ t : Fin (s.size hg.axis'), iprop(inv κ (Transfers.batchBody EC (c, SemLoc.dma sem) N D γ γ₀)
          ∗ ((((dst.view.loc c ↦[(dst.view.slice (s.rowRect hg.axis' t)).set]{fullShare} fd) ∗ (offs.view.loc c ↦[{offs.view.emb (entryAt hn t)}]{qo} fo))
          ∗ (src.view.loc c ↦[src.view.set]{pieceOf q _ ho t} fs)) ∗ count EC (γ (nextOf j _ hj t)) 0))
        ⊢ iprop(S.heldEntry qo fo t ∗ (S.heldEntry qo fo t -∗ rowRes c (rd t))) := fun t => by
      iintro ⟨#Hinv, ⟨⟨Hr, He⟩, Hsq⟩, Hγj⟩
      isplitl [He]; · iexact He
      iintro He
      unfold rowRes
      iexists pieceOf q _ ho t, fs, iprop((dst.view.loc c ↦[(dst.view.slice (s.rowRect hg.axis' t)).set]{fullShare} ((dst.view.slice (s.rowRect hg.axis' t)).write (Elt F) fd (rowPayload c src hg fs r t) Finset.univ)) ∗ (offs.view.loc c ↦[{offs.view.emb (entryAt hn t)}]{qo} fo))
      isplitl [Hsq]; · iexact Hsq
      isplitl [Hr He]
      · iapply writeUpdate_frame
        isplitl [Hr]
        · iapply (pointsTo_writeUpdate c (v := dst.view.slice (s.rowRect hg.axis' t)) subset_rfl) $$ Hr
        · iexact He
      · have hNt : (rd t).dst.view.dmaCredit = N := hN t
        have hcu : iprop(inv κ (Transfers.batchBody EC (c, SemLoc.dma sem) N D γ γ₀) ∗ count EC (γ (nextOf j _ hj t)) 0)
            ⊢ creditUpdate (c, SemLoc.dma sem) (rd t).dst.view.dmaCredit 0
              (rowDelivered c src dst hg offs hn ho q qo fs fd fo r t) := by
          rw [hNt]
          exact Transfers.batch_creditUpdate EC (nextOf j _ hj t) (hD t)
        iapply hcu
        isplitr; · iexact Hinv
        iexact Hγj
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun t _ => hrow t)
    isplitr; · iexact Hinv
    iexact H3
  iintro Hcred'
  iapply Hk
  iexists γ, γ₀, κ
  isplitr; · iexact Hinv
  isplitl [HI]; · iexact HI
  isplitl [H0]; · iexact H0
  rw [show (j + s.size hg.axis') * N - u = (j * N - u) + s.size hg.axis' * N by rw [Nat.add_mul]; omega, ← tallyAt_add]
  icombine Hcred Hcred' as H
  iexact H

end Cert.Proof.GatherBatch
-- ==== Proof.ScTile.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.ScBatch
public import proofs.«01_k».proof.Proof.Gen.KernelIdeal
public import proofs.«01_k».proof.Proof.Gen.KernelIdeal.Skeleton

/-!
# One SparseCore tile's gather

Tile `2 * subcore + core` fetches its four lists of 128 row numbers, gathers the table's rows they name by four indirect
gathers outstanding on one semaphore, and writes the 512 rows out. The row numbers and the table are arbitrary contents, the row
numbers below 8192.
-/

@[expose] public section

noncomputable section

namespace Cert.KernelIdeal.Sc

open Cert.KernelIdeal Cert.KernelIdeal.Gen
open Cert.Proof.GatherBatch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds, the pipeline's rounds, the transfers' counters. -/
abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

abbrev iLoc (d : Dev nD) : Loc nD τ sig := (SparseCore.T d).loc main_v12
abbrev tLoc (d : Dev nD) : Loc nD τ sig := (SparseCore.T d).loc main_v13
abbrev oLoc (d : Dev nD) : Loc nD τ sig := (SparseCore.T d).loc main_v14

local notation "tV" => (Memref.whole Cert.KernelIdeal.main_v13_scv : Memref Cert.KernelIdeal.sig Kind.scVector Space.hbm Cert.KernelIdeal.S8192x128 EltTy.f32)
local notation "iV" => (Memref.whole Cert.KernelIdeal.main_v12_scv : Memref Cert.KernelIdeal.sig Kind.scVector Space.hbm Cert.KernelIdeal.S32x4x128 EltTy.i32)
local notation "oV" => (Memref.whole Cert.KernelIdeal.main_v14_scv : Memref Cert.KernelIdeal.sig Kind.scVector Space.hbm Cert.KernelIdeal.S32x4x128x128 EltTy.f32)
local notation "sV" => (Memref.whole Cert.KernelIdeal.cc1_scratch0 : Memref Cert.KernelIdeal.sig Kind.scVector Space.vmem Cert.KernelIdeal.S4x128 EltTy.i32)
local notation "rV" => (Memref.whole Cert.KernelIdeal.cc1_scratch1 : Memref Cert.KernelIdeal.sig Kind.scVector Space.vmem Cert.KernelIdeal.S4x128x128 EltTy.f32)

theorem idiv : 32 ∣ S32x4x128.size 0 := ⟨1, rfl⟩
theorem odiv : 32 ∣ S32x4x128x128.size 0 := ⟨1, rfl⟩
abbrev irow (i : Fin 32) : Rect S32x4x128 := Rect.part (s := S32x4x128) (a₀ := 0) idiv i
abbrev orow (i : Fin 32) : Rect S32x4x128x128 := Rect.part (s := S32x4x128x128) (a₀ := 0) odiv i
abbrev iRowSet (i : Fin 32) : Finset S32x4x128.Idx := ((iV).view.slice (irow i)).set
abbrev oRowSet (i : Fin 32) : Finset S32x4x128x128.Idx := ((oV).view.slice (orow i)).set

/-- Tile `i`'s share of the table. -/
abbrev tq (i : Fin 32) : PosShare TreeShare := pieceOf fullShare 32 (by decide) i

/-- The gathered array: the table's row that the list names, at each place of the list. -/
def gath (tv : S8192x128.Idx → Elt F .f32) (iv : S32x4x128.Idx → Elt F .i32) (hin : ∀ x, (iv x).toNat < 8192) :
    S32x4x128x128.Idx → Elt F .f32 :=
  fun y => tv (ix2 ⟨(iv (ix3 (y 0) (y 1) (y 2))).toNat, hin _⟩ (y 3))

/-! ## The tile's views -/

section Views

variable (L : grid1.Coords)

abbrev cV (L : grid1.Coords) : Fin τ.nSC := (L 0).castLE hcore1
abbrev jV (L : grid1.Coords) : Fin τ.nSub := (L 1).castLE hsub1

/-- The tile's number: twice the subcore and the core. -/
def wid (L : grid1.Coords) : Fin 32 :=
  ⟨2 * (L 1).val + (L 0).val, by
    have h0 : (L 0).val < 2 := (L 0).isLt
    have h1 : (L 1).val < 16 := (L 1).isLt
    omega⟩

abbrev irowK (L : grid1.Coords) : Rect S32x4x128 := Rect.unit (s := S32x4x128) (k1_off1 L) S1x4x128.size (k1_off1_inb L)
abbrev orowK (L : grid1.Coords) : Rect S32x4x128x128 := Rect.unit (s := S32x4x128x128) (k1_off2 L) S1x4x128x128.size (k1_off2_inb L)
abbrev iRowK (L : grid1.Coords) : Memref sig .scVector .hbm S4x128 .i32 := ((iV).slice (irowK L) (fun _ => rfl)).squeeze S4x128 squeezes_S1x4x128_S4x128
abbrev oRowK (L : grid1.Coords) : Memref sig .scVector .hbm S4x128x128 .f32 := ((oV).slice (orowK L) (fun _ => rfl)).squeeze S4x128x128 squeezes_S1x4x128x128_S4x128x128
abbrev tAll : Memref sig .scVector .hbm S8192x128 .f32 := (tV).slice (Rect.unit (s := S8192x128) ![0, 0] S8192x128.size inb_S8192x128_S8192x128_0_0) (fun _ => rfl)

theorem dst_inb (j : Fin 4) : ∀ a, (![j.val, 0, 0] : Fin 3 → ℕ) a + S1x128x128.size a ≤ S4x128x128.size a := by
  revert j; decide
theorem off_inb (j : Fin 4) : ∀ a, (![j.val, 0] : Fin 2 → ℕ) a + S1x128.size a ≤ S4x128.size a := by
  revert j; decide

/-- Block `j` of the row buffer and list `j` of the index buffer. -/
abbrev dstJ (j : Fin 4) : Memref sig .scVector .vmem S128x128 .f32 :=
  ((rV).slice (Rect.unit (s := S4x128x128) ![j.val, 0, 0] S1x128x128.size (dst_inb j)) (fun _ => rfl)).squeeze S128x128 squeezes_S1x128x128_S128x128
abbrev offJ (j : Fin 4) : Memref sig .scVector .vmem S128 .i32 :=
  ((sV).slice (Rect.unit (s := S4x128) ![j.val, 0] S1x128.size (off_inb j)) (fun _ => rfl)).squeeze S128 squeezes_S1x128_S128

theorem irowK_eq : irowK L = irow (wid L) := by
  unfold irowK irow Rect.part Rect.block
  congr 1 <;> funext a
  · rw [k1_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]
theorem orowK_eq : orowK L = orow (wid L) := by
  unfold orowK orow Rect.part Rect.block
  congr 1 <;> funext a
  · rw [k1_off2_eq]
    match a with
    | 0 => simp [Shape.partIx, Shape.partSize, wid]
    | 1 => simp [Shape.partIx, Shape.partSize]
    | 2 => simp [Shape.partIx, Shape.partSize]
    | 3 => simp [Shape.partIx, Shape.partSize]
  · match a with
    | 0 => simp [Shape.partSize]
    | 1 => simp [Shape.partSize]
    | 2 => simp [Shape.partSize]
    | 3 => simp [Shape.partSize]

theorem set_iRowK : (iRowK L).view.set = iRowSet (wid L) := by
  show (((iV).view.slice (irowK L)).reshape S4x128 squeezes_S1x4x128_S4x128.numel_eq).set = ((iV).view.slice (irow (wid L))).set
  rw [View.set_reshape]
  exact irowK_eq L ▸ rfl
theorem set_oRowK : (oRowK L).view.set = oRowSet (wid L) := by
  show (((oV).view.slice (orowK L)).reshape S4x128x128 squeezes_S1x4x128x128_S4x128x128.numel_eq).set = ((oV).view.slice (orow (wid L))).set
  rw [View.set_reshape]
  exact orowK_eq L ▸ rfl

/-- Where each view's elements lie in its buffer. -/
theorem emb_iRowK (x : S4x128.Idx) : (iRowK L).view.emb x = ix3 (wid L) (x 0) (x 1) := by
  show (irowK L).emb (Shape.reshapeEquiv squeezes_S1x4x128_S4x128.numel_eq x) = _
  rw [Shape.reshapeEquiv_cons_one]
  funext a
  apply Fin.ext
  rw [Rect.emb_apply]
  match a with
  | 0 => simp [k1_off1_eq, wid]; rfl
  | 1 => simp [k1_off1_eq]; rfl
  | 2 => simp [k1_off1_eq]; rfl
theorem emb_oRowK (x : S4x128x128.Idx) : (oRowK L).view.emb x = ix4 (wid L) (x 0) (x 1) (x 2) := by
  show (orowK L).emb (Shape.reshapeEquiv squeezes_S1x4x128x128_S4x128x128.numel_eq x) = _
  rw [Shape.reshapeEquiv_cons_one]
  funext a
  apply Fin.ext
  rw [Rect.emb_apply]
  match a with
  | 0 => simp [k1_off2_eq, wid]; rfl
  | 1 => simp [k1_off2_eq]; rfl
  | 2 => simp [k1_off2_eq]; rfl
  | 3 => simp [k1_off2_eq]; rfl
theorem emb_dstJ (j : Fin 4) (x : S128x128.Idx) : (dstJ j).view.emb x = ix3 j (x 0) (x 1) := by
  show (Rect.unit (s := S4x128x128) ![j.val, 0, 0] S1x128x128.size (dst_inb j)).emb (Shape.reshapeEquiv squeezes_S1x128x128_S128x128.numel_eq x) = _
  rw [Shape.reshapeEquiv_cons_one]
  funext a
  apply Fin.ext
  rw [Rect.emb_apply]
  match a with
  | 0 => simp; rfl
  | 1 => simp; rfl
  | 2 => simp; rfl
theorem emb_offJ (j : Fin 4) (x : S128.Idx) : (offJ j).view.emb x = ix2 j (x 0) := by
  show (Rect.unit (s := S4x128) ![j.val, 0] S1x128.size (off_inb j)).emb (Shape.reshapeEquiv squeezes_S1x128_S128.numel_eq x) = _
  rw [Shape.reshapeEquiv_cons_one]
  funext a
  apply Fin.ext
  rw [Rect.emb_apply]
  match a with
  | 0 => simp; rfl
  | 1 => simp; rfl
theorem emb_tAll (x : S8192x128.Idx) : (tAll).view.emb x = x := by
  show (Rect.unit (s := S8192x128) ![0, 0] S8192x128.size inb_S8192x128_S8192x128_0_0).emb x = _
  funext a
  apply Fin.ext
  rw [Rect.emb_apply]
  match a with
  | 0 => simp
  | 1 => simp

/-- The credit of one row's transfer. -/
def rowN : ℕ := ((dstJ 0).slice (S128x128.rowRect 0 ⟨0, by decide⟩) (S128x128.stride_rowRect 0 ⟨0, by decide⟩)).view.dmaCredit

theorem credit_dstJ (j : Fin 4) : (dstJ j).view.dmaCredit = 128 * rowN := by
  revert j; decide
theorem credit_row (j : Fin 4) (t : Fin (S128x128.size gathers_S8192x128_S128x128.axis')) :
    ((dstJ j).slice (S128x128.rowRect gathers_S8192x128_S128x128.axis' t)
      (S128x128.stride_rowRect gathers_S8192x128_S128x128.axis' t)).view.dmaCredit = rowN := rfl
theorem rowN_pos : 0 < rowN := by decide

theorem rowRect_dst (j : Fin 4) : Rect.unit (s := S4x128x128) ![j.val, 0, 0] S1x128x128.size (dst_inb j) = S4x128x128.rowRect 0 j := by
  unfold Shape.rowRect
  congr 1 <;> funext a
  · match a with
    | 0 => rfl
    | 1 => rfl
    | 2 => rfl
  · match a with
    | 0 => rfl
    | 1 => rfl
    | 2 => rfl
theorem rowRect_off (j : Fin 4) : Rect.unit (s := S4x128) ![j.val, 0] S1x128.size (off_inb j) = S4x128.rowRect 0 j := by
  unfold Shape.rowRect
  congr 1 <;> funext a
  · match a with
    | 0 => rfl
    | 1 => rfl
  · match a with
    | 0 => rfl
    | 1 => rfl
theorem set_dstJ (j : Fin 4) : (dstJ j).view.set = ((rV).view.slice (S4x128x128.rowRect 0 j)).set := by
  show (((rV).view.slice (Rect.unit (s := S4x128x128) ![j.val, 0, 0] S1x128x128.size (dst_inb j))).reshape S128x128 squeezes_S1x128x128_S128x128.numel_eq).set = _
  rw [View.set_reshape]
  exact rowRect_dst j ▸ rfl
theorem set_offJ (j : Fin 4) : (offJ j).view.set = ((sV).view.slice (S4x128.rowRect 0 j)).set := by
  show (((sV).view.slice (Rect.unit (s := S4x128) ![j.val, 0] S1x128.size (off_inb j))).reshape S128 squeezes_S1x128_S128.numel_eq).set = _
  rw [View.set_reshape]
  exact rowRect_off j ▸ rfl
theorem set_tAll : (tAll).view.set = Finset.univ :=
  Finset.eq_univ_iff_forall.mpr fun x => Finset.mem_map.mpr ⟨x, Finset.mem_univ _, emb_tAll x⟩

end Views

/-! ## The tile's own buffers, cut for the four gathers -/

section Tile

variable (d : Dev nD) (L : grid1.Coords)

/-- The tile as a thread. -/
abbrev thr (d : Dev nD) (L : grid1.Coords) : Thread nD τ := V d (cV L) (jV L)

theorem rows_split (f : S4x128x128.Idx → Elt F .f32) :
    ((rV).view.loc (thr d L) ↦{fullShare} f : sProp 𝕄)
      = bigSep Finset.univ fun j : Fin 4 => (dstJ j).view.loc (thr d L) ↦[(dstJ j).view.set]{fullShare} f := by
  have h := pointsTo_rows (Ix := HIx 1) (Name := ℕ) (U := UU) (Lvl := ℕ) (Val := Elt F) (thr d L) (rV).view 0 fullShare f
  rw [show (rV).view.set = Finset.univ from View.set_whole _] at h
  exact h.trans (bigSep_congr fun (j : Fin 4) _ => by rw [set_dstJ])
theorem lists_split (f : S4x128.Idx → Elt F .i32) :
    ((sV).view.loc (thr d L) ↦{fullShare} f : sProp 𝕄)
      = bigSep Finset.univ fun j : Fin 4 => (offJ j).view.loc (thr d L) ↦[(offJ j).view.set]{fullShare} f := by
  have h := pointsTo_rows (Ix := HIx 1) (Name := ℕ) (U := UU) (Lvl := ℕ) (Val := Elt F) (thr d L) (sV).view 0 fullShare f
  rw [show (sV).view.set = Finset.univ from View.set_whole _] at h
  exact h.trans (bigSep_congr fun (j : Fin 4) _ => by rw [set_offJ])
theorem pieces_on (l : Loc nD τ sig) (S : Finset l.2.ty.shape.Idx) (hS : S = Finset.univ) (q : PosShare TreeShare) (f : Buf (Elt F) l) :
    (l ↦{q} f : sProp 𝕄) = bigSep Finset.univ fun j : Fin 4 => l ↦[S]{pieceOf q 4 (by decide) j} f := by
  subst hS
  exact pointsTo_piecesOf Finset.univ f (by decide) q
theorem table_split (q : PosShare TreeShare) (f : S8192x128.Idx → Elt F .f32) :
    (tLoc d ↦{q} f : sProp 𝕄)
      = bigSep Finset.univ fun j : Fin 4 => (tAll).view.loc (thr d L) ↦[(tAll).view.set]{pieceOf q 4 (by decide) j} f :=
  pieces_on (tLoc d) (tAll).view.set set_tAll q f

theorem four (Φ : Fin 4 → sProp 𝕄) : bigSep Finset.univ Φ = iprop(Φ 0 ∗ Φ 1 ∗ Φ 2 ∗ Φ 3) := by
  rw [bigSep_univ_succ, bigSep_univ_succ, bigSep_univ_succ, bigSep_univ_of_subsingleton (0 : Fin 1)]
  rfl

variable (tv : S8192x128.Idx → Elt F .f32) (iv : S32x4x128.Idx → Elt F .i32) (hin : ∀ x, (iv x).toNat < 8192)

/-- The tile's lists: its row of the row numbers. -/
def lst (L : grid1.Coords) (iv : S32x4x128.Idx → Elt F .i32) : S4x128.Idx → Elt F .i32 := fun x => iv (ix3 (wid L) (x 0) (x 1))

include hin in
theorem lst_in (x : S4x128.Idx) : (lst L iv x).toNat < 8192 := hin _

/-- The rows the tile gathers. -/
def rowsOut : S4x128x128.Idx → Elt F .f32 :=
  fun y => tv (ix2 ⟨(lst L iv (ix2 (y 0) (y 1))).toNat, lst_in L iv hin _⟩ (y 2))

theorem read_offJ (j : Fin 4) (f : S4x128.Idx → Elt F .i32) (x : S128.Idx) : (offJ j).view.read (Elt F) f x = f (ix2 j (x 0)) :=
  (View.read_apply _ _).trans ((cast_eq _ _).trans (congrArg f (emb_offJ j x)))

include hin in
theorem inJ (j : Fin 4) (x : S128.Idx) :
    ((offJ j).view.read (Elt F) (lst L iv) x).toNat < S8192x128.size gathers_S8192x128_S128x128.axis := by
  rw [read_offJ]; exact lst_in L iv hin _

/-- What row `k` of gather `j` delivers. -/
def Dj (q : PosShare TreeShare) (fr : S4x128x128.Idx → Elt F .f32) (j : Fin 4) (k : Fin 128) : sProp 𝕄 :=
  rowDelivered (thr d L) tAll (dstJ j) gathers_S8192x128_S128x128 (offJ j) rfl (by decide) (pieceOf q 4 (by decide) j) fullShare tv fr (lst L iv)
    (SparseCore.rows ((offJ j).view.read (Elt F) (lst L iv)) rfl (inJ L iv hin j)) k

/-- The batch's 512 deliveries, in the order of the issues. -/
def Dl (q : PosShare TreeShare) (fr : S4x128x128.Idx → Elt F .f32) (t : Fin (4 * 128)) : sProp 𝕄 :=
  Dj d L tv iv hin q fr (finProdFinEquiv.symm t).1 (finProdFinEquiv.symm t).2

instance Dl_storable (q : PosShare TreeShare) (fr : S4x128x128.Idx → Elt F .f32) (t : Fin (4 * 128)) :
    BI.Storable (upEmb : UEmb _ 𝕄) (Dl d L tv iv hin q fr t) := by
  unfold Dl Dj; exact rowDelivered_storable ..

theorem Dl_next (q : PosShare TreeShare) (fr : S4x128x128.Idx → Elt F .f32) (j : Fin 4) (n : ℕ) (hn : n = 128 * j.val)
    (h : n + 128 ≤ 4 * 128) (k : Fin 128) : Dl d L tv iv hin q fr (nextOf n 128 h k) = Dj d L tv iv hin q fr j k := by
  have e : nextOf n 128 h k = finProdFinEquiv (j, k) := Fin.ext (by subst hn; exact Nat.add_comm _ _)
  unfold Dl
  rw [e, Equiv.symm_apply_apply]

theorem rm1 (k : Fin S128.numel) : (S128.rowMajor.symm k 0).val = k.val :=
  (Shape.rowMajor_val_one _).symm.trans (congrArg Fin.val (S128.rowMajor.apply_symm_apply k))

theorem write_dstJ (j : Fin 4) (fr : S4x128x128.Idx → Elt F .f32) (i : S4x128x128.Idx) (hi : i ∈ (dstJ j).view.set) :
    (dstJ j).view.write (Elt F) fr (SparseCore.gatherPayload gathers_S8192x128_S128x128 ((tAll).view.read (Elt F) tv)
      (SparseCore.rows ((offJ j).view.read (Elt F) (lst L iv)) rfl (inJ L iv hin j))) Finset.univ i = rowsOut L tv iv hin i := by
  obtain ⟨y, -, rfl⟩ := Finset.mem_map.mp hi
  rw [View.write_emb_of_mem _ _ (Finset.mem_univ y)]
  refine (cast_eq _ _).trans ?_
  unfold SparseCore.gatherPayload rowsOut
  refine (View.read_apply _ _).trans ((cast_eq _ _).trans (congrArg tv ?_))
  rw [emb_tAll]
  funext a
  apply Fin.ext
  match a with
  | 0 =>
    refine (congrArg Fin.val (Shape.Gathers.idx_axis gathers_S8192x128_S128x128 _ y)).trans ?_
    show ((offJ j).view.read (Elt F) (lst L iv) _).toNat = (lst L iv _).toNat
    rw [read_offJ, emb_dstJ]
    refine congrArg (fun t : Fin 128 => (lst L iv (ix2 j t)).toNat) (Fin.ext ?_)
    exact rm1 _
  | 1 =>
    refine (Shape.Gathers.idx_of_ne gathers_S8192x128_S128x128 _ y (1 : Fin 2) (by decide)).trans ?_
    rw [emb_dstJ]
    rfl

/-- All the deliveries are the row buffer with the gathered rows, the lists, and the table's share. -/
theorem Dl_join (q : PosShare TreeShare) (fr : S4x128x128.Idx → Elt F .f32) :
    bigSep Finset.univ (Dl d L tv iv hin q fr)
      ⊢ (iprop(((rV).view.loc (thr d L) ↦{fullShare} rowsOut L tv iv hin) ∗ (tLoc d ↦{q} tv)
          ∗ ((sV).view.loc (thr d L) ↦{fullShare} lst L iv)) : sProp 𝕄) := by
  rw [bigSep_univ_equiv finProdFinEquiv, bigSep_univ_prod]
  have hj : ∀ j ∈ (Finset.univ : Finset (Fin 4)), (bigSep Finset.univ fun k => Dl d L tv iv hin q fr (finProdFinEquiv (j, k)))
      ⊢ (iprop(((dstJ j).view.loc (thr d L) ↦[(dstJ j).view.set]{fullShare} rowsOut L tv iv hin)
          ∗ ((tAll).view.loc (thr d L) ↦[(tAll).view.set]{pieceOf q 4 (by decide) j} tv)
          ∗ ((offJ j).view.loc (thr d L) ↦[(offJ j).view.set]{fullShare} lst L iv)) : sProp 𝕄) := fun j _ => by
    rw [show (fun k => Dl d L tv iv hin q fr (finProdFinEquiv (j, k))) = fun k => Dj d L tv iv hin q fr j k from
      funext fun k => by unfold Dl; rw [Equiv.symm_apply_apply]]
    refine (rowDelivered_join (thr d L) tAll (dstJ j) gathers_S8192x128_S128x128 (offJ j) rfl (by decide) _ _ _ _ _ _).trans ?_
    rw [pointsTo_congr (write_dstJ L tv iv hin j fr)]
  refine (bigSep_mono hj).trans ?_
  rw [rows_split, table_split (L := L), lists_split, bigSep_sep', bigSep_sep']
  exact Entails.refl _

/-- Gather `j` is issued: its 128 rows join the batch. -/
theorem gather_step [FloatOps F] {α : Type} {hsrc : (tAll).view.WordExact} {he hsp hr hp} {k : PUnit → Prog (TpuEff nD τ sig (Elt F) Λ₀ (thr d L).2) α}
    {Q : α → sProp 𝕄} (q : PosShare TreeShare) (fr : S4x128x128.Idx → Elt F .f32) (j : Fin 4) (n : ℕ) (hn : n = 128 * j.val) :
    iprop(((tAll).view.loc (thr d L) ↦[(tAll).view.set]{pieceOf q 4 (by decide) j} tv)
        ∗ ((dstJ j).view.loc (thr d L) ↦[(dstJ j).view.set]{fullShare} fr)
        ∗ ((offJ j).view.loc (thr d L) ↦[(offJ j).view.set]{fullShare} lst L iv)
        ∗ Transfers.Batch countersEmb (thr d L) (.dma cc1_scratch2.sem) (default : HIx 1) rowN (Dl d L tv iv hin q fr) n 0)
      ⊢ iprop((Transfers.Batch countersEmb (thr d L) (.dma cc1_scratch2.sem) (default : HIx 1) rowN (Dl d L tv iv hin q fr) (n + 128) 0
            -∗ wp frame (wpE (defs₀ (F := F)) 𝒱₀ (thr d L) none) Set.univ (k ⟨⟩) Q)
          -∗ wp frame (wpE (defs₀ (F := F)) 𝒱₀ (thr d L) none) Set.univ
            (SparseCore.enqueueIndirectGather hp tAll (dstJ j) gathers_S8192x128_S128x128 (offJ j) rfl cc1_scratch2.sem hsrc he hsp hr >>= k) Q) := by
  have hj : n + S128x128.size gathers_S8192x128_S128x128.axis' ≤ 4 * 128 := by
    have := j.isLt
    show n + 128 ≤ 4 * 128
    omega
  have hD : ∀ t : Fin (S128x128.size gathers_S8192x128_S128x128.axis'),
      rowDelivered (thr d L) tAll (dstJ j) gathers_S8192x128_S128x128 (offJ j) rfl (by decide) (pieceOf q 4 (by decide) j) fullShare tv fr (lst L iv)
        (SparseCore.rows ((offJ j).view.read (Elt F) (lst L iv)) rfl (inJ L iv hin j)) t ⊢ Dl d L tv iv hin q fr (nextOf n _ hj t) :=
    fun t => Entails.of_eq (Dl_next d L tv iv hin q fr j n hn hj t).symm
  exact wp_gatherBatch (src := tAll) (dst := dstJ j) (offs := offJ j) (hg := gathers_S8192x128_S128x128) (hn := rfl) (sem := cc1_scratch2.sem)
    (fs := tv) (fd := fr) (fo := lst L iv) (D := Dl d L tv iv hin q fr)
    countersEmb 𝒱₀ (thr d L) none (default : HIx 1) rowN (credit_row j) (by decide) (inJ L iv hin j) hj (Nat.zero_le _) hD

/-! ## The tile's own semaphores and buffers among the launch's -/

theorem pts_iRowK (f : Buf (Elt F) (iLoc d)) :
    ((iRowK L).view.loc (thr d L) ↦[(iRowK L).view.set]{fullShare} f : sProp 𝕄) = iLoc d ↦[iRowSet (wid L)]{fullShare} f := by
  rw [set_iRowK]
theorem pts_oRowK (f : Buf (Elt F) (oLoc d)) :
    ((oRowK L).view.loc (thr d L) ↦[(oRowK L).view.set]{fullShare} f : sProp 𝕄) = oLoc d ↦[oRowSet (wid L)]{fullShare} f := by
  rw [set_oRowK]
theorem pts_sV (f : Buf (Elt F) ((thr d L).loc cc1_scratch0)) :
    ((sV).view.loc (thr d L) ↦{fullShare} f : sProp 𝕄) = (thr d L).loc cc1_scratch0 ↦{fullShare} f := rfl
theorem pts_rV (f : Buf (Elt F) ((thr d L).loc cc1_scratch1)) :
    ((rV).view.loc (thr d L) ↦{fullShare} f : sProp 𝕄) = (thr d L).loc cc1_scratch1 ↦{fullShare} f := rfl

abbrev cA (d : Dev nD) (L : grid1.Coords) : GSem nD τ sig := (thr d L, .dma cc1_scratch2.sem)
abbrev cB (d : Dev nD) (L : grid1.Coords) : GSem nD τ sig := (thr d L, .dma cc1_scoped0.sem)
abbrev cC (d : Dev nD) (L : grid1.Coords) : GSem nD τ sig := (thr d L, .dma cc1_scoped1.sem)

theorem ownSems0_V :
    (ownSems0 (thr d L) : sProp 𝕄)
      = iprop(semVal (cA d L) 0 ∗ semVal (cB d L) 0 ∗ semVal (cC d L) 0
          ∗ bigSep ((((ownCells (thr d L)).erase (cA d L)).erase (cB d L)).erase (cC d L)) fun g => semVal g 0) := by
  unfold SparseCore.Cfg.ownSems0
  rw [SparseCore.bigSep_erase' ((mem_ownCells (g := cA d L)).mpr ⟨rfl, by
      show (SemLoc.dma cc1_scratch2.sem : SemLoc sig).isScoped .scVector = true; decide⟩),
    SparseCore.bigSep_erase' (Finset.mem_erase.mpr ⟨by simp [cA, cB]; decide, (mem_ownCells (g := cB d L)).mpr ⟨rfl, by
      show (SemLoc.dma cc1_scoped0.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d L)).mpr ⟨rfl, by show (SemLoc.dma cc1_scoped1.sem : SemLoc sig).isScoped .scVector = true; decide⟩⟩⟩)]

theorem ownBufs_V :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- The tile's fetched lists are its row of the row numbers. -/
theorem fetched (fs : S4x128.Idx → Elt F .i32) :
    View.write (Elt F) (sV).view fs ((iRowK L).view.read (Elt F) iv) Finset.univ = lst L iv := by
  rw [View.write_whole_univ]
  funext x
  exact (View.read_apply _ _).trans ((cast_eq _ _).trans (congrArg iv (emb_iRowK L x)))

/-- What the tile writes out is its row of the gathered array. -/
theorem written (fo : S32x4x128x128.Idx → Elt F .f32) (i : S32x4x128x128.Idx) (hi : i ∈ (oRowK L).view.set) :
    (oRowK L).view.writes (Elt F) fo [⟨Rect.whole S4x128x128, (rV).view.read (Elt F) (rowsOut L tv iv hin)⟩] i = gath tv iv hin i := by
  obtain ⟨y, -, rfl⟩ := Finset.mem_map.mp hi
  have e : ((oRowK L).view.slice (Rect.whole S4x128x128)).emb y = (oRowK L).view.emb y := by
    show (oRowK L).view.emb ((Rect.whole S4x128x128).emb y) = _
    rw [Rect.emb_whole_apply]
  rw [View.writes_singleton, ← e, View.write_emb_of_mem _ _ (Finset.mem_univ y), e]
  refine (cast_eq _ _).trans ?_
  simp only [Memref.view_whole, View.read_whole]
  rw [emb_oRowK]
  rfl

/-! ## The task -/

abbrev iRowPts (d : Dev nD) (iv : S32x4x128.Idx → Elt F .i32) (w : Fin 32) : sProp 𝕄 := iLoc d ↦[iRowSet w]{fullShare} iv
abbrev tShPts (d : Dev nD) (tv : S8192x128.Idx → Elt F .f32) (w : Fin 32) : sProp 𝕄 := tLoc d ↦{tq w} tv
abbrev oRowPts (d : Dev nD) (f : S32x4x128x128.Idx → Elt F .f32) (w : Fin 32) : sProp 𝕄 := oLoc d ↦[oRowSet w]{fullShare} f

theorem ret_then {E : Type → Type} {α β : Type} (a : α) (k : α → Prog E β) : (Prog.ret a).bind k = k a := rfl

set_option maxHeartbeats 4000000 in
/-- The task of tile `L` on device `d`: the fetch of its lists and its wait; four gathers issued on one semaphore, their
    deliveries counted; four waits; the write-out and its wait. -/
theorem tile_body [FloatOps F] (hF : (K (F := F)).Facts) (fo : S32x4x128x128.Idx → Elt F .f32)
    (O : CellTallies nD τ sig (HIx 1)) (W : Waits sig (HIx 1)) (hO : ∀ g, O g none = 0) :
    iprop(levAts (K (F := F)).L (K (F := F)).lev ∗ emp
        ∗ (iRowPts d iv (wid L) ∗ tShPts d tv (wid L) ∗ oRowPts d fo (wid L))
        ∗ scopedBufs (thr d L) ∗ scopedSems0 (thr d L) ∗ owes (thr d L) O W)
      ⊢ wp frame (wpE (defs₀ (F := F)) 𝒱₀ (thr d L) none) Set.univ
          (cc1__gather_body L tV (Memref.isWhole_whole _) iV (Memref.isWhole_whole _) oV (Memref.isWhole_whole _)
            sV (Memref.isWhole_whole _) rV (Memref.isWhole_whole _) cc1_scratch2 cc1_scoped0 cc1_scoped1)
          fun _ => iprop((iRowPts d iv (wid L) ∗ tShPts d tv (wid L) ∗ oRowPts d (gath tv iv hin) (wid L))
            ∗ scopedBufs (thr d L) ∗ scopedSems0 (thr d L)
            ∗ ∃ W', ⌜∀ p ∈ W', p ∈ W ∨ p.2 = none⌝ ∗ owes (thr d L) O W') := by
  simp only [cc1__gather_body_eq_skeleton]
  unfold cc1__gather_body_skel
  simp only [k1_part1_eq_skeleton, k1_part2_eq_skeleton]
  unfold k1_part1_skel k1_part2_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (pts_iRowK (F := F) d L _).symm) $$ Hi
  ihave Ho' := (Entails.of_eq (pts_oRowK (F := F) d L _).symm) $$ Ho
  ihave Hs' := (Entails.of_eq (pts_sV (F := F) d L _).symm) $$ Hs
  sl_exec
  ihave Hs1 := (Entails.of_eq (show ((sV).view.loc (thr d L) ↦{fullShare} View.write (Elt F) (sV).view fs (tile_body.sl.dma0 L iv) Finset.univ : sProp 𝕄)
      = (sV).view.loc (thr d L) ↦{fullShare} lst L iv from congrArg _ (fetched L iv fs))) $$ Hs'
  ihave Hs2 := (Entails.of_eq ((lists_split d L (lst L iv)).trans (four _))) $$ Hs1
  icases Hs2 with ⟨Hl0, Hl1, Hl2, Hl3⟩
  ihave Hr1 := (Entails.of_eq ((pts_rV d L fr).symm.trans ((rows_split d L fr).trans (four _)))) $$ Hr
  icases Hr1 with ⟨Hd0, Hd1, Hd2, Hd3⟩
  ihave Ht := (Entails.of_eq ((table_split d L (tq (wid L)) tv).trans (four _))) $$ Hx
  icases Ht with ⟨Ht0, Ht1, Ht2, Ht3⟩
  imod (Transfers.batch_alloc' countersEmb (c := thr d L) (default : HIx 1) rowN (Dl d L tv iv hin (tq (wid L)) fr) (E := Set.univ)) $$ HsemA with Hb
  iapply (gather_step d L tv iv hin (tq (wid L)) fr 0 0 rfl) $$ [Ht0 Hd0 Hl0 Hb]
  · isplitl [Ht0]; · iexact Ht0
    isplitl [Hd0]; · iexact Hd0
    isplitl [Hl0]; · iexact Hl0
    iexact Hb
  iintro Hb
  sl_exec
  iapply (gather_step d L tv iv hin (tq (wid L)) fr 1 128 rfl) $$ [Ht1 Hd1 Hl1 Hb]
  · isplitl [Ht1]; · iexact Ht1
    isplitl [Hd1]; · iexact Hd1
    isplitl [Hl1]; · iexact Hl1
    iexact Hb
  iintro Hb
  sl_exec
  iapply (gather_step d L tv iv hin (tq (wid L)) fr 2 256 rfl) $$ [Ht2 Hd2 Hl2 Hb]
  · isplitl [Ht2]; · iexact Ht2
    isplitl [Hd2]; · iexact Hd2
    isplitl [Hl2]; · iexact Hl2
    iexact Hb
  iintro Hb
  sl_exec
  iapply (gather_step d L tv iv hin (tq (wid L)) fr 3 384 rfl) $$ [Ht3 Hd3 Hl3 Hb]
  · isplitl [Ht3]; · iexact Ht3
    isplitl [Hd3]; · iexact Hd3
    isplitl [Hl3]; · iexact Hl3
    iexact Hb
  iintro Hb
  sl_exec
  iapply (Transfers.wp_waitBatchMulO countersEmb 𝒱₀ (thr d L) none (default : HIx 1) (N := rowN) 128 (credit_dstJ 0)
      (D := Dl d L tv iv hin (tq (wid L)) fr) (j := 512) (u := 0) (by rw [Nat.mul_comm rowN 512]; omega)) $$ [Hb HO]
  · isplitl [Hb]; · iexact Hb
    isplitl [HO]; · iexact HO
    iapply (Transfers.MayWaits.elim (SemLoc.dma cc1_scratch2.sem)) $$ Hmw
  iintro ⟨Hb, HO⟩
  sl_exec
  iapply (Transfers.wp_waitBatchMulO countersEmb 𝒱₀ (thr d L) none (default : HIx 1) (N := rowN) 128 (credit_dstJ 1)
      (D := Dl d L tv iv hin (tq (wid L)) fr) (j := 512) (u := 0 + 128 * rowN) (by rw [Nat.mul_comm rowN 512]; omega)) $$ [Hb HO]
  · isplitl [Hb]; · iexact Hb
    isplitl [HO]; · iexact HO
    iapply (Transfers.MayWaits.elim (SemLoc.dma cc1_scratch2.sem)) $$ Hmw
  iintro ⟨Hb, HO⟩
  sl_exec
  iapply (Transfers.wp_waitBatchMulO countersEmb 𝒱₀ (thr d L) none (default : HIx 1) (N := rowN) 128 (credit_dstJ 2)
      (D := Dl d L tv iv hin (tq (wid L)) fr) (j := 512) (u := 0 + 128 * rowN + 128 * rowN) (by rw [Nat.mul_comm rowN 512]; omega)) $$ [Hb HO]
  · isplitl [Hb]; · iexact Hb
    isplitl [HO]; · iexact HO
    iapply (Transfers.MayWaits.elim (SemLoc.dma cc1_scratch2.sem)) $$ Hmw
  iintro ⟨Hb, HO⟩
  sl_step
  iapply (Transfers.wp_waitBatchMulO countersEmb 𝒱₀ (thr d L) none (default : HIx 1) (N := rowN) 128 (credit_dstJ 3)
      (D := Dl d L tv iv hin (tq (wid L)) fr) (j := 512) (u := 0 + 128 * rowN + 128 * rowN + 128 * rowN) (by rw [Nat.mul_comm rowN 512]; omega)) $$ [Hb HO]
  · isplitl [Hb]; · iexact Hb
    isplitl [HO]; · iexact HO
    iapply (Transfers.MayWaits.elim (SemLoc.dma cc1_scratch2.sem)) $$ Hmw
  iintro ⟨Hb, HO⟩
  imod (Transfers.batch_collect' countersEmb (thr d L) rowN_pos (D := Dl d L tv iv hin (tq (wid L)) fr)) $$ [Hb] with ⟨HD, HsemA⟩
  · have e : 0 + 128 * rowN + 128 * rowN + 128 * rowN + 128 * rowN = rowN * (4 * 128) := by omega
    rw [← e]; iexact Hb
  ihave HD' := (Dl_join d L tv iv hin (tq (wid L)) fr) $$ HD
  icases HD' with ⟨Hr', Hx', Hs'⟩
  rw [ret_then]
  sl_exec
  sl_step
  isplitl [Hi' Hx' Ho']
  · isplitl [Hi']; · iapply (Entails.of_eq (pts_iRowK (F := F) d L _)); iexact Hi'
    isplitl [Hx']; · iexact Hx'
    ihave Ho1 := (Entails.of_eq (show ((oRowK L).view.loc (thr d L) ↦[(oRowK L).view.set]{fullShare}
        (oRowK L).view.writes (Elt F) fo [⟨Rect.whole S4x128x128, tile_body.sl.dma0_1 L tv iv hin⟩] : sProp 𝕄) = _
      from pointsTo_congr (written L tv iv hin fo))) $$ Ho'
    iapply (Entails.of_eq (pts_oRowK (F := F) d L _)); iexact Ho1
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  iterate 6 (rcases Finset.mem_insert.mp hp with hp | hp; · exact .inr (hp ▸ rfl))
  exact .inl hp

end Tile

end Cert.KernelIdeal.Sc
-- ==== Proof.ScLaunch.lean ====
module

public import proofs.«01_k».proof.Proof.ScTile

/-!
# The SparseCore call as its launch sees it

What the call's handshakes carry — to each of the two cores its sixteen tiles' rows of the row numbers, shares of the table and
rows of the output — and the obligations of the launch theorem on its tiles.
-/

@[expose] public section

noncomputable section

namespace Cert.KernelIdeal.Sc

open Cert.KernelIdeal Cert.KernelIdeal.Gen
open Cert.Proof.GatherBatch

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "tV" => (Memref.whole Cert.KernelIdeal.main_v13_scv : Memref Cert.KernelIdeal.sig Kind.scVector Space.hbm Cert.KernelIdeal.S8192x128 EltTy.f32)
local notation "iV" => (Memref.whole Cert.KernelIdeal.main_v12_scv : Memref Cert.KernelIdeal.sig Kind.scVector Space.hbm Cert.KernelIdeal.S32x4x128 EltTy.i32)
local notation "oV" => (Memref.whole Cert.KernelIdeal.main_v14_scv : Memref Cert.KernelIdeal.sig Kind.scVector Space.hbm Cert.KernelIdeal.S32x4x128x128 EltTy.f32)
local notation "sV" => (Memref.whole Cert.KernelIdeal.cc1_scratch0 : Memref Cert.KernelIdeal.sig Kind.scVector Space.vmem Cert.KernelIdeal.S4x128 EltTy.i32)
local notation "rV" => (Memref.whole Cert.KernelIdeal.cc1_scratch1 : Memref Cert.KernelIdeal.sig Kind.scVector Space.vmem Cert.KernelIdeal.S4x128x128 EltTy.f32)

-- the row numbers, the table and the output's initial contents, on each device
variable (iv : Dev nD → S32x4x128.Idx → Elt F .i32) (tv : Dev nD → S8192x128.Idx → Elt F .f32)
  (fo : Dev nD → S32x4x128x128.Idx → Elt F .f32) (hin : ∀ d x, (iv d x).toNat < 8192)

/-- The grid's coordinates of a core and a subcore. -/
def coordsV (c : Fin (grid1.bound 0)) (s : Fin (grid1.bound 1)) : grid1.Coords :=
  fun | 0 => c | 1 => s | ⟨_ + 2, h⟩ => absurd h (Nat.not_lt.2 (Nat.le_add_left _ _))

/-- The tile's number from its core's and its subcore's. -/
def widOf (c : Fin 2) (s : Fin 16) : Fin 32 := ⟨2 * s.val + c.val, by omega⟩

/-- What one tile is given, and what it gives back. -/
abbrev goPts (d : Dev nD) (w : Fin 32) : sProp 𝕄 := iprop(iRowPts d (iv d) w ∗ tShPts d (tv d) w ∗ oRowPts d (fo d) w)
abbrev tdPts (d : Dev nD) (w : Fin 32) : sProp 𝕄 := iprop(iRowPts d (iv d) w ∗ tShPts d (tv d) w ∗ oRowPts d (gath (tv d) (iv d) (hin d)) w)

/-- What the call's handshakes carry. -/
def P : (K (F := F)).Pay (nD := nD) (Val := Elt F) (Name := ℕ) (U := UU) where
  st := fun q d c => match q with | 0 => bigSep Finset.univ fun s : Fin 16 => goPts iv tv fo d (widOf (Fin.cast nCore_zero c) s)
  dn := fun q d c => match q with | 0 => bigSep Finset.univ fun s : Fin 16 => tdPts iv tv hin d (widOf (Fin.cast nCore_zero c) s)
  go := fun q d c i => match q with | 0 => goPts iv tv fo d (widOf (Fin.cast nCore_zero c) (Fin.cast nSub_zero i))
  td := fun q d c i => match q with | 0 => tdPts iv tv hin d (widOf (Fin.cast nCore_zero c) (Fin.cast nSub_zero i))
  x := fun _ _ => iprop(emp)

instance P_storable : (P iv tv fo hin).IsStorable where
  st q d c := match q with
    | 0 => (inferInstance : BI.Storable (upEmb : UEmb _ 𝕄) (bigSep Finset.univ fun s : Fin 16 => goPts iv tv fo d (widOf (Fin.cast nCore_zero c) s)))
  dn q d c := match q with
    | 0 => (inferInstance : BI.Storable (upEmb : UEmb _ 𝕄) (bigSep Finset.univ fun s : Fin 16 => tdPts iv tv hin d (widOf (Fin.cast nCore_zero c) s)))
  go q d c i := match q with
    | 0 => (inferInstance : BI.Storable (upEmb : UEmb _ 𝕄) (goPts iv tv fo d (widOf (Fin.cast nCore_zero c) (Fin.cast nSub_zero i))))
  td q d c i := match q with
    | 0 => (inferInstance : BI.Storable (upEmb : UEmb _ 𝕄) (tdPts iv tv hin d (widOf (Fin.cast nCore_zero c) (Fin.cast nSub_zero i))))

theorem defs₀_vector [FloatOps F] (c : Fin τ.nSC) (s : Fin τ.nSub) :
    defs₀ (F := F) (.scVector c s) 1 ()
      = SparseCore.onTile hcore1 hsub1 (fun c s => cc1__gather_body (coordsV c s)
          tV (Memref.isWhole_whole _) iV (Memref.isWhole_whole _) oV (Memref.isWhole_whole _)
          sV (Memref.isWhole_whole _) rV (Memref.isWhole_whole _) cc1_scratch2 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [FloatOps F] (hF : (K (F := F)).Facts) : (K (F := F)).TileObl (D (F := F)) 𝒱 (P iv tv fo hin) v₀ 0 := by
  intro d c i O W hO _ _
  simp only [show (P iv tv fo hin).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tv d) (iv d) (hin d) hF (fo d) O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P iv tv fo hin) 0 := by
  intro d c
  show (bigSep Finset.univ fun s : Fin 16 => goPts iv tv fo d (widOf (Fin.cast nCore_zero c) s)) ⊢ |={Set.univ}=> iprop(
      (bigSep Finset.univ fun i : Fin ((K (F := F)).nSub 0) => goPts iv tv fo d (widOf (Fin.cast nCore_zero c) (Fin.cast nSub_zero i)))
      ∗ ((bigSep Finset.univ fun i : Fin ((K (F := F)).nSub 0) => tdPts iv tv hin d (widOf (Fin.cast nCore_zero c) (Fin.cast nSub_zero i)))
          -∗ (bigSep Finset.univ fun s : Fin 16 => tdPts iv tv hin d (widOf (Fin.cast nCore_zero c) s))))
  rw [bigSep_tasks (F := F) (fun s => goPts iv tv fo d (widOf (Fin.cast nCore_zero c) s)),
    bigSep_tasks (F := F) (fun s => tdPts iv tv hin d (widOf (Fin.cast nCore_zero c) s))]
  iintro H; imodintro
  isplitl [H]; · iexact H
  iintro H; iexact H

/-! ## The arrays as the tiles' rows and shares -/

theorem iRowSet_eq (i : Fin 32) : iRowSet i = (irow i).set := by
  show ((View.whole (main_v12_scv : Ref sig .scVector)).slice (irow i)).set = _
  rw [View.set_slice]; exact Finset.map_refl
theorem oRowSet_eq (i : Fin 32) : oRowSet i = (orow i).set := by
  show ((View.whole (main_v14_scv : Ref sig .scVector)).slice (orow i)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)
theorem iPts_rows (d : Dev nD) (f : Buf (Elt F) (iLoc d)) :
    (iLoc d ↦{fullShare} f : sProp 𝕄) = bigSep Finset.univ fun i : Fin 32 => iLoc d ↦[iRowSet i]{fullShare} f := by
  rw [← pointsTo_biUnion Finset.univ (ℓ := iLoc d) iRowSet irows_disjoint, irows_cover]
theorem oPts_rows (d : Dev nD) (f : Buf (Elt F) (oLoc d)) :
    (oLoc d ↦{fullShare} f : sProp 𝕄) = bigSep Finset.univ fun i : Fin 32 => oLoc d ↦[oRowSet i]{fullShare} f := by
  rw [← pointsTo_biUnion Finset.univ (ℓ := oLoc d) oRowSet orows_disjoint, orows_cover]
theorem tPts_shares (d : Dev nD) (f : Buf (Elt F) (tLoc d)) :
    (tLoc d ↦{fullShare} f : sProp 𝕄) = bigSep Finset.univ fun i : Fin 32 => tLoc d ↦{tq i} f :=
  pointsTo_piecesOf Finset.univ f (by decide) fullShare

/-- The tiles, core by core and subcore by subcore. -/
theorem bigSep_wid (Φ : Fin 32 → sProp 𝕄) :
    bigSep Finset.univ Φ = bigSep Finset.univ fun c : Fin 2 => bigSep Finset.univ fun s : Fin 16 => Φ (widOf c s) := by
  rw [bigSep_univ_equiv ((Equiv.prodComm (Fin 2) (Fin 16)).trans (finProdFinEquiv (m := 16) (n := 2))), bigSep_univ_prod]
  exact bigSep_congr fun c _ => bigSep_congr fun s _ => congrArg Φ (Fin.ext (Nat.add_comm _ _))

/-- What `@main` hands the call, and what it gets back. -/
theorem st0_eq (d : Dev nD) : (bigSep Finset.univ fun c : Fin ((K (F := F)).nCore 0) => (P iv tv fo hin).st 0 d c)
    = iprop((iLoc d ↦{fullShare} iv d) ∗ (tLoc d ↦{fullShare} tv d) ∗ (oLoc d ↦{fullShare} fo d)) := by
  refine (bigSep_cores (F := F) (fun c => bigSep Finset.univ fun s : Fin 16 => goPts iv tv fo d (widOf c s))).trans ?_
  rw [← bigSep_wid (fun w => goPts iv tv fo d w), bigSep_sep', bigSep_sep', iPts_rows, tPts_shares, oPts_rows]
theorem dn0_eq (d : Dev nD) : (bigSep Finset.univ fun c : Fin ((K (F := F)).nCore 0) => (P iv tv fo hin).dn 0 d c)
    = iprop((iLoc d ↦{fullShare} iv d) ∗ (tLoc d ↦{fullShare} tv d) ∗ (oLoc d ↦{fullShare} gath (tv d) (iv d) (hin d))) := by
  refine (bigSep_cores (F := F) (fun c => bigSep Finset.univ fun s : Fin 16 => tdPts iv tv hin d (widOf c s))).trans ?_
  rw [← bigSep_wid (fun w => tdPts iv tv hin d w), bigSep_sep', bigSep_sep', iPts_rows, tPts_shares, oPts_rows]

end Cert.KernelIdeal.Sc
-- ==== Proof.TcRuns.lean ====
module

public import proofs.«01_k».proof.Proof.Gen.KernelIdeal.Launch
public import proofs.«01_k».proof.Proof.ScTile
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-!
# The TensorCore call's body inside the whole kernel: what its runs share

The windows' blocks of arbitrary entry contents, the branch condition over the grid, and the staging memrefs.
-/

@[expose] public section

-- membership in a rectangle of production extents (`View.cover_of_tiled`): the elaborator's structural look
-- recurses once per coordinate of the long axes
set_option maxRecDepth 16384

noncomputable section

namespace Cert.KernelIdeal.Tc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)
open Cert.KernelIdeal Cert.KernelIdeal.Gen

variable {F : FTy → Type} [FloatOps F]

local notation "𝕄" => MT nD τ sig (HIx 1) (Elt F) ℕ Sc.UU ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) (HIx 1) ℕ Sc.UU ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) (HIx 1) ℕ Sc.UU ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) (HIx 1) ℕ Sc.UU ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) (HIx 1) ℕ Sc.UU ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-! ## The kernel body on any staging memrefs: a subtype the run finds -/

/-- One staging buffer of output window 4, through which its contents are stated (`View.read_writes_of_cover`: the
    choice does not matter). -/
abbrev VO0_4 : View sig .tc .vmem S256x8192 .f32 := (Memref.whole cc0_stg4_0 : Memref sig .tc .vmem S256x8192 .f32).view
/-- One staging buffer of output window 5, through which its contents are stated (`View.read_writes_of_cover`: the
    choice does not matter). -/
abbrev VO0_5 : View sig .tc .vmem S1x1x256 .i32 := (Memref.whole cc0_stg5_0 : Memref sig .tc .vmem S1x1x256 .i32).view
/-- One staging buffer of output window 6, through which its contents are stated (`View.read_writes_of_cover`: the
    choice does not matter). -/
abbrev VO0_6 : View sig .tc .vmem S1x8192 .f32 := (Memref.whole cc0_stg6_0 : Memref sig .tc .vmem S1x8192 .f32).view
/-- One staging buffer of output window 7, through which its contents are stated (`View.read_writes_of_cover`: the
    choice does not matter). -/
abbrev VO0_7 : View sig .tc .vmem S1x1 .f32 := (Memref.whole cc0_stg7_0 : Memref sig .tc .vmem S1x1 .f32).view
/-- Each window's current staging memref at point `t`, spelled as the pipeline passes it (`bodyAt0`), and its wholeness. -/
abbrev ms0_0 (t : Fin cfg0.N) : Memref sig .tc .vmem S256x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8192 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)

end Cert.KernelIdeal.Tc

end
-- ==== Proof.TcRunA.lean ====
module

public import proofs.«01_k».proof.Proof.TcRuns

/-!
# The TensorCore call's body inside the whole kernel: its run at the first grid point
-/

@[expose] public section

-- membership in a rectangle of production extents (`View.cover_of_tiled`): the elaborator's structural look
-- recurses once per coordinate of the long axes
set_option maxRecDepth 16384

noncomputable section

namespace Cert.KernelIdeal.Tc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)
open Cert.KernelIdeal Cert.KernelIdeal.Gen

variable {F : FTy → Type} [FloatOps F]

local notation "𝕄" => MT nD τ sig (HIx 1) (Elt F) ℕ Sc.UU ℕ

variable (V : (c : Dev nD) → (b : Ref sig .tc) → Buf (Elt F) ((c : Thread nD τ).loc b))

-- (the run's proof term is large: the definition's epilogue — `abstractNestedProofs` — walks it past the default budget)
set_option maxHeartbeats 2152000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x64 .f32) (harg1 : arg1.IsWhole) (arg2 : Memref sig .tc .vmem S64x8192 .f32) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x8192 .f32) (harg5 : arg5.IsWhole) (arg6 : Memref sig .tc .vmem S1x1x256 .i32) (harg6 : arg6.IsWhole) (arg7 : Memref sig .tc .vmem S1x8192 .f32) (harg7 : arg7.IsWhole) (arg8 : Memref sig .tc .vmem S1x1 .f32) (harg8 : arg8.IsWhole) (hc0 : cond0_0 i)
    (x0 : Vec F S256x64 .f32) (x1 : Vec F S64x8192 .f32) (x2 : Vec F S256x1 .f32) (x3 : Vec F S1x8192 .f32) :
    Σ' (L4 : List (View.Piece (Elt F) S256x8192 .f32)), Σ' (L5 : List (View.Piece (Elt F) S1x1x256 .i32)), Σ' (L6 : List (View.Piece (Elt F) S1x8192 .f32)), { L7 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0__vq_body i arg1 harg1 arg2 harg2 arg3 harg3 arg4 harg4 arg5 harg5 arg6 harg6 arg7 harg7 arg8 harg8) K } := by
  refine ⟨?_, ?_, ?_, ?_, fun E K => ?run⟩
  case run =>
    simp only [cc0__vq_body_eq_skeleton]; unfold cc0__vq_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact H7

end Cert.KernelIdeal.Tc

end
-- ==== Proof.TcRunB.lean ====
module

public import proofs.«01_k».proof.Proof.TcRunA

/-!
# The TensorCore call's body inside the whole kernel: its run at the later grid points
-/

@[expose] public section

-- membership in a rectangle of production extents (`View.cover_of_tiled`): the elaborator's structural look
-- recurses once per coordinate of the long axes
set_option maxRecDepth 16384

noncomputable section

namespace Cert.KernelIdeal.Tc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)
open Cert.KernelIdeal Cert.KernelIdeal.Gen

variable {F : FTy → Type} [FloatOps F]

local notation "𝕄" => MT nD τ sig (HIx 1) (Elt F) ℕ Sc.UU ℕ

variable (V : (c : Dev nD) → (b : Ref sig .tc) → Buf (Elt F) ((c : Thread nD τ).loc b))

-- (the run's proof term is large: the definition's epilogue — `abstractNestedProofs` — walks it past the default budget)
set_option maxHeartbeats 2136000 in
/-- What the body's stores leave in each output's staging memref, as pieces (last first) IN CASE B (`scf.if` 0 not taken: points 1, 2, … 63: 63 of 64), WITH the
    proof that on whole staging memrefs — the inputs' at their contents, the outputs it reads before covering (6, 7) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x64 .f32) (harg1 : arg1.IsWhole) (arg2 : Memref sig .tc .vmem S64x8192 .f32) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x8192 .f32) (harg5 : arg5.IsWhole) (arg6 : Memref sig .tc .vmem S1x1x256 .i32) (harg6 : arg6.IsWhole) (arg7 : Memref sig .tc .vmem S1x8192 .f32) (harg7 : arg7.IsWhole) (arg8 : Memref sig .tc .vmem S1x1 .f32) (harg8 : arg8.IsWhole) (hc0 : ¬cond0_0 i)
    (x0 : Vec F S256x64 .f32) (x1 : Vec F S64x8192 .f32) (x2 : Vec F S256x1 .f32) (x3 : Vec F S1x8192 .f32) (xo6 : Vec F S1x8192 .f32) (xo7 : Vec F S1x1 .f32) :
    Σ' (L4 : List (View.Piece (Elt F) S256x8192 .f32)), Σ' (L5 : List (View.Piece (Elt F) S1x1x256 .i32)), Σ' (L6 : List (View.Piece (Elt F) S1x8192 .f32)), { L7 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xo6 ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0__vq_body i arg1 harg1 arg2 harg2 arg3 harg3 arg4 harg4 arg5 harg5 arg6 harg6 arg7 harg7 arg8 harg8) K } := by
  refine ⟨?_, ?_, ?_, ?_, fun E K => ?run⟩
  case run =>
    simp only [cc0__vq_body_eq_skeleton]; unfold cc0__vq_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2; obtain rfl := harg4.eq_unread hf3; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact H7

end Cert.KernelIdeal.Tc

end
-- ==== Proof.TcBody.lean ====
module

public import proofs.«01_k».proof.Proof.TcRunB
public import Idealize.ShloMosaic.Lib.Claim

/-!
# The TensorCore call's body inside the whole kernel

What the outputs hold point by point, the pipeline's proof data over arbitrary entry contents, and the body's obligation.
-/

@[expose] public section

-- membership in a rectangle of production extents (`View.cover_of_tiled`): the elaborator's structural look
-- recurses once per coordinate of the long axes
set_option maxRecDepth 16384

noncomputable section

namespace Cert.KernelIdeal.Tc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)
open Cert.KernelIdeal Cert.KernelIdeal.Gen

variable {F : FTy → Type} [FloatOps F]

local notation "𝕄" => MT nD τ sig (HIx 1) (Elt F) ℕ Sc.UU ℕ

variable (V : (c : Dev nD) → (b : Ref sig .tc) → Buf (Elt F) ((c : Thread nD τ).loc b))
/-- Case A's pieces for output 4 tile its block (64 stores of `S256x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S256x64 .f32) (harg1 : arg1.IsWhole) (arg2 : Memref sig .tc .vmem S64x8192 .f32) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x8192 .f32) (harg5 : arg5.IsWhole) (arg6 : Memref sig .tc .vmem S1x1x256 .i32) (harg6 : arg6.IsWhole) (arg7 : Memref sig .tc .vmem S1x8192 .f32) (harg7 : arg7.IsWhole) (arg8 : Memref sig .tc .vmem S1x1 .f32) (harg8 : arg8.IsWhole) (hc0 : cond0_0 i)
    (x0 : Vec F S256x64 .f32) (x1 : Vec F S64x8192 .f32) (x2 : Vec F S256x1 .f32) (x3 : Vec F S1x8192 .f32) (y : S256x8192.Idx) :
    ∃ pc ∈ (kernelRun0_A c i arg1 harg1 arg2 harg2 arg3 harg3 arg4 harg4 arg5 harg5 arg6 harg6 arg7 harg7 arg8 harg8 hc0 x0 x1 x2 x3).1, y ∈ pc.1.set :=
  View.cover_of_tiledL (kernelRun0_A c i arg1 harg1 arg2 harg2 arg3 harg3 arg4 harg4 arg5 harg5 arg6 harg6 arg7 harg7 arg8 harg8 hc0 x0 x1 x2 x3).1 S256x128.size (by sl_kernel_rfl) y

/-- What case A leaves in output 4's staging buffer: its pieces read back over junk. -/
def out0_A_4 (c : Dev nD) (i : grid0.Coords) (arg1 : Memref sig .tc .vmem S256x64 .f32) (harg1 : arg1.IsWhole) (arg2 : Memref sig .tc .vmem S64x8192 .f32) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x8192 .f32) (harg5 : arg5.IsWhole) (arg6 : Memref sig .tc .vmem S1x1x256 .i32) (harg6 : arg6.IsWhole) (arg7 : Memref sig .tc .vmem S1x8192 .f32) (harg7 : arg7.IsWhole) (arg8 : Memref sig .tc .vmem S1x1 .f32) (harg8 : arg8.IsWhole) (hc0 : cond0_0 i)
    (x0 : Vec F S256x64 .f32) (x1 : Vec F S64x8192 .f32) (x2 : Vec F S256x1 .f32) (x3 : Vec F S1x8192 .f32) : Vec F S256x8192 .f32 :=
  VO0_4.read (Elt F) (VO0_4.writes (Elt F) VO0_4.junk (kernelRun0_A c i arg1 harg1 arg2 harg2 arg3 harg3 arg4 harg4 arg5 harg5 arg6 harg6 arg7 harg7 arg8 harg8 hc0 x0 x1 x2 x3).1)

/-- Case A's pieces for output 5 tile its block (1 store of `S1x1x256`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x64 .f32) (harg1 : arg1.IsWhole) (arg2 : Memref sig .tc .vmem S64x8192 .f32) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x8192 .f32) (harg5 : arg5.IsWhole) (arg6 : Memref sig .tc .vmem S1x1x256 .i32) (harg6 : arg6.IsWhole) (arg7 : Memref sig .tc .vmem S1x8192 .f32) (harg7 : arg7.IsWhole) (arg8 : Memref sig .tc .vmem S1x1 .f32) (harg8 : arg8.IsWhole) (hc0 : cond0_0 i)
    (x0 : Vec F S256x64 .f32) (x1 : Vec F S64x8192 .f32) (x2 : Vec F S256x1 .f32) (x3 : Vec F S1x8192 .f32) (y : S1x1x256.Idx) :
    ∃ pc ∈ (kernelRun0_A c i arg1 harg1 arg2 harg2 arg3 harg3 arg4 harg4 arg5 harg5 arg6 harg6 arg7 harg7 arg8 harg8 hc0 x0 x1 x2 x3).2.1, y ∈ pc.1.set :=
  View.cover_of_tiledL (kernelRun0_A c i arg1 harg1 arg2 harg2 arg3 harg3 arg4 harg4 arg5 harg5 arg6 harg6 arg7 harg7 arg8 harg8 hc0 x0 x1 x2 x3).2.1 S1x1x256.size (by sl_kernel_rfl) y

/-- What case A leaves in output 5's staging buffer: its pieces read back over junk. -/
def out0_A_5 (c : Dev nD) (i : grid0.Coords) (arg1 : Memref sig .tc .vmem S256x64 .f32) (harg1 : arg1.IsWhole) (arg2 : Memref sig .tc .vmem S64x8192 .f32) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x8192 .f32) (harg5 : arg5.IsWhole) (arg6 : Memref sig .tc .vmem S1x1x256 .i32) (harg6 : arg6.IsWhole) (arg7 : Memref sig .tc .vmem S1x8192 .f32) (harg7 : arg7.IsWhole) (arg8 : Memref sig .tc .vmem S1x1 .f32) (harg8 : arg8.IsWhole) (hc0 : cond0_0 i)
    (x0 : Vec F S256x64 .f32) (x1 : Vec F S64x8192 .f32) (x2 : Vec F S256x1 .f32) (x3 : Vec F S1x8192 .f32) : Vec F S1x1x256 .i32 :=
  VO0_5.read (Elt F) (VO0_5.writes (Elt F) VO0_5.junk (kernelRun0_A c i arg1 harg1 arg2 harg2 arg3 harg3 arg4 harg4 arg5 harg5 arg6 harg6 arg7 harg7 arg8 harg8 hc0 x0 x1 x2 x3).2.1)

/-- Case A's pieces for output 6 are of SEVERAL sizes (65 stores of `S1x128`, `S1x8192`): cut into blocks of `![1, 128]` they tile its block (checked by the kernel's evaluation: Lib/Ring.lean `Piece.tiledBy`), so they cover it. -/
theorem cover0_A_6 (c : Dev nD) (i : grid0.Coords) (arg1 : Memref sig .tc .vmem S256x64 .f32) (harg1 : arg1.IsWhole) (arg2 : Memref sig .tc .vmem S64x8192 .f32) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x8192 .f32) (harg5 : arg5.IsWhole) (arg6 : Memref sig .tc .vmem S1x1x256 .i32) (harg6 : arg6.IsWhole) (arg7 : Memref sig .tc .vmem S1x8192 .f32) (harg7 : arg7.IsWhole) (arg8 : Memref sig .tc .vmem S1x1 .f32) (harg8 : arg8.IsWhole) (hc0 : cond0_0 i)
    (x0 : Vec F S256x64 .f32) (x1 : Vec F S64x8192 .f32) (x2 : Vec F S256x1 .f32) (x3 : Vec F S1x8192 .f32) (y : S1x8192.Idx) :
    ∃ pc ∈ (kernelRun0_A c i arg1 harg1 arg2 harg2 arg3 harg3 arg4 harg4 arg5 harg5 arg6 harg6 arg7 harg7 arg8 harg8 hc0 x0 x1 x2 x3).2.2.1, y ∈ pc.1.set :=
  View.cover_of_tiledBy (kernelRun0_A c i arg1 harg1 arg2 harg2 arg3 harg3 arg4 harg4 arg5 harg5 arg6 harg6 arg7 harg7 arg8 harg8 hc0 x0 x1 x2 x3).2.2.1 ![1, 128] (by sl_kernel_rfl) y

/-- What case A leaves in output 6's staging buffer: its pieces read back over junk. -/
def out0_A_6 (c : Dev nD) (i : grid0.Coords) (arg1 : Memref sig .tc .vmem S256x64 .f32) (harg1 : arg1.IsWhole) (arg2 : Memref sig .tc .vmem S64x8192 .f32) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x8192 .f32) (harg5 : arg5.IsWhole) (arg6 : Memref sig .tc .vmem S1x1x256 .i32) (harg6 : arg6.IsWhole) (arg7 : Memref sig .tc .vmem S1x8192 .f32) (harg7 : arg7.IsWhole) (arg8 : Memref sig .tc .vmem S1x1 .f32) (harg8 : arg8.IsWhole) (hc0 : cond0_0 i)
    (x0 : Vec F S256x64 .f32) (x1 : Vec F S64x8192 .f32) (x2 : Vec F S256x1 .f32) (x3 : Vec F S1x8192 .f32) : Vec F S1x8192 .f32 :=
  VO0_6.read (Elt F) (VO0_6.writes (Elt F) VO0_6.junk (kernelRun0_A c i arg1 harg1 arg2 harg2 arg3 harg3 arg4 harg4 arg5 harg5 arg6 harg6 arg7 harg7 arg8 harg8 hc0 x0 x1 x2 x3).2.2.1)

/-- Case A's pieces for output 7 tile its block (2 stores of `S1x1`, checked by the kernel's evaluation: Lib/Ring.lean `Piece.tiledL`, linear in the pieces, through a loop's `@[irreducible]` trip theorem too), so they cover it. -/
theorem cover0_A_7 (c : Dev nD) (i : grid0.Coords) (arg1 : Memref sig .tc .vmem S256x64 .f32) (harg1 : arg1.IsWhole) (arg2 : Memref sig .tc .vmem S64x8192 .f32) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x8192 .f32) (harg5 : arg5.IsWhole) (arg6 : Memref sig .tc .vmem S1x1x256 .i32) (harg6 : arg6.IsWhole) (arg7 : Memref sig .tc .vmem S1x8192 .f32) (harg7 : arg7.IsWhole) (arg8 : Memref sig .tc .vmem S1x1 .f32) (harg8 : arg8.IsWhole) (hc0 : cond0_0 i)
    (x0 : Vec F S256x64 .f32) (x1 : Vec F S64x8192 .f32) (x2 : Vec F S256x1 .f32) (x3 : Vec F S1x8192 .f32) (y : S1x1.Idx) :
    ∃ pc ∈ (kernelRun0_A c i arg1 harg1 arg2 harg2 arg3 harg3 arg4 harg4 arg5 harg5 arg6 harg6 arg7 harg7 arg8 harg8 hc0 x0 x1 x2 x3).2.2.2.1, y ∈ pc.1.set :=
  View.cover_of_tiledL (kernelRun0_A c i arg1 harg1 arg2 harg2 arg3 harg3 arg4 harg4 arg5 harg5 arg6 harg6 arg7 harg7 arg8 harg8 hc0 x0 x1 x2 x3).2.2.2.1 S1x1.size (by sl_kernel_rfl) y

/-- What case A leaves in output 7's staging buffer: its pieces read back over junk. -/
def out0_A_7 (c : Dev nD) (i : grid0.Coords) (arg1 : Memref sig .tc .vmem S256x64 .f32) (harg1 : arg1.IsWhole) (arg2 : Memref sig .tc .vmem S64x8192 .f32) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x8192 .f32) (harg5 : arg5.IsWhole) (arg6 : Memref sig .tc .vmem S1x1x256 .i32) (harg6 : arg6.IsWhole) (arg7 : Memref sig .tc .vmem S1x8192 .f32) (harg7 : arg7.IsWhole) (arg8 : Memref sig .tc .vmem S1x1 .f32) (harg8 : arg8.IsWhole) (hc0 : cond0_0 i)
    (x0 : Vec F S256x64 .f32) (x1 : Vec F S64x8192 .f32) (x2 : Vec F S256x1 .f32) (x3 : Vec F S1x8192 .f32) : Vec F S1x1 .f32 :=
  VO0_7.read (Elt F) (VO0_7.writes (Elt F) VO0_7.junk (kernelRun0_A c i arg1 harg1 arg2 harg2 arg3 harg3 arg4 harg4 arg5 harg5 arg6 harg6 arg7 harg7 arg8 harg8 hc0 x0 x1 x2 x3).2.2.2.1)

/-- Case B's pieces for output 4 tile its block (64 stores of `S256x128`, checked by the kernel's evaluation: Lib/Ring.lean `Piece.tiledL`, linear in the pieces, through a loop's `@[irreducible]` trip theorem too), so they cover it. -/
theorem cover0_B_4 (c : Dev nD) (i : grid0.Coords) (arg1 : Memref sig .tc .vmem S256x64 .f32) (harg1 : arg1.IsWhole) (arg2 : Memref sig .tc .vmem S64x8192 .f32) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x8192 .f32) (harg5 : arg5.IsWhole) (arg6 : Memref sig .tc .vmem S1x1x256 .i32) (harg6 : arg6.IsWhole) (arg7 : Memref sig .tc .vmem S1x8192 .f32) (harg7 : arg7.IsWhole) (arg8 : Memref sig .tc .vmem S1x1 .f32) (harg8 : arg8.IsWhole) (hc0 : ¬cond0_0 i)
    (x0 : Vec F S256x64 .f32) (x1 : Vec F S64x8192 .f32) (x2 : Vec F S256x1 .f32) (x3 : Vec F S1x8192 .f32) (xo6 : Vec F S1x8192 .f32) (xo7 : Vec F S1x1 .f32) (y : S256x8192.Idx) :
    ∃ pc ∈ (kernelRun0_B c i arg1 harg1 arg2 harg2 arg3 harg3 arg4 harg4 arg5 harg5 arg6 harg6 arg7 harg7 arg8 harg8 hc0 x0 x1 x2 x3 xo6 xo7).1, y ∈ pc.1.set :=
  View.cover_of_tiledL (kernelRun0_B c i arg1 harg1 arg2 harg2 arg3 harg3 arg4 harg4 arg5 harg5 arg6 harg6 arg7 harg7 arg8 harg8 hc0 x0 x1 x2 x3 xo6 xo7).1 S256x128.size (by sl_kernel_rfl) y

/-- What case B leaves in output 4's staging buffer: its pieces read back over junk. -/
def out0_B_4 (c : Dev nD) (i : grid0.Coords) (arg1 : Memref sig .tc .vmem S256x64 .f32) (harg1 : arg1.IsWhole) (arg2 : Memref sig .tc .vmem S64x8192 .f32) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x8192 .f32) (harg5 : arg5.IsWhole) (arg6 : Memref sig .tc .vmem S1x1x256 .i32) (harg6 : arg6.IsWhole) (arg7 : Memref sig .tc .vmem S1x8192 .f32) (harg7 : arg7.IsWhole) (arg8 : Memref sig .tc .vmem S1x1 .f32) (harg8 : arg8.IsWhole) (hc0 : ¬cond0_0 i)
    (x0 : Vec F S256x64 .f32) (x1 : Vec F S64x8192 .f32) (x2 : Vec F S256x1 .f32) (x3 : Vec F S1x8192 .f32) (xo6 : Vec F S1x8192 .f32) (xo7 : Vec F S1x1 .f32) : Vec F S256x8192 .f32 :=
  VO0_4.read (Elt F) (VO0_4.writes (Elt F) VO0_4.junk (kernelRun0_B c i arg1 harg1 arg2 harg2 arg3 harg3 arg4 harg4 arg5 harg5 arg6 harg6 arg7 harg7 arg8 harg8 hc0 x0 x1 x2 x3 xo6 xo7).1)

/-- Case B's pieces for output 5 tile its block (1 store of `S1x1x256`, checked by the kernel's evaluation: Lib/Ring.lean `Piece.tiledL`, linear in the pieces, through a loop's `@[irreducible]` trip theorem too), so they cover it. -/
theorem cover0_B_5 (c : Dev nD) (i : grid0.Coords) (arg1 : Memref sig .tc .vmem S256x64 .f32) (harg1 : arg1.IsWhole) (arg2 : Memref sig .tc .vmem S64x8192 .f32) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x8192 .f32) (harg5 : arg5.IsWhole) (arg6 : Memref sig .tc .vmem S1x1x256 .i32) (harg6 : arg6.IsWhole) (arg7 : Memref sig .tc .vmem S1x8192 .f32) (harg7 : arg7.IsWhole) (arg8 : Memref sig .tc .vmem S1x1 .f32) (harg8 : arg8.IsWhole) (hc0 : ¬cond0_0 i)
    (x0 : Vec F S256x64 .f32) (x1 : Vec F S64x8192 .f32) (x2 : Vec F S256x1 .f32) (x3 : Vec F S1x8192 .f32) (xo6 : Vec F S1x8192 .f32) (xo7 : Vec F S1x1 .f32) (y : S1x1x256.Idx) :
    ∃ pc ∈ (kernelRun0_B c i arg1 harg1 arg2 harg2 arg3 harg3 arg4 harg4 arg5 harg5 arg6 harg6 arg7 harg7 arg8 harg8 hc0 x0 x1 x2 x3 xo6 xo7).2.1, y ∈ pc.1.set :=
  View.cover_of_tiledL (kernelRun0_B c i arg1 harg1 arg2 harg2 arg3 harg3 arg4 harg4 arg5 harg5 arg6 harg6 arg7 harg7 arg8 harg8 hc0 x0 x1 x2 x3 xo6 xo7).2.1 S1x1x256.size (by sl_kernel_rfl) y

/-- What case B leaves in output 5's staging buffer: its pieces read back over junk. -/
def out0_B_5 (c : Dev nD) (i : grid0.Coords) (arg1 : Memref sig .tc .vmem S256x64 .f32) (harg1 : arg1.IsWhole) (arg2 : Memref sig .tc .vmem S64x8192 .f32) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x8192 .f32) (harg5 : arg5.IsWhole) (arg6 : Memref sig .tc .vmem S1x1x256 .i32) (harg6 : arg6.IsWhole) (arg7 : Memref sig .tc .vmem S1x8192 .f32) (harg7 : arg7.IsWhole) (arg8 : Memref sig .tc .vmem S1x1 .f32) (harg8 : arg8.IsWhole) (hc0 : ¬cond0_0 i)
    (x0 : Vec F S256x64 .f32) (x1 : Vec F S64x8192 .f32) (x2 : Vec F S256x1 .f32) (x3 : Vec F S1x8192 .f32) (xo6 : Vec F S1x8192 .f32) (xo7 : Vec F S1x1 .f32) : Vec F S1x1x256 .i32 :=
  VO0_5.read (Elt F) (VO0_5.writes (Elt F) VO0_5.junk (kernelRun0_B c i arg1 harg1 arg2 harg2 arg3 harg3 arg4 harg4 arg5 harg5 arg6 harg6 arg7 harg7 arg8 harg8 hc0 x0 x1 x2 x3 xo6 xo7).2.1)

/-- Case B's pieces for output 6 tile its block (64 stores of `S1x128`, checked by the kernel's evaluation: Lib/Ring.lean `Piece.tiledL`, linear in the pieces, through a loop's `@[irreducible]` trip theorem too), so they cover it. -/
theorem cover0_B_6 (c : Dev nD) (i : grid0.Coords) (arg1 : Memref sig .tc .vmem S256x64 .f32) (harg1 : arg1.IsWhole) (arg2 : Memref sig .tc .vmem S64x8192 .f32) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x8192 .f32) (harg5 : arg5.IsWhole) (arg6 : Memref sig .tc .vmem S1x1x256 .i32) (harg6 : arg6.IsWhole) (arg7 : Memref sig .tc .vmem S1x8192 .f32) (harg7 : arg7.IsWhole) (arg8 : Memref sig .tc .vmem S1x1 .f32) (harg8 : arg8.IsWhole) (hc0 : ¬cond0_0 i)
    (x0 : Vec F S256x64 .f32) (x1 : Vec F S64x8192 .f32) (x2 : Vec F S256x1 .f32) (x3 : Vec F S1x8192 .f32) (xo6 : Vec F S1x8192 .f32) (xo7 : Vec F S1x1 .f32) (y : S1x8192.Idx) :
    ∃ pc ∈ (kernelRun0_B c i arg1 harg1 arg2 harg2 arg3 harg3 arg4 harg4 arg5 harg5 arg6 harg6 arg7 harg7 arg8 harg8 hc0 x0 x1 x2 x3 xo6 xo7).2.2.1, y ∈ pc.1.set :=
  View.cover_of_tiledL (kernelRun0_B c i arg1 harg1 arg2 harg2 arg3 harg3 arg4 harg4 arg5 harg5 arg6 harg6 arg7 harg7 arg8 harg8 hc0 x0 x1 x2 x3 xo6 xo7).2.2.1 S1x128.size (by sl_kernel_rfl) y

/-- What case B leaves in output 6's staging buffer: its pieces read back over junk. -/
def out0_B_6 (c : Dev nD) (i : grid0.Coords) (arg1 : Memref sig .tc .vmem S256x64 .f32) (harg1 : arg1.IsWhole) (arg2 : Memref sig .tc .vmem S64x8192 .f32) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x8192 .f32) (harg5 : arg5.IsWhole) (arg6 : Memref sig .tc .vmem S1x1x256 .i32) (harg6 : arg6.IsWhole) (arg7 : Memref sig .tc .vmem S1x8192 .f32) (harg7 : arg7.IsWhole) (arg8 : Memref sig .tc .vmem S1x1 .f32) (harg8 : arg8.IsWhole) (hc0 : ¬cond0_0 i)
    (x0 : Vec F S256x64 .f32) (x1 : Vec F S64x8192 .f32) (x2 : Vec F S256x1 .f32) (x3 : Vec F S1x8192 .f32) (xo6 : Vec F S1x8192 .f32) (xo7 : Vec F S1x1 .f32) : Vec F S1x8192 .f32 :=
  VO0_6.read (Elt F) (VO0_6.writes (Elt F) VO0_6.junk (kernelRun0_B c i arg1 harg1 arg2 harg2 arg3 harg3 arg4 harg4 arg5 harg5 arg6 harg6 arg7 harg7 arg8 harg8 hc0 x0 x1 x2 x3 xo6 xo7).2.2.1)

/-- Case B's pieces for output 7 tile its block (1 store of `S1x1`, checked by the kernel's evaluation: Lib/Ring.lean `Piece.tiledL`, linear in the pieces, through a loop's `@[irreducible]` trip theorem too), so they cover it. -/
theorem cover0_B_7 (c : Dev nD) (i : grid0.Coords) (arg1 : Memref sig .tc .vmem S256x64 .f32) (harg1 : arg1.IsWhole) (arg2 : Memref sig .tc .vmem S64x8192 .f32) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x8192 .f32) (harg5 : arg5.IsWhole) (arg6 : Memref sig .tc .vmem S1x1x256 .i32) (harg6 : arg6.IsWhole) (arg7 : Memref sig .tc .vmem S1x8192 .f32) (harg7 : arg7.IsWhole) (arg8 : Memref sig .tc .vmem S1x1 .f32) (harg8 : arg8.IsWhole) (hc0 : ¬cond0_0 i)
    (x0 : Vec F S256x64 .f32) (x1 : Vec F S64x8192 .f32) (x2 : Vec F S256x1 .f32) (x3 : Vec F S1x8192 .f32) (xo6 : Vec F S1x8192 .f32) (xo7 : Vec F S1x1 .f32) (y : S1x1.Idx) :
    ∃ pc ∈ (kernelRun0_B c i arg1 harg1 arg2 harg2 arg3 harg3 arg4 harg4 arg5 harg5 arg6 harg6 arg7 harg7 arg8 harg8 hc0 x0 x1 x2 x3 xo6 xo7).2.2.2.1, y ∈ pc.1.set :=
  View.cover_of_tiledL (kernelRun0_B c i arg1 harg1 arg2 harg2 arg3 harg3 arg4 harg4 arg5 harg5 arg6 harg6 arg7 harg7 arg8 harg8 hc0 x0 x1 x2 x3 xo6 xo7).2.2.2.1 S1x1.size (by sl_kernel_rfl) y

/-- What case B leaves in output 7's staging buffer: its pieces read back over junk. -/
def out0_B_7 (c : Dev nD) (i : grid0.Coords) (arg1 : Memref sig .tc .vmem S256x64 .f32) (harg1 : arg1.IsWhole) (arg2 : Memref sig .tc .vmem S64x8192 .f32) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x8192 .f32) (harg5 : arg5.IsWhole) (arg6 : Memref sig .tc .vmem S1x1x256 .i32) (harg6 : arg6.IsWhole) (arg7 : Memref sig .tc .vmem S1x8192 .f32) (harg7 : arg7.IsWhole) (arg8 : Memref sig .tc .vmem S1x1 .f32) (harg8 : arg8.IsWhole) (hc0 : ¬cond0_0 i)
    (x0 : Vec F S256x64 .f32) (x1 : Vec F S64x8192 .f32) (x2 : Vec F S256x1 .f32) (x3 : Vec F S1x8192 .f32) (xo6 : Vec F S1x8192 .f32) (xo7 : Vec F S1x1 .f32) : Vec F S1x1 .f32 :=
  VO0_7.read (Elt F) (VO0_7.writes (Elt F) VO0_7.junk (kernelRun0_B c i arg1 harg1 arg2 harg2 arg3 harg3 arg4 harg4 arg5 harg5 arg6 harg6 arg7 harg7 arg8 harg8 hc0 x0 x1 x2 x3 xo6 xo7).2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x8192 .f32 × Vec F S1x1x256 .i32 × Vec F S1x8192 .f32 × Vec F S1x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (iblk V c 0 ⟨0, hn⟩) (iblk V c 1 ⟨0, hn⟩) (iblk V c 2 ⟨0, hn⟩) (iblk V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (iblk V c 0 ⟨0, hn⟩) (iblk V c 1 ⟨0, hn⟩) (iblk V c 2 ⟨0, hn⟩) (iblk V c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (iblk V c 0 ⟨0, hn⟩) (iblk V c 1 ⟨0, hn⟩) (iblk V c 2 ⟨0, hn⟩) (iblk V c 3 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (iblk V c 0 ⟨0, hn⟩) (iblk V c 1 ⟨0, hn⟩) (iblk V c 2 ⟨0, hn⟩) (iblk V c 3 ⟨0, hn⟩))
  | n + 1, hn =>
    if h0 : (n + 1) % 64 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 64 = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk V c 0 t) (iblk V c 1 t) (iblk V c 2 t) (iblk V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk V c 0 t) (iblk V c 1 t) (iblk V c 2 t) (iblk V c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk V c 0 t) (iblk V c 1 t) (iblk V c 2 t) (iblk V c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk V c 0 t) (iblk V c 1 t) (iblk V c 2 t) (iblk V c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 64 = 0) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk V c 0 t) (iblk V c 1 t) (iblk V c 2 t) (iblk V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the scoped
    rest; owed throughout what the thread owes the SparseCore call to come; full shares. -/
def dats (_ : Fin 1) (c : Dev nD) : Dat τ (Elt F) (HIx 1) ℕ Sc.UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 V c t.val t.isLt).1
    | ⟨5, _⟩ => (outsAt0 V c t.val t.isLt).2.1
    | ⟨6, _⟩ => (outsAt0 V c t.val t.isLt).2.2.1
    | ⟨7, _⟩ => (outsAt0 V c t.val t.isLt).2.2.2
  Φ _ := Pipeline.scopedRest spec0 c
  q _ := fullShare
  owed _ := (Sc.K (F := F)).Otc c 0
  recorded _ := {p | (Sc.K (F := F)).lev ((c : Thread nD τ), p.1) p.2 ≤ 0}

/-- The proof data's arrays are the region-entry contents: the proof data's definition projected (`dsimp`), so that
    `V` — a fold over @main's host prefix, long for some programs — is never unfolded to check it. -/
theorem A_eq (c : Dev nD) (w : Fin cfg0.W) : (dats V 0 c).A w = V c (Pipeline.arrRef spec0 w) := by
  dsimp only [dats]

/-- What the body leaves, window by window (the proof data's `match` reduced by `dsimp`). -/
theorem after0_0 (c : Dev nD) (t : Fin cfg0.N) : (dats V 0 c).after 0 t = iblk V c 0 t := by dsimp only [dats]
theorem after0_1 (c : Dev nD) (t : Fin cfg0.N) : (dats V 0 c).after 1 t = iblk V c 1 t := by dsimp only [dats]
theorem after0_2 (c : Dev nD) (t : Fin cfg0.N) : (dats V 0 c).after 2 t = iblk V c 2 t := by dsimp only [dats]
theorem after0_3 (c : Dev nD) (t : Fin cfg0.N) : (dats V 0 c).after 3 t = iblk V c 3 t := by dsimp only [dats]
theorem after0_4 (c : Dev nD) (t : Fin cfg0.N) : (dats V 0 c).after 4 t = (outsAt0 V c t.val t.isLt).1 := by dsimp only [dats]
theorem after0_5 (c : Dev nD) (t : Fin cfg0.N) : (dats V 0 c).after 5 t = (outsAt0 V c t.val t.isLt).2.1 := by dsimp only [dats]
theorem after0_6 (c : Dev nD) (t : Fin cfg0.N) : (dats V 0 c).after 6 t = (outsAt0 V c t.val t.isLt).2.2.1 := by dsimp only [dats]
theorem after0_7 (c : Dev nD) (t : Fin cfg0.N) : (dats V 0 c).after 7 t = (outsAt0 V c t.val t.isLt).2.2.2 := by dsimp only [dats]

/-- Each input's current staging buffer holds its block at every point, fetched there or not (`beforeK_W_of`). -/
theorem before0_0 (c : Dev nD) (t : Fin cfg0.N) (d) : (dats V 0 c).before 0 t d = iblk V c 0 t :=
  before0_0_of V (dats V 0 c) (A_eq V c 0) (after0_0 V c) t d
theorem before0_1 (c : Dev nD) (t : Fin cfg0.N) (d) : (dats V 0 c).before 1 t d = iblk V c 1 t :=
  before0_1_of V (dats V 0 c) (A_eq V c 1) (after0_1 V c) t d
theorem before0_2 (c : Dev nD) (t : Fin cfg0.N) (d) : (dats V 0 c).before 2 t d = iblk V c 2 t :=
  before0_2_of V (dats V 0 c) (A_eq V c 2) (after0_2 V c) t d
theorem before0_3 (c : Dev nD) (t : Fin cfg0.N) (d) : (dats V 0 c).before 3 t d = iblk V c 3 t :=
  before0_3_of V (dats V 0 c) (A_eq V c 3) (after0_3 V c) t d
/-- At a point of case B output 6's current staging buffer holds what the body left at the point before: the point is
    not the first, the buffer was not written back between (`flush0_6`), the window is live and uncut (Lib/Pipeline/Frame.lean
    `Dat.before_out_kept`). -/
theorem before0_6_B (c : Dev nD) (t : Fin cfg0.N) (h0 : ¬t.val % 64 = 0) (d) :
    (dats V 0 c).before 6 t d = (outsAt0 V c (t.val - 1) (Nat.lt_of_le_of_lt (Nat.sub_le _ _) t.isLt)).2.2.1 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dats]
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h0 : ¬t.val % 64 = 0) (d) :
    (dats V 0 c).before 7 t d = (outsAt0 V c (t.val - 1) (Nat.lt_of_le_of_lt (Nat.sub_le _ _) t.isLt)).2.2.2 := by
  have hN : t.val < 64 := lt_of_lt_of_eq t.isLt (show cfg0.N = 64 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats V 0 c).Φ t.castSucc ∗ (dats V 0 c).owesAt none t.castSucc
    ∗ (∃ d, owns (c : Thread nD τ) (ms0_0 t) fullShare ((dats V 0 c).before 0 t d))
    ∗ (∃ d, owns (c : Thread nD τ) (ms0_1 t) fullShare ((dats V 0 c).before 1 t d))
    ∗ (∃ d, owns (c : Thread nD τ) (ms0_2 t) fullShare ((dats V 0 c).before 2 t d))
    ∗ (∃ d, owns (c : Thread nD τ) (ms0_3 t) fullShare ((dats V 0 c).before 3 t d))
    ∗ (∃ d, owns (c : Thread nD τ) (ms0_4 t) fullShare ((dats V 0 c).before 4 t d))
    ∗ (∃ d, owns (c : Thread nD τ) (ms0_5 t) fullShare ((dats V 0 c).before 5 t d))
    ∗ (∃ d, owns (c : Thread nD τ) (ms0_6 t) fullShare ((dats V 0 c).before 6 t d))
    ∗ (∃ d, owns (c : Thread nD τ) (ms0_7 t) fullShare ((dats V 0 c).before 7 t d)))

/-- and what it returns. -/
def bodyPost (c : Dev nD) (t : Fin cfg0.N) : sProp 𝕄 :=
  iprop((dats V 0 c).Φ t.succ ∗ (dats V 0 c).owesAt none t.succ
    ∗ owns (c : Thread nD τ) (ms0_0 t) fullShare ((dats V 0 c).after 0 t)
    ∗ owns (c : Thread nD τ) (ms0_1 t) fullShare ((dats V 0 c).after 1 t)
    ∗ owns (c : Thread nD τ) (ms0_2 t) fullShare ((dats V 0 c).after 2 t)
    ∗ owns (c : Thread nD τ) (ms0_3 t) fullShare ((dats V 0 c).after 3 t)
    ∗ owns (c : Thread nD τ) (ms0_4 t) fullShare ((dats V 0 c).after 4 t)
    ∗ owns (c : Thread nD τ) (ms0_5 t) fullShare ((dats V 0 c).after 5 t)
    ∗ owns (c : Thread nD τ) (ms0_6 t) fullShare ((dats V 0 c).after 6 t)
    ∗ owns (c : Thread nD τ) (ms0_7 t) fullShare ((dats V 0 c).after 7 t))

set_option maxHeartbeats 1600000 in
/-- The body at any point: the inputs' memrefs hold their blocks (`before0_W`); the closed forms say which case the point is in (`by_cases`), an output the case reads before covering holds what the point before left (`before0_W_κ`); so the
    run applies; the invariant and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dats V 0 c).Φ t.succ = (dats V 0 c).Φ t.castSucc from rfl,
    show (dats V 0 c).owesAt none t.succ = (dats V 0 c).owesAt none t.castSucc from rfl,
    after0_0, after0_1, after0_2, after0_3, after0_4, after0_5, after0_6, after0_7]
  have hN : t.val < 64 := lt_of_lt_of_eq t.isLt (show cfg0.N = 64 from N_0)
  by_cases h0 : t.val % 64 = 0
  · rw [outsAt0_A V c t h0]
    unfold out0_A_4 out0_A_5 out0_A_6 out0_A_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ ((hcond0_0 t).mpr h0) (iblk V c 0 t) (iblk V c 1 t) (iblk V c 2 t) (iblk V c 3 t)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, ⟨%e4, H4⟩, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _)
    unfold owns; iexists _; isplitr
    swap; · iexact H7
    ipureintro; exact View.read_writes_of_cover _ _ _ _ _ (cover0_A_7 c _ _ _ _ _ _ _ _ _ _ _ _ _ _ _ _ _ _ _ _ _ _)
  · rw [outsAt0_B V c t h0]
    simp only [before0_6_B V c t h0, before0_7_B V c t h0]
    unfold out0_B_4 out0_B_5 out0_B_6 out0_B_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ (fun h => h0 ((hcond0_0 t).mp h)) (iblk V c 0 t) (iblk V c 1 t) (iblk V c 2 t) (iblk V c 3 t) _ _).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    iintro ⟨H0, H1, H2, H3, ⟨%e4, H4⟩, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _)
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _)
    unfold owns; iexists _; isplitr
    swap; · iexact H7
    ipureintro; exact View.read_writes_of_cover _ _ _ _ _ (cover0_B_7 c _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  rfl

/-- The library's body obligation, at every point: the body's triple restated (Lib/Pipeline/FrameBody.lean `triple_restated`). -/
theorem body_obligation (c : Dev nD) : BodyObligation (dats (F := F) V 0 c) (defs₀ (F := F)) Variants.none none Set.univ := fun t => by
  rw [bigSep_W0, bigSep_W0, defs₀_row]
  exact triple_restated (sound_body V c t) rfl .rfl fun _ => .rfl

end Cert.KernelIdeal.Tc

end
-- ==== Proof.TcRegion.lean ====
module

public import proofs.«01_k».proof.Proof.TcBody
public import proofs.«01_k».proof.Proof.Gen.KernelIdeal.Launch
public import Idealize.ShloMosaic.Lib.Pipeline.Frame
public import Idealize.ShloMosaic.Lib.Pipeline.Regions
public import Idealize.ShloMosaic.Lib.Tactic

/-!
# The TensorCore call as a region of the whole kernel's `@main`

Entered from every unscoped buffer at a valuation and from what the thread owes the SparseCore call to come; left with the call's
arrays at their final contents and the same owed.
-/

@[expose] public section

noncomputable section

namespace Cert.KernelIdeal.Tc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)
open Cert.KernelIdeal Cert.KernelIdeal.Gen

variable {F : FTy → Type} [FloatOps F]

local notation "𝕄" => MT nD τ sig (HIx 1) (Elt F) ℕ Sc.UU ℕ

/-- No table is prefetched. -/
abbrev adm : (p : Fin 1) → (pcfgs (F := F) p).Adm := fun q => (cfgs q).toPCfg_adm

/-- What the thread owes the SparseCore call is owed at the call's own index. -/
theorem Otc_none (d : Dev nD) (n : ℕ) (g : GSem nD τ sig) : (Sc.K (F := F)).Otc d n g (none : HIx 1) = 0 := by
  by_contra h
  have := SparseCore.Cfg.lev_of_Otc_pos (K := Sc.K (F := F)) (Nat.pos_of_ne_zero h)
  rw [SparseCore.Cfg.lev_none] at this; omega

-- the valuation that the region finds and the one it leaves, and what rides along
variable (V Vp : (c : Dev nD) → (b : Ref sig .tc) → Buf (Elt F) ((c : Thread nD τ).loc b))

/-- What the thread owes, its recorded waits all below the SparseCore call's. -/
abbrev owesTc (c : Dev nD) : sProp 𝕄 :=
  iprop(∃ W, ⌜(Sc.K (F := F)).WBelow (SparseCore.T c) W 0⌝ ∗ owes (SparseCore.T c) ((Sc.K (F := F)).Otc c 0) W)

set_option backward.isDefEq.respectTransparency.types false in
/-- The region: its arrays split out of the unscoped buffers at entry and put back at exit. -/
def reg (R : Dev nD → sProp 𝕄) (hVp_arr : ∀ c w, (dats V 0 c).arrAt w cfg0.N = Vp c (Pipeline.arrRef spec0 w))
    (hVp_ne : ∀ c (b : Ref sig .tc), b ∉ Finset.univ.image (Pipeline.arrRef spec0) → Vp c b = V c b) :
    Pipeline.RegionSeg (pcfgs (F := F)) adm (dats V) (none : HIx 1) defs₀ Variants.none
      (Sc.K (F := F)).L (Sc.K (F := F)).lev 0 where
  win := (launch0).win.to₀
  block_pos := (launch0).block_pos
  stage_whole := (launch0).stage_whole
  K := PEmpty
  osem k := k.elim
  ho := Pipeline.OwnSemFacts.none _
  hbody c := (body_obligation V c).loose
  hwaits c := Pipeline.cellsWaits_intro (Pipeline.pin (pcfgs (F := F)) adm) (dats V) (none : HIx 1) 0 c fun w s t =>
    (Sc.K (F := F)).mayWait_none _ (Otc_none c 0)
  pre c := iprop(unscopedBufs c (V c) ∗ R c ∗ owesTc c)
  post c := iprop(unscopedBufs c (Vp c) ∗ R c ∗ owesTc c)
  X _ := BI.emp
  Y _ := BI.emp
  Z c := iprop(Pipeline.unscopedRest (Ix := HIx 1) (Name := ℕ) (U := Sc.UU) (Lvl := ℕ) spec0 c (V c) ∗ R c)
  hentry c := by
    rw [Pipeline.ownSems0_none]
    have hsplit := Pipeline.arrays_of_unscopedBufs (p := 0) (pcfgs (F := F)) adm (dats V) (launch0).win (launch0).arr_whole c
      ((dats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    isplitl [Hrest] <;> iassumption
  hin c := by
    rw [show (dats V 0 c).Φ 0 = Pipeline.scopedRest spec0 c from rfl]
    iintro ⟨-, -, Hr⟩; iexact Hr
  hout c := by
    rw [Pipeline.ownSems0_none, show (dats V 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := Sc.UU) (Lvl := ℕ)
      (launch0).win (launch0).arr_whole c
      (dats V) ((dats V 0 c).share_full fun _ => rfl) (V c) (Vp c) ((dats V 0 c).arrAt · cfg0.N)
      (hVp_arr c) (hVp_ne c)
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro
      intro p hp
      rcases hW hp with h | ⟨w, s, rfl⟩
      · exact h
      · exact le_of_eq (SparseCore.Cfg.lev_none _ _)
    iexact HO

end Cert.KernelIdeal.Tc

end
-- ==== Proof.HostOps.lean ====
module

public import proofs.«01_k».proof.Proof.ScLaunch
public import proofs.«01_k».proof.Proof.TcRegion
public import Idealize.ShloMosaic.Lib.StableHlo.Run

/-!
# The whole kernel's `@main`: its host operations and what every buffer holds between its calls

`ops0` come before the TensorCore call, `ops1` and the padding's two operations between the two calls, `ops2` after the SparseCore
call. `V1` … `V5` are the buffers' contents after each.
-/

@[expose] public section

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.StableHlo (after launchContents)
open Cert.KernelIdeal Cert.KernelIdeal.Gen

variable {F : FTy → Type} [FloatOps F]

/-- The operations before the TensorCore call. -/
abbrev ops0 : List (HloOp τ sig (Elt F)) :=
  [ StableHlo.unary main_arg0 main_v0 ((transpose S16x32x32x64 [0, 2, 3, 1] · transposes_S16x64x32x32_S16x32x32x64_0_2_3_1) : (⟨S16x64x32x32, .f32⟩ : BufTy).Contents (Elt F) → (⟨S16x32x32x64, .f32⟩ : BufTy).Contents (Elt F)),
    StableHlo.reshape main_v0 main_v1 (rfl : (.f32 : EltTy) = .f32) shapeCasts_S16x32x32x64_S16384x64,
    StableHlo.binary main_v1 main_v1 main_v2 (mulf : (⟨S16384x64, .f32⟩ : BufTy).Contents (Elt F) → (⟨S16384x64, .f32⟩ : BufTy).Contents (Elt F) → (⟨S16384x64, .f32⟩ : BufTy).Contents (Elt F)),
    StableHlo.nullary main_cst (constant S_ .f32 0x00000000#32),
    StableHlo.binary main_v2 main_cst main_v3 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.unary main_v3 main_v4 (broadcastInDim S16384x1 ![0] bcast_S16384_S16384x1_0 : (⟨S16384, .f32⟩ : BufTy).Contents (Elt F) → (⟨S16384x1, .f32⟩ : BufTy).Contents (Elt F)),
    StableHlo.binary main_arg1 main_arg1 main_v5 (mulf : (⟨S8192x64, .f32⟩ : BufTy).Contents (Elt F) → (⟨S8192x64, .f32⟩ : BufTy).Contents (Elt F) → (⟨S8192x64, .f32⟩ : BufTy).Contents (Elt F)),
    StableHlo.nullary main_cst_0 (constant S_ .f32 0x00000000#32),
    StableHlo.binary main_v5 main_cst_0 main_v6 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.reshape main_v6 main_v7 (rfl : (.f32 : EltTy) = .f32) shapeCasts_S8192_S1x8192,
    StableHlo.unary main_arg1 main_v8 ((transpose S64x8192 [1, 0] · transposes_S8192x64_S64x8192_1_0) : (⟨S8192x64, .f32⟩ : BufTy).Contents (Elt F) → (⟨S64x8192, .f32⟩ : BufTy).Contents (Elt F)),
    StableHlo.nullary main_cst_1 (constant S_ .f32 0x40000000#32),
    StableHlo.unary main_cst_1 main_v9 (broadcastInDim S64x8192 ![] bcast_S_S64x8192 : (⟨S_, .f32⟩ : BufTy).Contents (Elt F) → (⟨S64x8192, .f32⟩ : BufTy).Contents (Elt F)),
    StableHlo.binary main_v8 main_v9 main_v10 (mulf : (⟨S64x8192, .f32⟩ : BufTy).Contents (Elt F) → (⟨S64x8192, .f32⟩ : BufTy).Contents (Elt F) → (⟨S64x8192, .f32⟩ : BufTy).Contents (Elt F)) ]
theorem ops0_sub : (ops0 : List (HloOp τ sig (Elt F))).Forall fun op => op.bufs ⊆ StableHlo.tcRefs τ sig :=
  ⟨StableHlo.unary_bufs_sub .., StableHlo.reshape_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.reshape_bufs_sub .., StableHlo.unary_bufs_sub .., StableHlo.nullary_bufs_sub .., StableHlo.unary_bufs_sub .., StableHlo.binary_bufs_sub ..⟩
theorem ops0_fresh : (ops0 : List (HloOp τ sig (Elt F))).Forall fun op => op.fresh = ∅ :=
  ⟨rfl, rfl, rfl, rfl, rfl, rfl, rfl, rfl, rfl, rfl, rfl, rfl, rfl, rfl⟩

/-- The row numbers reshaped, and the padding's constant. -/
abbrev ops1 : List (HloOp τ sig (Elt F)) :=
  [ StableHlo.reshape main_v11_1 main_v12 (rfl : (.i32 : EltTy) = .i32) shapeCasts_S64x1x256_S32x4x128,
    StableHlo.nullary main_c (constantI S_ 32 0#32) ]
theorem ops1_sub : (ops1 : List (HloOp τ sig (Elt F))).Forall fun op => op.bufs ⊆ StableHlo.tcRefs τ sig :=
  ⟨StableHlo.reshape_bufs_sub .., StableHlo.nullary_bufs_sub ..⟩
theorem ops1_fresh : (ops1 : List (HloOp τ sig (Elt F))).Forall fun op => op.fresh = ∅ :=
  ⟨rfl, rfl⟩

/-- The table padded to 128 columns. -/
abbrev opsP : List (HloOp τ sig (Elt F)) :=
  [ StableHlo.unary main_c main_call0_v0 (sitofp .f32 : (⟨S_, .i32⟩ : BufTy).Contents (Elt F) → (⟨S_, .f32⟩ : BufTy).Contents (Elt F)),
    StableHlo.binary main_arg1 main_call0_v0 main_v13 ((fun x v => pad S8192x128 ![0, 0] ![0, 64] ![0, 0] x v pads_S8192x64_S8192x128_000_0640 h_S_) : (⟨S8192x64, .f32⟩ : BufTy).Contents (Elt F) → (⟨S_, .f32⟩ : BufTy).Contents (Elt F) → (⟨S8192x128, .f32⟩ : BufTy).Contents (Elt F)) ]
theorem opsP_sub : (opsP : List (HloOp τ sig (Elt F))).Forall fun op => op.bufs ⊆ StableHlo.tcRefs τ sig :=
  ⟨StableHlo.unary_bufs_sub .., StableHlo.binary_bufs_sub ..⟩
theorem opsP_fresh : (opsP : List (HloOp τ sig (Elt F))).Forall fun op => op.fresh = ∅ :=
  ⟨rfl, rfl⟩

/-- The operations after the SparseCore call. -/
abbrev ops2 : List (HloOp τ sig (Elt F)) :=
  [ StableHlo.reshape main_v14 main_v15 (rfl : (.f32 : EltTy) = .f32) shapeCasts_S32x4x128x128_S16384x128,
    StableHlo.unary main_v15 main_v16 ((extractStridedSlice S16384x64 ![0, 0] · slices_S16384x128_S16384x64_0_0) : (⟨S16384x128, .f32⟩ : BufTy).Contents (Elt F) → (⟨S16384x64, .f32⟩ : BufTy).Contents (Elt F)),
    StableHlo.reshape main_v16 main_v17 (rfl : (.f32 : EltTy) = .f32) shapeCasts_S16384x64_S16x32x32x64,
    StableHlo.unary main_v17 main_v18 ((transpose S16x64x32x32 [0, 3, 1, 2] · transposes_S16x32x32x64_S16x64x32x32_0_3_1_2) : (⟨S16x32x32x64, .f32⟩ : BufTy).Contents (Elt F) → (⟨S16x64x32x32, .f32⟩ : BufTy).Contents (Elt F)),
    StableHlo.reshape main_v11_3 main_v19 (rfl : (.f32 : EltTy) = .f32) shapeCasts_S1x1_S_,
    StableHlo.nullary main_cst_2 (constant S_ .f32 0x49800000#32),
    StableHlo.binary main_v19 main_cst_2 main_v20 (Host.divf : (⟨S_, .f32⟩ : BufTy).Contents (Elt F) → (⟨S_, .f32⟩ : BufTy).Contents (Elt F) → (⟨S_, .f32⟩ : BufTy).Contents (Elt F)),
    StableHlo.nullary main_cst_3 (constant S_ .f32 0x3E800000#32),
    StableHlo.binary main_cst_3 main_v20 main_v21 (mulf : (⟨S_, .f32⟩ : BufTy).Contents (Elt F) → (⟨S_, .f32⟩ : BufTy).Contents (Elt F) → (⟨S_, .f32⟩ : BufTy).Contents (Elt F)),
    StableHlo.reshape main_v11_2 main_v22 (rfl : (.f32 : EltTy) = .f32) shapeCasts_S1x8192_S8192,
    StableHlo.nullary main_cst_4 (constant S_ .f32 0x46800000#32),
    StableHlo.unary main_cst_4 main_v23 (broadcastInDim S8192 ![] bcast_S_S8192 : (⟨S_, .f32⟩ : BufTy).Contents (Elt F) → (⟨S8192, .f32⟩ : BufTy).Contents (Elt F)),
    StableHlo.binary main_v22 main_v23 main_v24 (Host.divf : (⟨S8192, .f32⟩ : BufTy).Contents (Elt F) → (⟨S8192, .f32⟩ : BufTy).Contents (Elt F) → (⟨S8192, .f32⟩ : BufTy).Contents (Elt F)),
    StableHlo.nullary main_cst_5 (constant S_ .f32 0x2EDBE6FF#32),
    StableHlo.unary main_cst_5 main_v25 (broadcastInDim S8192 ![] bcast_S_S8192 : (⟨S_, .f32⟩ : BufTy).Contents (Elt F) → (⟨S8192, .f32⟩ : BufTy).Contents (Elt F)),
    StableHlo.binary main_v24 main_v25 main_v26 (addf : (⟨S8192, .f32⟩ : BufTy).Contents (Elt F) → (⟨S8192, .f32⟩ : BufTy).Contents (Elt F) → (⟨S8192, .f32⟩ : BufTy).Contents (Elt F)),
    StableHlo.unary main_v26 main_v27 (Host.log : (⟨S8192, .f32⟩ : BufTy).Contents (Elt F) → (⟨S8192, .f32⟩ : BufTy).Contents (Elt F)),
    StableHlo.binary main_v24 main_v27 main_v28 (mulf : (⟨S8192, .f32⟩ : BufTy).Contents (Elt F) → (⟨S8192, .f32⟩ : BufTy).Contents (Elt F) → (⟨S8192, .f32⟩ : BufTy).Contents (Elt F)),
    StableHlo.nullary main_cst_6 (constant S_ .f32 0x00000000#32),
    StableHlo.binary main_v28 main_cst_6 main_v29 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.unary main_v29 main_v30 (Host.negf : (⟨S_, .f32⟩ : BufTy).Contents (Elt F) → (⟨S_, .f32⟩ : BufTy).Contents (Elt F)),
    StableHlo.unary main_v30 main_v31 (Host.exp : (⟨S_, .f32⟩ : BufTy).Contents (Elt F) → (⟨S_, .f32⟩ : BufTy).Contents (Elt F)) ]
theorem ops2_sub : (ops2 : List (HloOp τ sig (Elt F))).Forall fun op => op.bufs ⊆ StableHlo.tcRefs τ sig :=
  ⟨StableHlo.reshape_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub ..⟩
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

set_option maxRecDepth 16384 in
/-- `@main`, operation stretch by operation stretch and call by call. -/
theorem main_chain (d : Dev nD) : main (F := F) d = (Pipeline.chain
    [ StableHlo.seq ops0, Prog.lift (.customCall (SparseCore.inner (Pipeline.entry 0)) ()), StableHlo.seq ops1, StableHlo.seq opsP,
      (sc (F := F)).run d 0, StableHlo.seq ops2 ]
      : Prog (TpuEff nD τ sig (Elt F) (SparseCore.Sig (Pipeline.Sig Λ₀ (Fin 1) fun p => (pcfgs (F := F) p).Adm) 1) .tc) PUnit) := by
  rewrite [StableHlo.chain_seq_cons, Pipeline.chain_cons, StableHlo.chain_seq_cons, StableHlo.chain_seq_cons, Pipeline.chain_cons, StableHlo.chain_seq_cons]
  chain_rfl

/-! ## The buffers' contents -/

variable (m : (ℓ : Loc nD τ sig) → Buf (Elt F) ℓ)

/-- Before the TensorCore call. -/
def V1 (d : Dev nD) : Valuation τ sig (Elt F) := after ops0 (launchContents m d)
/-- The same, at the TensorCore's references. -/
abbrev V1b : (c : Dev nD) → (b : Ref sig .tc) → Buf (Elt F) ((c : Thread nD τ).loc b) := fun c b => V1 m c b
/-- After it: its four results at what the pipeline wrote back. -/
def V2 (d : Dev nD) : Valuation τ sig (Elt F) :=
  Function.update (Function.update (Function.update (Function.update (V1 m d)
    (Proc.devRef .tc main_v11_0) ((Tc.dats (V1b m) 0 d).arrAt 4 cfg0.N))
    (Proc.devRef .tc main_v11_1) ((Tc.dats (V1b m) 0 d).arrAt 5 cfg0.N))
    (Proc.devRef .tc main_v11_2) ((Tc.dats (V1b m) 0 d).arrAt 6 cfg0.N))
    (Proc.devRef .tc main_v11_3) ((Tc.dats (V1b m) 0 d).arrAt 7 cfg0.N)
/-- Before the SparseCore call. -/
def V3 (d : Dev nD) : Valuation τ sig (Elt F) := after opsP (after ops1 (V2 m d))

/-- The row numbers that the SparseCore call reads, and its table. -/
def ivOf (d : Dev nD) : S32x4x128.Idx → Elt F .i32 := V3 m d (Proc.devRef .tc main_v12)
def tvOf (d : Dev nD) : S8192x128.Idx → Elt F .f32 := V3 m d (Proc.devRef .tc main_v13)
def foOf (d : Dev nD) : S32x4x128x128.Idx → Elt F .f32 := V3 m d (Proc.devRef .tc main_v14)

variable (hin : ∀ d x, (ivOf m d x).toNat < 8192)

/-- After the SparseCore call: its result at the gathered rows. -/
def V4 (d : Dev nD) : Valuation τ sig (Elt F) :=
  Function.update (V3 m d) (Proc.devRef .tc main_v14) (Sc.gath (tvOf m d) (ivOf m d) (hin d))
/-- At the end. -/
def V5 (d : Dev nD) : Valuation τ sig (Elt F) := after ops2 (V4 m hin d)

theorem V2_of_ne (d : Dev nD) (b : Ref sig .tc) (h0 : b ≠ main_v11_0) (h1 : b ≠ main_v11_1) (h2 : b ≠ main_v11_2) (h3 : b ≠ main_v11_3) :
    V2 m d b = V1 m d b := by
  unfold V2
  rw [Function.update_of_ne (StableHlo.devRef_ne_of_ne h3), Function.update_of_ne (StableHlo.devRef_ne_of_ne h2),
    Function.update_of_ne (StableHlo.devRef_ne_of_ne h1), Function.update_of_ne (StableHlo.devRef_ne_of_ne h0)]
theorem V2_v11_3 (d : Dev nD) : V2 m d main_v11_3 = (Tc.dats (V1b m) 0 d).arrAt 7 cfg0.N := by
  unfold V2; exact Function.update_self ..
theorem V2_v11_2 (d : Dev nD) : V2 m d main_v11_2 = (Tc.dats (V1b m) 0 d).arrAt 6 cfg0.N := by
  unfold V2
  rw [Function.update_of_ne (StableHlo.devRef_ne_of_ne (by decide : main_v11_2 ≠ main_v11_3))]; exact Function.update_self ..
theorem V2_v11_1 (d : Dev nD) : V2 m d main_v11_1 = (Tc.dats (V1b m) 0 d).arrAt 5 cfg0.N := by
  unfold V2
  rw [Function.update_of_ne (StableHlo.devRef_ne_of_ne (by decide : main_v11_1 ≠ main_v11_3)),
    Function.update_of_ne (StableHlo.devRef_ne_of_ne (by decide : main_v11_1 ≠ main_v11_2))]; exact Function.update_self ..
theorem V2_v11_0 (d : Dev nD) : V2 m d main_v11_0 = (Tc.dats (V1b m) 0 d).arrAt 4 cfg0.N := by
  unfold V2
  rw [Function.update_of_ne (StableHlo.devRef_ne_of_ne (by decide : main_v11_0 ≠ main_v11_3)),
    Function.update_of_ne (StableHlo.devRef_ne_of_ne (by decide : main_v11_0 ≠ main_v11_2)),
    Function.update_of_ne (StableHlo.devRef_ne_of_ne (by decide : main_v11_0 ≠ main_v11_1))]; exact Function.update_self ..
theorem V4_v14 (d : Dev nD) : V4 m hin d main_v14 = Sc.gath (tvOf m d) (ivOf m d) (hin d) := by
  unfold V4; exact Function.update_self ..
theorem V4_of_ne (d : Dev nD) (b : DevRef τ sig) (h : b ≠ Proc.devRef .tc main_v14) : V4 m hin d b = V3 m d b := by
  unfold V4; exact Function.update_of_ne h ..

end Cert.KernelIdeal.Whole

end
-- ==== Proof.MainLaunch.lean ====
module

public import proofs.«01_k».proof.Proof.HostOps
public import Idealize.ShloMosaic.Lib.SparseCore.Quiescent

/-!
# What the whole kernel's run starts from

The ghost state of its launch, and how its buffers split at each of the two calls.
-/

@[expose] public section

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.StableHlo (after launchContents held)
open Cert.KernelIdeal Cert.KernelIdeal.Gen
open Cert.KernelIdeal.Sc (K D 𝒱 v₀ UH UU EH facts)

variable {F : FTy → Type} [FloatOps F]

local notation "𝕄" => MT nD τ sig (HIx 1) (Elt F) ℕ UU ℕ

/-- The pipeline's rounds, second in the ghost state. -/
def EP : Emb (UR sig nD τ) (MT nD τ sig (HIx 1) (Elt F) ℕ UU ℕ) :=
  ((Emb.inl : Emb (UR sig nD τ) (UR sig nD τ × Counters)).trans (Emb.inr : Emb (UR sig nD τ × Counters) UU)).trans
    (uEmb (nD := nD) (sig := sig) (Ix := HIx 1) (Val := Elt F) (Name := ℕ) (U := UU) (Lvl := ℕ)).toEmb

instance EP_landsIn : (EP : Emb (UR sig nD τ) 𝕄).LandsIn (upEmb : UEmb _ 𝕄) := by unfold EP; infer_instance

variable (m : (ℓ : Loc nD τ sig) → Buf (Elt F) ℓ) (ρ : Dev nD → PrngReg)
variable (hin : ∀ d x, (ivOf m d x).toNat < 8192)

/-- What the SparseCore call's handshakes carry, from this launch memory. -/
abbrev PW : (K (F := F)).Pay (nD := nD) (Val := Elt F) (Name := ℕ) (U := UU) := Sc.P (ivOf m) (tvOf m) (foOf m) hin

/-! ## The launch element of the ghost state -/

def uP : UR sig nD τ := initOf (Pipeline.cells cfgs cellOf_inj) (Pipeline.launchToks cfgs cellOf_inj)
def u₀ : UU := (initOf (K (F := F)).hsCells (K (F := F)).hsToks, (uP, 1))

/-- A core's part of the pipeline's ghost state. -/
abbrev G (d : Dev nD) : sProp 𝕄 :=
  iprop(Pipeline.cellsGhost cfgs (EP (F := F)) 0 d ∗ Pipeline.toksInit cfgs (EP (F := F)) 0 d)

theorem own_split (a : UH) (b : UR sig nD τ) :
    (ownU ((a, (b, 1)) : UU) : sProp 𝕄) ⊢ iprop(BI.own (EH (F := F) a) ∗ BI.own (EP (F := F) b)) := by
  refine (ownU_pair a (b, (1 : Counters))).trans (sep_mono_right ?_)
  exact BI.Entails.refl _

theorem bigSep_emp' {I : Type} (s : Finset I) : (bigSep s fun _ => iprop(emp)) = (iprop(emp) : sProp 𝕄) := bigSep_emp_const s

theorem ghost_G : iprop((bigSep Finset.univ fun c : Dev nD => bigSep Finset.univ fun p : Fin 1 => Pipeline.cellsGhost cfgs (EP (F := F)) p c)
      ∗ (bigSep Finset.univ fun c : Dev nD => bigSep Finset.univ fun p : Fin 1 => (Pipeline.toksInit cfgs (EP (F := F)) p c : sProp 𝕄)))
    ⊢ bigSep Finset.univ fun d : Dev nD => G (F := F) d := by
  rw [bigSep_sep']
  exact BIClass.sep_mono (Entails.of_eq (bigSep_congr fun _ _ => bigSep_univ_of_subsingleton (0 : Fin 1)))
    (Entails.of_eq (bigSep_congr fun _ _ => bigSep_univ_of_subsingleton (0 : Fin 1)))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PW m hin).x q thr) := by
  unfold u₀ uP
  iintro Hu
  ihave H := (own_split (F := F) (initOf (K (F := F)).hsCells (K (F := F)).hsToks) _) $$ Hu
  icases H with ⟨HH, HP⟩
  imod (Pipeline.fund_ghost (nD := nD) (τ := τ) cfgs (EP (F := F)) cellOf_inj) $$ HP with HG
  imodintro
  isplitl [HH]; · iexact HH
  isplitl [HG]
  · iapply (ghost_G (F := F)); iexact HG
  rw [show (bigSep Finset.univ fun thr : Thread nD τ => bigSep Finset.univ fun q : Fin 1 => (PW m hin).x q thr) = bigSep Finset.univ fun _ => iprop(emp) from
    bigSep_congr fun _ _ => bigSep_univ_of_subsingleton (0 : Fin 1), bigSep_emp' (F := F)]
  iempintro

/-! ## The region's entry and exit -/

theorem V2_arr (c : Dev nD) (w : Fin cfg0.W) :
    (Tc.dats (V1b m) 0 c).arrAt w cfg0.N = (fun b : Ref sig .tc => V2 m c b) (Pipeline.arrRef spec0 w) := by
  have hin' : ∀ (w : Fin cfg0.W), (cfg0.win w).isOut = false →
      (∀ o ∈ [main_v11_0, main_v11_1, main_v11_2, main_v11_3], Pipeline.arrRef spec0 w ≠ o) →
      (Tc.dats (V1b m) 0 c).arrAt w cfg0.N = V2 m c (Pipeline.arrRef spec0 w) := by
    intro w hw hne
    rw [V2_of_ne m c _ (hne _ (by simp)) (hne _ (by simp)) (hne _ (by simp)) (hne _ (by simp)), (Tc.dats (V1b m) 0 c).arrAt_in w hw]
    rfl
  match w with
  | 0 => exact hin' 0 rfl (by decide)
  | 1 => exact hin' 1 rfl (by decide)
  | 2 => exact hin' 2 rfl (by decide)
  | 3 => exact hin' 3 rfl (by decide)
  | 4 => exact (V2_v11_0 m c).symm
  | 5 => exact (V2_v11_1 m c).symm
  | 6 => exact (V2_v11_2 m c).symm
  | 7 => exact (V2_v11_3 m c).symm
  | ⟨_ + 8, h⟩ => exact absurd h (Nat.not_lt.2 (Nat.le_add_left _ _))

theorem V2_rest (c : Dev nD) (b : Ref sig .tc) (h : b ∉ Finset.univ.image (Pipeline.arrRef spec0)) : V2 m c b = V1 m c b := by
  have hne : ∀ w, b ≠ Pipeline.arrRef spec0 w := fun w e => h (Finset.mem_image.2 ⟨w, Finset.mem_univ _, e.symm⟩)
  exact V2_of_ne m c b (hne 4) (hne 5) (hne 6) (hne 7)

/-- The region of this run. -/
def regW (R : Dev nD → sProp 𝕄) := Tc.reg (F := F) (V1b m) (fun c b => V2 m c b) R (V2_arr m) (fun c b h => V2_rest m c b h)

/-! ## The SparseCore call's arrays among the buffers -/

abbrev scRefs : Finset (DevRef τ sig) := {Proc.devRef .tc main_v12, Proc.devRef .tc main_v13, Proc.devRef .tc main_v14}

theorem held_sc (d : Dev nD) (W : Valuation τ sig (Elt F)) :
    (held (d.tc : Thread nD τ) scRefs W : sProp 𝕄)
      = iprop((Sc.iLoc d ↦{fullShare} W main_v12) ∗ (Sc.tLoc d ↦{fullShare} W main_v13) ∗ (Sc.oLoc d ↦{fullShare} W main_v14)) := by
  unfold held
  rw [SparseCore.bigSep_insert' (by
      simp only [Finset.mem_insert, Finset.mem_singleton, not_or]
      exact ⟨StableHlo.devRef_ne_of_ne (by decide), StableHlo.devRef_ne_of_ne (by decide)⟩),
    SparseCore.bigSep_insert' (by
      simp only [Finset.mem_singleton]
      exact StableHlo.devRef_ne_of_ne (by decide)), bigSep_singleton]

theorem mem_uc (b : Ref sig .tc) (hb : b.isScoped = false) : (Proc.devRef .tc b : DevRef τ sig) ∈ Pipeline.ucRefs τ sig :=
  Finset.mem_filter.mpr ⟨StableHlo.devRef_mem_tcRefs b, by rw [Proc.isScoped_devRef, hb]; exact Bool.false_ne_true⟩

theorem scRefs_sub : scRefs ⊆ Pipeline.ucRefs τ sig := by
  intro b hb
  simp only [Finset.mem_insert, Finset.mem_singleton] at hb
  rcases hb with rfl | rfl | rfl
  · exact mem_uc main_v12 (by decide)
  · exact mem_uc main_v13 (by decide)
  · exact mem_uc main_v14 (by decide)

theorem ops_sub {ops : List (HloOp τ sig (Elt F))} (h : ops.Forall fun op => op.bufs ⊆ StableHlo.tcRefs τ sig) :
    ∀ op ∈ ops, op.bufs ⊆ Pipeline.ucRefs τ sig :=
  fun op ho => Pipeline.sub_ucRefs op (List.forall_iff_forall_mem.1 h op ho)

/-- The call's arrays put back, its result at the gathered rows. -/
theorem join_sc (d : Dev nD) :
    iprop(((Sc.iLoc d ↦{fullShare} ivOf m d) ∗ (Sc.tLoc d ↦{fullShare} tvOf m d) ∗ (Sc.oLoc d ↦{fullShare} Sc.gath (tvOf m d) (ivOf m d) (hin d)))
        ∗ held (d.tc : Thread nD τ) (Pipeline.ucRefs τ sig \ scRefs) (V3 m d))
      ⊢ (held (d.tc : Thread nD τ) (Pipeline.ucRefs τ sig) (V4 m hin d) : sProp 𝕄) := by
  rw [StableHlo.held_sub_split (d.tc : Thread nD τ) scRefs_sub (V4 m hin d), held_sc d (V4 m hin d), V4_v14,
    V4_of_ne m hin d (Proc.devRef .tc main_v12) (StableHlo.devRef_ne_of_ne (by decide)),
    V4_of_ne m hin d (Proc.devRef .tc main_v13) (StableHlo.devRef_ne_of_ne (by decide)),
    StableHlo.held_congr (V := V4 m hin d) (V' := V3 m d) (d.tc : Thread nD τ) (fun b hb => V4_of_ne m hin d b fun e =>
      (Finset.mem_sdiff.1 hb).2 (by subst e; simp))]
  exact BI.Entails.refl _

/-! ## @main -/

/-- Every unscoped buffer at its final contents. -/
abbrev FIN (d : Dev nD) : sProp 𝕄 := held (d.tc : Thread nD τ) (Pipeline.ucRefs τ sig) (V5 m hin d)

/-- What the thread owes, taken out of its state and put back. -/
theorem tcSt_owes (d : Dev nD) :
    ((K (F := F)).tcSt EH d 0 : sProp 𝕄) ⊢ iprop(Tc.owesTc (F := F) d ∗ (Tc.owesTc (F := F) d -∗ (K (F := F)).tcSt EH d 0)) := by
  unfold SparseCore.Cfg.tcSt Tc.owesTc
  iintro ⟨HO, Hrest⟩
  isplitl [HO]; · iexact HO
  iintro HO
  isplitl [HO]; · iexact HO
  iexact Hrest

end Cert.KernelIdeal.Whole

end
-- ==== Proof.MainRegion.lean ====
module

public import proofs.«01_k».proof.Proof.MainLaunch

/-!
# The TensorCore call's step of `@main`
-/

@[expose] public section

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.StableHlo (after launchContents held)
open Cert.KernelIdeal Cert.KernelIdeal.Gen
open Cert.KernelIdeal.Sc (K D 𝒱 v₀ UH UU EH facts)

variable {F : FTy → Type} [FloatOps F]

local notation "𝕄" => MT nD τ sig (HIx 1) (Elt F) ℕ UU ℕ

variable (m : (ℓ : Loc nD τ sig) → Buf (Elt F) ℓ) (ρ : Dev nD → PrngReg)
variable (hin : ∀ d x, (ivOf m d x).toNat < 8192)

set_option backward.isDefEq.respectTransparency.types false in
/-- The region's call, from the buffers before it to the buffers after it. -/
theorem wp_region (d : Dev nD) (Q : PUnit → sProp 𝕄) :
    iprop((iprop(boundary (d.tc : Thread nD τ) ∗ held (d.tc : Thread nD τ) (Pipeline.ucRefs τ sig) (V2 m d) ∗ Tc.owesTc (F := F) d) -∗ Q ⟨⟩)
        ∗ boundary (d.tc : Thread nD τ) ∗ held (d.tc : Thread nD τ) (Pipeline.ucRefs τ sig) (V1 m d) ∗ Tc.owesTc (F := F) d
        ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  have h2 : wp frame (wpE (D (F := F)) 𝒱 (SparseCore.T d) none) Set.univ
        (Prog.op (.customCall (Pipeline.entry 0) ()) (fun u => .ret u) : Prog (TpuEff nD τ sig (Elt F) (Sc.ΛP (F := F)) .tc) PUnit) Q
      ⊢ wp frame (wpE ((K (F := F)).defs (D (F := F))) 𝒱 (SparseCore.T d) none) Set.univ
          (SparseCore.liftProg (Prog.op (.customCall (Pipeline.entry 0) ()) (fun u => .ret u) : Prog (TpuEff nD τ sig (Elt F) (Sc.ΛP (F := F)) .tc) PUnit)) Q :=
    (K (F := F)).wp_liftProg (D (F := F)) 𝒱 (SparseCore.T d) Set.univ none _ Q
  have h := Pipeline.RegionSeg.wp (pcfgs (F := F)) Tc.adm (Tc.dats (V1b m)) (none : HIx 1) cellOf_inj (EP (F := F)) defs₀ Variants.none
    (K (F := F)).L (K (F := F)).lev (regW m fun _ => iprop(emp)) d none (fun u hu => nomatch hu) (fun u => .ret u) Q
  refine BI.Entails.trans ?_ h2
  refine BI.Entails.trans ?_ h
  rw [show (regW m fun _ => iprop(emp)).pre d = iprop(unscopedBufs d (V1b m d) ∗ emp ∗ Tc.owesTc (F := F) d) from rfl,
    show (regW m fun _ => iprop(emp)).post d = iprop(unscopedBufs d (fun b : Ref sig .tc => V2 m d b) ∗ emp ∗ Tc.owesTc (F := F) d) from rfl]
  rw [← Pipeline.unscopedBufs_held d (V1 m d), ← Pipeline.unscopedBufs_held d (V2 m d)]
  refine (show (_ : sProp 𝕄) ⊢ (_ : sProp 𝕄) from ?_)
  iintro ⟨Hk, Hb, Hbufs, HO, Hlev, Hg, Ht⟩
  isplitl [Hk]
  · iintro ⟨Hb, Hbufs, -, HO⟩
    rw [wp_ret]; imodintro
    iapply Hk
    isplitl [Hb]; · iexact Hb
    isplitl [Hbufs] <;> iassumption
  isplitl [Hb]; · iexact Hb
  isplitl [Hbufs HO]
  · isplitl [Hbufs]; · iexact Hbufs
    isplitr; · iempintro
    iexact HO
  isplitl [Hlev]; · iexact Hlev
  isplitl [Hg] <;> iassumption

end Cert.KernelIdeal.Whole

end
-- ==== Proof.MainRun.lean ====
module

public import proofs.«01_k».proof.Proof.MainRegion

/-!
# The whole kernel's run

From the launch's resources through `@main`: host operations, the TensorCore call as a region, host operations, the SparseCore call,
host operations. Every unscoped buffer of the TensorCore is held at a valuation throughout.
-/

@[expose] public section

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.StableHlo (after launchContents held)
open Cert.KernelIdeal Cert.KernelIdeal.Gen
open Cert.KernelIdeal.Sc (K D 𝒱 v₀ UH UU EH facts)

variable {F : FTy → Type} [FloatOps F]

local notation "𝕄" => MT nD τ sig (HIx 1) (Elt F) ℕ UU ℕ

variable (m : (ℓ : Loc nD τ sig) → Buf (Elt F) ℓ) (ρ : Dev nD → PrngReg)
variable (hin : ∀ d x, (ivOf m d x).toNat < 8192)

theorem hmain (κ : GSem nD τ sig → ℕ) (d : Dev nD) :
    iprop((K (F := F)).ctx EH (PW m hin) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m hin d ∗ (K (F := F)).tcEnd d) := by
  unfold SparseCore.Cfg.tcRes SparseCore.Cfg.tcEnd
  rw [main_chain, show (unscopedBufs d (fun b => m ((SparseCore.T d).loc b)) : sProp 𝕄)
    = held (d.tc : Thread nD τ) (Pipeline.ucRefs τ sig) (launchContents m d) from Pipeline.unscopedBufs_held d (launchContents m d)]
  simp only [Pipeline.chain_cons, Pipeline.chain_nil]
  iintro ⟨#Hctx, Hst, ⟨Hb, Hbufs, Hts, -⟩, Hg, Ht⟩
  -- the operations before the region
  iapply (StableHlo.wp_seq (defs := (K (F := F)).defs (D (F := F))) 𝒱 none Set.univ d (Pipeline.ucRefs τ sig) _ ops0 (ops_sub ops0_sub)
    (List.forall_iff_forall_mem.1 ops0_fresh) (launchContents m d)) $$ [Hb Hbufs]
  · isplitl [Hb] <;> iassumption
  iintro ⟨Hb, Hbufs⟩
  -- the region
  rw [wp_bind]
  ihave Hs := (tcSt_owes (F := F) d) $$ Hst
  icases Hs with ⟨HO, Hback⟩
  ihave Hlev := ((K (F := F)).ctx_levAts (EH := EH) (P := PW m hin) κ) $$ Hctx
  iapply (wp_region m d _)
  isplitr [Hb Hbufs HO Hlev Hg Ht]
  swap
  · isplitl [Hb]; · iexact Hb
    isplitl [Hbufs]; · iexact Hbufs
    isplitl [HO]; · iexact HO
    isplitl [Hlev]; · iexact Hlev
    isplitl [Hg] <;> iassumption
  iintro ⟨Hb, Hbufs, HO⟩
  ihave Hst := Hback $$ HO
  -- the operations between the calls
  iapply (StableHlo.wp_seq (defs := (K (F := F)).defs (D (F := F))) 𝒱 none Set.univ d (Pipeline.ucRefs τ sig) _ ops1 (ops_sub ops1_sub)
    (List.forall_iff_forall_mem.1 ops1_fresh) (V2 m d)) $$ [Hb Hbufs]
  · isplitl [Hb] <;> iassumption
  iintro ⟨Hb, Hbufs⟩
  iapply (StableHlo.wp_seq (defs := (K (F := F)).defs (D (F := F))) 𝒱 none Set.univ d (Pipeline.ucRefs τ sig) _ opsP (ops_sub opsP_sub)
    (List.forall_iff_forall_mem.1 opsP_fresh) (after ops1 (V2 m d))) $$ [Hb Hbufs]
  · isplitl [Hb] <;> iassumption
  iintro ⟨Hb, Hbufs⟩
  rw [show after opsP (after ops1 (V2 m d)) = V3 m d from rfl]
  -- the SparseCore call
  ihave Hbufs' := (Entails.of_eq ((StableHlo.held_sub_split (d.tc : Thread nD τ) scRefs_sub (V3 m d)).trans
    (congrArg (fun A : sProp 𝕄 => iprop(A ∗ held (d.tc : Thread nD τ) (Pipeline.ucRefs τ sig \ scRefs) (V3 m d))) (held_sc d (V3 m d))))) $$ Hbufs
  icases Hbufs' with ⟨⟨Hi, Ht, Ho⟩, Hrest⟩
  rw [wp_bind]
  iapply ((K (F := F)).wp_run (D (F := F)) 𝒱 (EH := EH) (P := PW m hin) κ d 0) $$ [Hst Hi Ht Ho Hb Hts Hrest]
  isplitr; · iexact Hctx
  isplitl [Hst]; · iexact Hst
  isplitl [Hi Ht Ho]
  · rw [Sc.st0_eq]
    isplitl [Hi]; · iexact Hi
    isplitl [Ht]; · iexact Ht
    iexact Ho
  iintro ⟨Hst, Hdn⟩
  ihave Hdn' := (Entails.of_eq (Sc.dn0_eq (ivOf m) (tvOf m) (foOf m) hin d)) $$ Hdn
  ihave Hbufs := (join_sc m hin d) $$ [Hdn' Hrest]
  · isplitl [Hdn'] <;> iassumption
  -- the operations after it
  iapply (StableHlo.wp_seq (defs := (K (F := F)).defs (D (F := F))) 𝒱 none Set.univ d (Pipeline.ucRefs τ sig) _ ops2 (ops_sub ops2_sub)
    (List.forall_iff_forall_mem.1 ops2_fresh) (V4 m hin d)) $$ [Hb Hbufs]
  · isplitl [Hb] <;> iassumption
  iintro ⟨Hb, Hbufs⟩
  rw [wp_pure]; imodintro
  isplitl [Hst]; · iexact Hst
  isplitl [Hbufs]; · iexact Hbufs
  isplitl [Hb] <;> iassumption

/-- What the final memory holds. -/
def fq (d : Dev nD) (s' : Phys nD τ sig (Elt F)) : Prop := ∀ b ∈ Pipeline.ucRefs τ sig, s'.mem.mem (d, b) = V5 m hin d b

theorem hfin (d : Dev nD) (s' : Phys nD τ sig (Elt F)) : iprop(FIN m hin d ∗ SI s') ⊢ (⌜fq m hin d s'⌝ : sProp 𝕄) := by
  unfold FIN held
  iintro ⟨H, HSI⟩
  iapply (SI_pointsTo_bufs_agree (st := s') (c := d) (F := V5 m hin d) (qs := fun _ => fullShare) (Pipeline.ucRefs τ sig))
  isplitl [HSI] <;> iassumption

/-- Every final memory: each unscoped buffer at its final contents, every counter at zero. -/
def QC : PUnit × MemSt nD τ sig (Elt F) → Prop := fun r =>
  (∀ d : Dev nD, ∀ b ∈ Pipeline.ucRefs τ sig, r.2.mem (d, b) = V5 m hin d b) ∧ r.2.sem = fun _ => 0

theorem run_main [∀ e, Nonempty (Elt F e)] :
    θ_run (Cert.KernelIdeal.defs (F := F)) (Cert.KernelIdeal.threads (F := F)) ⟨m, fun _ => 0, ρ⟩ (QC m hin) :=
  SparseCore.Cfg.θ_run_sc_quiescent (K := K (F := F)) (D := D (F := F)) (𝒱 := 𝒱) (EH := EH) (P := PW m hin) (A := ∅) facts v₀
    (fun q hq => match q with | 0 => nomatch hq)
    (fun q _ => match q with | 0 => Sc.tileObl (ivOf m) (tvOf m) (foOf m) hin facts)
    (fun q _ => match q with | 0 => SparseCore.Cfg.VecSplit.of_plain (Sc.vecSplit (ivOf m) (tvOf m) (foOf m) hin))
    m ρ main (G (F := F)) (FIN m hin) (u₀ (F := F)) (sep_elim_left.trans (hu₀ m hin)) (hmain m ρ hin) (fq m hin) (hfin m hin) (QC m hin)
    (fun _ h hz => ⟨h, hz⟩)

end Cert.KernelIdeal.Whole

end
-- ==== Proof.TcPieces.lean ====
module

public import proofs.«01_k».proof.Proof.TcBody
public import proofs.«01_k».proof.Proof.Final

/-!
# The TensorCore call's outputs inside the whole kernel, block by block

The body's pieces are those of the call taken alone: the same recursions of `Scan`, read back as the same functions of the
input blocks.
-/

@[expose] public section

noncomputable section

namespace Cert.KernelIdeal.Tc

open Idealize.ShloMosaic Idealize.ShloMosaic.TcCoe Idealize.SL.Sem Idealize.SL
open Cert.KernelIdeal
open Cert.KernelIdeal.Gen hiding k0_pay204 k0_pay207 k0_pay208 k0_pay209 k0_pay210 k0_pay352
open Cert.SearchIdeal.Gen (dist minval idxf encL cntL cntR cntLd cntBlk encBlk col cn oh row amin hot encArr idxArr cntArr sumArr drow row_dist encBlk_apply cntBlk_apply pay207_apply pay208_apply pay209_apply pay352_apply encL_pieces cntL_full cntR_ge zero2 zero3 slc rm ri pt k0_pay204 k0_pay207 k0_pay208 k0_pay209 k0_pay210 k0_pay352)

variable {F : FTy → Type} [FloatOps F]

section run
variable (c : Dev nD) (i : grid0.Coords) (arg1 : Memref sig .tc .vmem S256x64 .f32) (harg1 : arg1.IsWhole)
  (arg2 : Memref sig .tc .vmem S64x8192 .f32) (harg2 : arg2.IsWhole) (arg3 : Memref sig .tc .vmem S256x1 .f32) (harg3 : arg3.IsWhole)
  (arg4 : Memref sig .tc .vmem S1x8192 .f32) (harg4 : arg4.IsWhole) (arg5 : Memref sig .tc .vmem S256x8192 .f32) (harg5 : arg5.IsWhole)
  (arg6 : Memref sig .tc .vmem S1x1x256 .i32) (harg6 : arg6.IsWhole) (arg7 : Memref sig .tc .vmem S1x8192 .f32) (harg7 : arg7.IsWhole)
  (arg8 : Memref sig .tc .vmem S1x1 .f32) (harg8 : arg8.IsWhole)
  (x0 : Vec F S256x64 .f32) (x1 : Vec F S64x8192 .f32) (x2 : Vec F S256x1 .f32) (x3 : Vec F S1x8192 .f32)
  (xo6 : Vec F S1x8192 .f32) (xo7 : Vec F S1x1 .f32)

/-- A load of a whole block reads it. -/
theorem ldw {s : Shape} {e : EltTy} (arg : Memref sig .tc .vmem s e) (harg : arg.IsWhole) (off : Fin s.rank → ℕ) (hoff : ∀ a, off a = 0)
    (inb : ∀ a, off a + s.size a ≤ s.size a) (x : Vec F s e) :
    View.readAt (Elt F) arg.view (Rect.unit off s.size inb).toLoadRect (harg.unread x) = x := by
  obtain rfl : off = fun _ => 0 := funext hoff
  funext z
  exact (harg.readAt_unread x _ z).trans (congrArg x (Rect.emb_whole_apply s z))

/-- The case's distances read the input blocks whole. -/
theorem rA : kernelRun0_A.sl.r c arg1 harg1 arg2 harg2 arg3 harg3 arg4 harg4 x0 x1 x2 x3 = dist x0 x1 x2 x3 := by
  unfold kernelRun0_A.sl.r
  rw [ldw arg1 harg1 _ zero2, ldw arg2 harg2 _ zero2, ldw arg3 harg3 _ zero2, ldw arg4 harg4 _ zero2]
  rfl

theorem rB : kernelRun0_B.sl.r c arg1 harg1 arg2 harg2 arg3 harg3 arg4 harg4 x0 x1 x2 x3 = dist x0 x1 x2 x3 := by
  unfold kernelRun0_B.sl.r
  rw [ldw arg1 harg1 _ zero2, ldw arg2 harg2 _ zero2, ldw arg3 harg3 _ zero2, ldw arg4 harg4 _ zero2]
  rfl

theorem r25A : kernelRun0_A.sl.r_25 c arg1 harg1 arg2 harg2 arg3 harg3 arg4 harg4 x0 x1 x2 x3 = minval (dist x0 x1 x2 x3) := by
  rw [← rA c arg1 harg1 arg2 harg2 arg3 harg3 arg4 harg4 x0 x1 x2 x3]
  rfl

theorem r26A : kernelRun0_A.sl.r_26 c arg1 harg1 arg2 harg2 arg3 harg3 arg4 harg4 x0 x1 x2 x3 = idxf (dist x0 x1 x2 x3) := by
  rw [← rA c arg1 harg1 arg2 harg2 arg3 harg3 arg4 harg4 x0 x1 x2 x3]
  rfl

theorem r25B : kernelRun0_B.sl.r_25 c arg1 harg1 arg2 harg2 arg3 harg3 arg4 harg4 x0 x1 x2 x3 = minval (dist x0 x1 x2 x3) := by
  rw [← rB c arg1 harg1 arg2 harg2 arg3 harg3 arg4 harg4 x0 x1 x2 x3]
  rfl

theorem r26B : kernelRun0_B.sl.r_26 c arg1 harg1 arg2 harg2 arg3 harg3 arg4 harg4 x0 x1 x2 x3 = idxf (dist x0 x1 x2 x3) := by
  rw [← rB c arg1 harg1 arg2 harg2 arg3 harg3 arg4 harg4 x0 x1 x2 x3]
  rfl

theorem encA (hc0) : (kernelRun0_A c i arg1 harg1 arg2 harg2 arg3 harg3 arg4 harg4 arg5 harg5 arg6 harg6 arg7 harg7 arg8 harg8 hc0 x0 x1 x2 x3).1
    = encL (k0_pay210 (kernelRun0_A.sl.r_26 c arg1 harg1 arg2 harg2 arg3 harg3 arg4 harg4 x0 x1 x2 x3)) 64 := rfl

theorem encB (hc0) : (kernelRun0_B c i arg1 harg1 arg2 harg2 arg3 harg3 arg4 harg4 arg5 harg5 arg6 harg6 arg7 harg7 arg8 harg8 hc0 x0 x1 x2 x3 xo6 xo7).1
    = encL (k0_pay210 (kernelRun0_B.sl.r_26 c arg1 harg1 arg2 harg2 arg3 harg3 arg4 harg4 x0 x1 x2 x3)) 64 := rfl

theorem cntA (hc0) : (kernelRun0_A c i arg1 harg1 arg2 harg2 arg3 harg3 arg4 harg4 arg5 harg5 arg6 harg6 arg7 harg7 arg8 harg8 hc0 x0 x1 x2 x3).2.2.1
    = cntL (k0_pay210 (kernelRun0_A.sl.r_26 c arg1 harg1 arg2 harg2 arg3 harg3 arg4 harg4 x0 x1 x2 x3))
      [⟨Rect.unit ![0, 0] S1x8192.size inb_S1x8192_S1x8192_0_0, k0_pay208⟩] (fun L n => arg7.view.readCov L (cntR n).toLoadRect) 64 := by sl_kernel_rfl

theorem cntB (hc0) : (kernelRun0_B c i arg1 harg1 arg2 harg2 arg3 harg3 arg4 harg4 arg5 harg5 arg6 harg6 arg7 harg7 arg8 harg8 hc0 x0 x1 x2 x3 xo6 xo7).2.2.1
    = cntL (k0_pay210 (kernelRun0_B.sl.r_26 c arg1 harg1 arg2 harg2 arg3 harg3 arg4 harg4 x0 x1 x2 x3))
      [] (fun _ n => View.readAt (Elt F) arg7.view (cntR n).toLoadRect (harg7.unread xo6)) 64 := rfl

theorem out4_A (hc0) : out0_A_4 c i arg1 harg1 arg2 harg2 arg3 harg3 arg4 harg4 arg5 harg5 arg6 harg6 arg7 harg7 arg8 harg8 hc0 x0 x1 x2 x3
    = encBlk (col (dist x0 x1 x2 x3)) := by
  unfold out0_A_4
  rw [View.read_writes_junk_eq_canon]
  funext y
  refine View.canon_apply_of_pieces (Val := Elt F) (encBlk (col (dist x0 x1 x2 x3))) _ ?_ y
    (cover0_A_4 c i arg1 harg1 arg2 harg2 arg3 harg3 arg4 harg4 arg5 harg5 arg6 harg6 arg7 harg7 arg8 harg8 hc0 x0 x1 x2 x3 y)
  rw [encA, r26A]
  exact encL_pieces _ 64 le_rfl

theorem out4_B (hc0) : out0_B_4 c i arg1 harg1 arg2 harg2 arg3 harg3 arg4 harg4 arg5 harg5 arg6 harg6 arg7 harg7 arg8 harg8 hc0 x0 x1 x2 x3 xo6 xo7
    = encBlk (col (dist x0 x1 x2 x3)) := by
  unfold out0_B_4
  rw [View.read_writes_junk_eq_canon]
  funext y
  refine View.canon_apply_of_pieces (Val := Elt F) (encBlk (col (dist x0 x1 x2 x3))) _ ?_ y
    (cover0_B_4 c i arg1 harg1 arg2 harg2 arg3 harg3 arg4 harg4 arg5 harg5 arg6 harg6 arg7 harg7 arg8 harg8 hc0 x0 x1 x2 x3 xo6 xo7 y)
  rw [encB, r26B]
  exact encL_pieces _ 64 le_rfl

theorem out5_A (hc0) : out0_A_5 c i arg1 harg1 arg2 harg2 arg3 harg3 arg4 harg4 arg5 harg5 arg6 harg6 arg7 harg7 arg8 harg8 hc0 x0 x1 x2 x3
    = k0_pay207 (idxf (dist x0 x1 x2 x3)) := by
  unfold out0_A_5
  rw [View.read_writes_junk_eq_canon, ← r26A c arg1 harg1 arg2 harg2 arg3 harg3 arg4 harg4 x0 x1 x2 x3]
  exact View.canon_unit_zero (Val := Elt F) (S := S1x1x256) zero3 inb_S1x1x256_S1x1x256_0_0_0 _

theorem out5_B (hc0) : out0_B_5 c i arg1 harg1 arg2 harg2 arg3 harg3 arg4 harg4 arg5 harg5 arg6 harg6 arg7 harg7 arg8 harg8 hc0 x0 x1 x2 x3 xo6 xo7
    = k0_pay207 (idxf (dist x0 x1 x2 x3)) := by
  unfold out0_B_5
  rw [View.read_writes_junk_eq_canon, ← r26B c arg1 harg1 arg2 harg2 arg3 harg3 arg4 harg4 x0 x1 x2 x3]
  exact View.canon_unit_zero (Val := Elt F) (S := S1x1x256) zero3 inb_S1x1x256_S1x1x256_0_0_0 _

theorem out6_A (hc0) : out0_A_6 c i arg1 harg1 arg2 harg2 arg3 harg3 arg4 harg4 arg5 harg5 arg6 harg6 arg7 harg7 arg8 harg8 hc0 x0 x1 x2 x3
    = cntBlk (col (dist x0 x1 x2 x3)) k0_pay208 := by
  unfold out0_A_6
  have hz := View.canon_unit_zero (Val := Elt F) (S := S1x8192) (e := .f32) (funext zero2) inb_S1x8192_S1x8192_0_0 k0_pay208
  rw [View.read_writes_junk_eq_canon, cntA, r26A]
  generalize hZ : (k0_pay208 : FVec F S1x8192 .f32) = Z at hz ⊢
  refine cntL_full _ _ _ Z fun n hn h => ?_
  rw [View.readCov_eq_canon', hz] at *
  funext j
  exact h ((cntR n).emb j) (cntR_ge hn j)

theorem out6_B (hc0) : out0_B_6 c i arg1 harg1 arg2 harg2 arg3 harg3 arg4 harg4 arg5 harg5 arg6 harg6 arg7 harg7 arg8 harg8 hc0 x0 x1 x2 x3 xo6 xo7
    = cntBlk (col (dist x0 x1 x2 x3)) xo6 := by
  unfold out0_B_6
  rw [View.read_writes_junk_eq_canon, cntB, r26B]
  refine cntL_full _ _ _ xo6 fun n hn h => ?_
  funext j
  show View.readAt (Elt F) arg7.view (cntR n).toLoadRect (harg7.unread xo6) j = xo6 ((cntR n).emb j)
  exact harg7.readAt_unread xo6 _ j

theorem out7_A (hc0) : out0_A_7 c i arg1 harg1 arg2 harg2 arg3 harg3 arg4 harg4 arg5 harg5 arg6 harg6 arg7 harg7 arg8 harg8 hc0 x0 x1 x2 x3
    = k0_pay352 (minval (dist x0 x1 x2 x3)) k0_pay209 := by
  unfold out0_A_7
  rw [View.read_writes_junk_eq_canon, ← r25A c arg1 harg1 arg2 harg2 arg3 harg3 arg4 harg4 x0 x1 x2 x3]
  refine (View.canon_cons_unit_zero (Val := Elt F) (S := S1x1) (funext zero2) inb_S1x1_S1x1_0_0 _ _).trans ?_
  refine congrArg (k0_pay352 (kernelRun0_A.sl.r_25 c arg1 harg1 arg2 harg2 arg3 harg3 arg4 harg4 x0 x1 x2 x3)) ?_
  exact View.readCov_unit_zero (Val := Elt F) (S := S1x1) arg8.view (funext zero2) inb_S1x1_S1x1_0_0 k0_pay209

theorem out7_B (hc0) : out0_B_7 c i arg1 harg1 arg2 harg2 arg3 harg3 arg4 harg4 arg5 harg5 arg6 harg6 arg7 harg7 arg8 harg8 hc0 x0 x1 x2 x3 xo6 xo7
    = k0_pay352 (minval (dist x0 x1 x2 x3)) xo7 := by
  unfold out0_B_7
  rw [View.read_writes_junk_eq_canon, ← r25B c arg1 harg1 arg2 harg2 arg3 harg3 arg4 harg4 x0 x1 x2 x3]
  refine (View.canon_unit_zero (Val := Elt F) (S := S1x1) (funext zero2) inb_S1x1_S1x1_0_0 _).trans ?_
  refine congrArg (k0_pay352 (kernelRun0_B.sl.r_25 c arg1 harg1 arg2 harg2 arg3 harg3 arg4 harg4 x0 x1 x2 x3)) ?_
  exact ldw arg8 harg8 _ zero2 inb_S1x1_S1x1_0_0 xo7

end run

end Cert.KernelIdeal.Tc
-- ==== Proof.TcFinal.lean ====
module

public import proofs.«01_k».proof.Proof.TcPieces

/-!
# The TensorCore call's four arrays inside the whole kernel

Over arbitrary contents at the region's entry, the arrays that it leaves are the functions of the distances that the call
taken alone leaves.
-/

@[expose] public section

noncomputable section

namespace Cert.KernelIdeal.Tc

open Idealize.ShloMosaic Idealize.ShloMosaic.TcCoe Idealize.SL.Sem Idealize.SL
open Cert.KernelIdeal
open Cert.KernelIdeal.Gen hiding k0_pay204 k0_pay207 k0_pay208 k0_pay209 k0_pay210 k0_pay352
open Cert.SearchIdeal.Gen (dist minval idxf encL cntL cntR cntLd cntBlk encBlk col cn oh row amin hot encArr idxArr cntArr sumArr drow row_dist encBlk_apply cntBlk_apply pay207_apply pay208_apply pay209_apply pay352_apply encL_pieces cntL_full cntR_ge zero2 zero3 slc rm ri pt k0_pay204 k0_pay207 k0_pay208 k0_pay209 k0_pay210 k0_pay352)

attribute [local irreducible] rm ri slc minval idxf

/-! ## The blocks of the run -/

variable (V : (c : Dev nD) → (b : Ref sig .tc) → Buf (Elt Ideal) ((c : Thread nD τ).loc b)) (c : Dev nD)

/-- The distances, from the arrays that the region finds. -/
abbrev kD : Fin 16384 → Fin 8192 → EReal :=
  drow (V c main_v1) (V c main_v10) (V c main_v4) (V c main_v7)

/-- Row `r` of the block at point `t`. -/
def bpt (t : Fin cfg0.N) (r : Fin 256) : Fin 16384 :=
  ⟨t.val * 256 + r.val, by have := lt_of_lt_of_eq t.isLt N_0; omega⟩

theorem bpt_val (t : Fin cfg0.N) (r : Fin 256) : (bpt t r).val = t.val * 256 + r.val := rfl

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)

theorem iblk0_apply (t : Fin cfg0.N) (r : Fin 256) (j : Fin 64) :
    iblk V c 0 t (ix2 r j) = V c main_v1 (ix2 (bpt t r) j) := by
  blk_simp [iblk]
  congr 1
  blk_ext [index0, bpt_val]

theorem iblk1_apply (t : Fin cfg0.N) (j : Fin 64) (k : Fin 8192) :
    iblk V c 1 t (ix2 j k) = V c main_v10 (ix2 j k) := by
  blk_simp [iblk]
  congr 1
  blk_ext [index1]

theorem iblk2_apply (t : Fin cfg0.N) (r : Fin 256) :
    iblk V c 2 t (ix2 r 0) = V c main_v4 (ix2 (bpt t r) 0) := by
  blk_simp [iblk]
  congr 1
  blk_ext [index2, bpt_val]

theorem iblk3_apply (t : Fin cfg0.N) (k : Fin 8192) :
    iblk V c 3 t (ix2 0 k) = V c main_v7 (ix2 0 k) := by
  blk_simp [iblk]
  congr 1
  blk_ext [index3]

/-- The distances of the block at point `t`. -/
abbrev bD (t : Fin cfg0.N) : FVec Ideal S256x8192 .f32 :=
  dist (iblk V c 0 t) (iblk V c 1 t) (iblk V c 2 t) (iblk V c 3 t)

theorem row_bD (t : Fin cfg0.N) (r : Fin 256) : row (bD V c t) r = kD V c (bpt t r) :=
  row_dist _ _ _ _ _ _ _ _ r (bpt t r) (iblk0_apply V c t r) (iblk1_apply V c t) (iblk2_apply V c t r) (iblk3_apply V c t)

theorem outs4 (t : Fin cfg0.N) : (outsAt0 V c t.val t.isLt).1 = encBlk (col (bD V c t)) := by
  by_cases h0 : t.val % 64 = 0
  · rw [outsAt0_A V c t h0]; dsimp only; rw [out4_A]
  · rw [outsAt0_B V c t h0]; dsimp only; rw [out4_B]

theorem outs5 (t : Fin cfg0.N) : (outsAt0 V c t.val t.isLt).2.1 = k0_pay207 (idxf (bD V c t)) := by
  by_cases h0 : t.val % 64 = 0
  · rw [outsAt0_A V c t h0]; dsimp only; rw [out5_A]
  · rw [outsAt0_B V c t h0]; dsimp only; rw [out5_B]

theorem outs6_A (t : Fin cfg0.N) (h0 : t.val % 64 = 0) :
    (outsAt0 V c t.val t.isLt).2.2.1 = cntBlk (col (bD V c t)) (k0_pay208 (F := Ideal)) := by
  rw [outsAt0_A V c t h0]; dsimp only; rw [out6_A]

theorem outs6_B (t : Fin cfg0.N) (h0 : ¬t.val % 64 = 0) : (outsAt0 V c t.val t.isLt).2.2.1
    = cntBlk (col (bD V c t)) (outsAt0 V c (t.val - 1) (Nat.lt_of_le_of_lt (Nat.sub_le _ _) t.isLt)).2.2.1 := by
  rw [outsAt0_B V c t h0]; dsimp only; rw [out6_B]

theorem outs7_A (t : Fin cfg0.N) (h0 : t.val % 64 = 0) :
    (outsAt0 V c t.val t.isLt).2.2.2 = k0_pay352 (minval (bD V c t)) (k0_pay209 (F := Ideal)) := by
  rw [outsAt0_A V c t h0]; dsimp only; rw [out7_A]

theorem outs7_B (t : Fin cfg0.N) (h0 : ¬t.val % 64 = 0) : (outsAt0 V c t.val t.isLt).2.2.2
    = k0_pay352 (minval (bD V c t)) (outsAt0 V c (t.val - 1) (Nat.lt_of_le_of_lt (Nat.sub_le _ _) t.isLt)).2.2.2 := by
  rw [outsAt0_B V c t h0]; dsimp only; rw [out7_B]

/-! ## The carried blocks after the last point -/

/-- The last point. -/
def tLast : Fin cfg0.N := ⟨63, by rw [show cfg0.N = 64 from N_0]; decide⟩

/-- A sum over the points and the rows of their blocks is a sum over all rows. -/
theorem sum_points (f : Fin 16384 → EReal) : ∑ t : Fin cfg0.N, ∑ r : Fin 256, f (bpt t r) = ∑ r : Fin 16384, f r :=
  Fin.sum_mul_add_fin cfg0.N 256 f (by rw [show cfg0.N = 64 from N_0])

theorem outs6_last (k : Fin 8192) : (outsAt0 V c tLast.val tLast.isLt).2.2.1 (ix2 0 k)
    = ∑ r : Fin 16384, hot (amin (kD V c r)).val k.val := by
  refine (Pipeline.eq_sum_fin_of_reset_step_apply_last (N := cfg0.N) (fun n h (k : Fin 8192) => (outsAt0 V c n h).2.2.1 (ix2 0 k))
    64 (fun _ => (0 : EReal)) (fun t k => ∑ r : Fin 256, hot (amin (kD V c (bpt t r))).val k.val) ?_ ?_
    (le_of_eq N_0) tLast N_0.symm k).trans ?_
  · intro t h0 k
    show (outsAt0 V c t.val t.isLt).2.2.1 (ix2 0 k) = _
    rw [outs6_A V c t h0, cntBlk_apply, pay208_apply]
    simp only [row_bD]
  · intro t h0 k
    show (outsAt0 V c t.val t.isLt).2.2.1 (ix2 0 k) = _
    rw [outs6_B V c t h0, cntBlk_apply]
    simp only [row_bD]
  · rw [zero_add]
    exact sum_points fun r => hot (amin (kD V c r)).val k.val

theorem outs7_last (i : S1x1.Idx) : (outsAt0 V c tLast.val tLast.isLt).2.2.2 i
    = ∑ r : Fin 16384, kD V c r (amin (kD V c r)) := by
  obtain ⟨z, w, rfl⟩ : ∃ (z w : Fin 1), i = ix2 z w := ⟨i 0, i 1, eq_ix2 i⟩
  refine (Pipeline.eq_sum_fin_of_reset_step_apply_last (N := cfg0.N) (fun n h (_ : Unit) => (outsAt0 V c n h).2.2.2 (ix2 z w))
    64 (fun _ => (0 : EReal)) (fun t _ => ∑ r : Fin 256, kD V c (bpt t r) (amin (kD V c (bpt t r)))) ?_ ?_
    (le_of_eq N_0) tLast N_0.symm ()).trans ?_
  · intro t h0 _
    show (outsAt0 V c t.val t.isLt).2.2.2 (ix2 z w) = _
    rw [outs7_A V c t h0, pay352_apply, pay209_apply]
    simp only [row_bD]
  · intro t h0 _
    show (outsAt0 V c t.val t.isLt).2.2.2 (ix2 z w) = _
    rw [outs7_B V c t h0, pay352_apply]
    simp only [row_bD]
  · rw [zero_add]
    exact sum_points fun r => kD V c r (amin (kD V c r))

/-! ## The arrays -/

theorem final4 : (dats V 0 c).arrAt 4 cfg0.N = encArr (kD V c) := by
  refine (dats V 0 c).arrAt_eq_of_covers 4 _ (by decide +kernel) fun t hf y => ?_
  blk_simp
  rw [after0_4, outs4]
  obtain ⟨r, k, rfl⟩ : ∃ (r : Fin 256) (k : Fin 8192), y = ix2 r k := ⟨y 0, y 1, eq_ix2 y⟩
  refine (encBlk_apply _ r k).trans ?_
  rw [row_bD]
  have e : (win0_4.blk t).view.emb (ix2 r k) = ix2 (bpt t r) k := by blk_ext [index4, bpt_val]
  rw [e]
  rfl

theorem final5 : (dats V 0 c).arrAt 5 cfg0.N = idxArr (kD V c) := by
  refine (dats V 0 c).arrAt_eq_of_covers 5 _ (by decide +kernel) fun t hf y => ?_
  blk_simp
  rw [after0_5, outs5]
  obtain ⟨z, w, r, rfl⟩ : ∃ (z w : Fin 1) (r : Fin 256), y = ix3 z w r := ⟨y 0, y 1, y 2, eq_ix3 y⟩
  obtain rfl : z = 0 := Subsingleton.elim _ _
  obtain rfl : w = 0 := Subsingleton.elim _ _
  have e : (win0_5.blk t).view.emb (ix3 0 0 r) = ix3 (⟨t.val, lt_of_lt_of_eq t.isLt N_0⟩ : Fin 64) 0 r := by blk_ext [index5]
  rw [pay207_apply, row_bD, e]
  rfl

theorem final6 : (dats V 0 c).arrAt 6 cfg0.N = cntArr (kD V c) := by
  refine (dats V 0 c).arrAt_eq_of_after_last 6 tLast (by decide +kernel) _ fun y => ?_
  blk_simp
  rw [after0_6]
  obtain ⟨z, k, rfl⟩ : ∃ (z : Fin 1) (k : Fin 8192), y = ix2 z k := ⟨y 0, y 1, eq_ix2 y⟩
  obtain rfl : z = 0 := Subsingleton.elim _ _
  exact outs6_last V c k

theorem final7 : (dats V 0 c).arrAt 7 cfg0.N = sumArr (kD V c) := by
  refine (dats V 0 c).arrAt_eq_of_after_last 7 tLast (by decide +kernel) _ fun y => ?_
  blk_simp
  rw [after0_7]
  exact outs7_last V c _

end Cert.KernelIdeal.Tc
-- ==== Proof.WholeVals.lean ====
module

public import proofs.«01_k».proof.Proof.MainRun
public import proofs.«01_k».proof.Proof.TcFinal
public import proofs.«01_k».proof.Proof.Entry
public import proofs.«01_k».proof.Proof.Results
public import proofs.«01_k».proof.Proof.RefWhole
public import Idealize.ShloMosaic.Lib.KernelVsHost

/-!
# The whole kernel's results, over the extended reals

The host operations around the two calls give the TensorCore call the reference's distances, the SparseCore call row numbers
below the table's height, and the four results from the two calls' arrays.
-/

@[expose] public section

noncomputable section

namespace Cert.KernelIdeal.Whole

open Idealize.ShloMosaic Idealize.ShloMosaic.TcCoe Idealize.ShloMosaic.StableHlo Idealize.SL.Sem Idealize.SL
open Cert.KernelIdeal Cert.KernelIdeal.Gen
open Cert.SearchReferenceIdeal.Gen (nhwc flat sq sqe rdist ridx renc rdiff rsum rcnt kdist near two_f32 IsFin ridx_near renc_near
  quant_apply nhwc_eq flat_fin renc_eq rcnt_eq ridx_eq rsum_eq)
open Cert.ReferenceIdeal.Gen (tot lossOf cnt perpOf outOf encOf)
open Cert.SearchIdeal.Gen (encArr idxArr cntArr sumArr amin drow v4_apply v7_apply v10_apply sub_sum_congr)

/-! ## The host operations -/

section host

variable {F : FTy → Type} [FloatOps F] (V : Valuation τ sig (Elt F))

/-- The quantized rows of the gathered array, the table's padding cut off. -/
def rowsOf (g : FVec F S32x4x128x128 .f32) : FVec F S16384x64 .f32 :=
  extractStridedSlice S16384x64 ![0, 0] (shapeCast S16384x128 g shapeCasts_S32x4x128x128_S16384x128) slices_S16384x128_S16384x64_0_0

/-- The table padded to 128 columns. -/
def padded (e : FVec F S8192x64 .f32) : FVec F S8192x128 .f32 :=
  pad S8192x128 ![0, 0] ![0, 64] ![0, 0] e (sitofp .f32 (constantI S_ 32 0#32) : FVec F S_ .f32) pads_S8192x64_S8192x128_000_0640 h_S_

theorem v1_0 : after ops0 V (main_v1 : DevRef τ sig) = flat (V (main_arg0 : DevRef τ sig)) := by
  after_results_simp
  rfl
theorem v4_0 : after ops0 V (main_v4 : DevRef τ sig)
    = broadcastInDim S16384x1 ![0] bcast_S16384_S16384x1_0 (sq (V (main_arg0 : DevRef τ sig))) := by
  after_results_simp
  rfl
theorem v7_0 : after ops0 V (main_v7 : DevRef τ sig)
    = shapeCast S1x8192 (sqe (V (main_arg1 : DevRef τ sig))) shapeCasts_S8192_S1x8192 := by
  after_results_simp
  rfl
theorem v10_0 : after ops0 V (main_v10 : DevRef τ sig)
    = mulf (transpose S64x8192 [1, 0] (V (main_arg1 : DevRef τ sig)) transposes_S8192x64_S64x8192_1_0)
      (broadcastInDim S64x8192 ![] bcast_S_S64x8192 (constant S_ .f32 0x40000000#32)) := by
  after_results_simp
theorem arg0_0 : after ops0 V (main_arg0 : DevRef τ sig) = V (main_arg0 : DevRef τ sig) := by after_results_simp
theorem arg1_0 : after ops0 V (main_arg1 : DevRef τ sig) = V (main_arg1 : DevRef τ sig) := by after_results_simp

theorem v12_1 : after opsP (after ops1 V) (main_v12 : DevRef τ sig)
    = shapeCast S32x4x128 (V (main_v11_1 : DevRef τ sig)) shapeCasts_S64x1x256_S32x4x128 := by
  after_results_simp
  rfl
theorem v13_1 : after opsP (after ops1 V) (main_v13 : DevRef τ sig) = padded (V (main_arg1 : DevRef τ sig)) := by
  after_results_simp
  rfl
theorem v11_0_1 : after opsP (after ops1 V) (main_v11_0 : DevRef τ sig) = V (main_v11_0 : DevRef τ sig) := by after_results_simp
theorem v11_2_1 : after opsP (after ops1 V) (main_v11_2 : DevRef τ sig) = V (main_v11_2 : DevRef τ sig) := by after_results_simp
theorem v11_3_1 : after opsP (after ops1 V) (main_v11_3 : DevRef τ sig) = V (main_v11_3 : DevRef τ sig) := by after_results_simp
theorem arg0_1 : after opsP (after ops1 V) (main_arg0 : DevRef τ sig) = V (main_arg0 : DevRef τ sig) := by after_results_simp
theorem arg1_1 : after opsP (after ops1 V) (main_arg1 : DevRef τ sig) = V (main_arg1 : DevRef τ sig) := by after_results_simp

theorem v18_2 : after ops2 V (main_v18 : DevRef τ sig)
    = transpose S16x64x32x32 [0, 3, 1, 2] (shapeCast S16x32x32x64 (rowsOf (V (main_v14 : DevRef τ sig)))
        shapeCasts_S16384x64_S16x32x32x64) transposes_S16x32x32x64_S16x64x32x32_0_3_1_2 := by
  after_results_simp
  rfl
theorem v21_2 : after ops2 V (main_v21 : DevRef τ sig)
    = lossOf (shapeCast S_ (V (main_v11_3 : DevRef τ sig)) shapeCasts_S1x1_S_) := by
  after_results_simp
  rfl
theorem v31_2 : after ops2 V (main_v31 : DevRef τ sig)
    = perpOf (shapeCast S8192 (V (main_v11_2 : DevRef τ sig)) shapeCasts_S1x8192_S8192) := by
  after_results_simp
  rfl
theorem v11_0_2 : after ops2 V (main_v11_0 : DevRef τ sig) = V (main_v11_0 : DevRef τ sig) := by after_results_simp
theorem arg0_2 : after ops2 V (main_arg0 : DevRef τ sig) = V (main_arg0 : DevRef τ sig) := by after_results_simp
theorem arg1_2 : after ops2 V (main_arg1 : DevRef τ sig) = V (main_arg1 : DevRef τ sig) := by after_results_simp

end host

/-! ## The two calls' arrays -/

section args

variable {F : FTy → Type} [FloatOps F] (m : (ℓ : Loc nD τ sig) → Buf (Elt F) ℓ) (d : Dev nD)

/-- The input's contents. -/
abbrev aX : FVec F S16x64x32x32 .f32 := m ((d : Thread nD τ).loc main_arg0)

/-- The codes' contents. -/
abbrev aE : FVec F S8192x64 .f32 := m ((d : Thread nD τ).loc main_arg1)

theorem V2_arg0 : V2 m d main_arg0 = aX m d := by
  rw [V2_of_ne m d main_arg0 (by decide) (by decide) (by decide) (by decide)]
  exact arg0_0 _

theorem V2_arg1 : V2 m d main_arg1 = aE m d := by
  rw [V2_of_ne m d main_arg1 (by decide) (by decide) (by decide) (by decide)]
  exact arg1_0 _

variable (hin : ∀ d x, (ivOf m d x).toNat < 8192)

theorem V5_arg0 : V5 m hin d main_arg0 = aX m d :=
  (arg0_2 _).trans ((V4_of_ne m hin d _ (devRef_ne_of_ne (by decide))).trans ((arg0_1 _).trans (V2_arg0 m d)))

theorem V5_arg1 : V5 m hin d main_arg1 = aE m d :=
  (arg1_2 _).trans ((V4_of_ne m hin d _ (devRef_ne_of_ne (by decide))).trans ((arg1_1 _).trans (V2_arg1 m d)))

theorem tv_eq : tvOf m d = padded (aE m d) := (v13_1 _).trans (congrArg padded (V2_arg1 m d))

end args

section ideal

variable (m : (ℓ : Loc nD τ sig) → Buf (Elt Ideal) ℓ) (d : Dev nD)

theorem kD_eq : Tc.kD (V1b m) d = kdist (aX m d) (aE m d) := by
  have e1 : V1b m d main_v1 = flat (aX m d) := v1_0 _
  have e4 : V1b m d main_v4 = broadcastInDim S16384x1 ![0] bcast_S16384_S16384x1_0 (sq (aX m d)) := v4_0 _
  have e7 : V1b m d main_v7 = shapeCast S1x8192 (sqe (aE m d)) shapeCasts_S8192_S1x8192 := v7_0 _
  have e10 : V1b m d main_v10 = (mulf (transpose S64x8192 [1, 0] (aE m d) transposes_S8192x64_S64x8192_1_0)
    (broadcastInDim S64x8192 ![] bcast_S_S64x8192 (constant S_ .f32 0x40000000#32)) : FVec Ideal S64x8192 .f32) := v10_0 _
  funext r k
  unfold Tc.kD drow kdist
  rw [e1, e4, e7, e10, v4_apply, v7_apply]
  refine sub_sum_congr _ fun j => ?_
  exact congrArg (fun b : EReal => flat (aX m d) (ix2 r j) * b) (v10_apply (aE m d) j k)

theorem V2_enc : V2 m d main_v11_0 = encArr (kdist (aX m d) (aE m d)) := by
  rw [V2_v11_0, Tc.final4, kD_eq]
theorem V2_idx : V2 m d main_v11_1 = idxArr (kdist (aX m d) (aE m d)) := by
  rw [V2_v11_1, Tc.final5, kD_eq]
theorem V2_cnt : V2 m d main_v11_2 = cntArr (kdist (aX m d) (aE m d)) := by
  rw [V2_v11_2, Tc.final6, kD_eq]
theorem V2_sum : V2 m d main_v11_3 = sumArr (kdist (aX m d) (aE m d)) := by
  rw [V2_v11_3, Tc.final7, kD_eq]

theorem iv_eq : ivOf m d = shapeCast S32x4x128 (idxArr (kdist (aX m d) (aE m d))) shapeCasts_S64x1x256_S32x4x128 :=
  (v12_1 _).trans (congrArg (fun a => shapeCast S32x4x128 a shapeCasts_S64x1x256_S32x4x128) (V2_idx m d))

/-- The row numbers are the nearest codes', row after row. -/
theorem iv_apply (a : Fin 32) (b : Fin 4) (l : Fin 128) :
    ivOf m d (ix3 a b l) = BitVec.ofNat 32 (near (aX m d) (aE m d) ⟨(a.val * 4 + b.val) * 128 + l.val, by omega⟩).val := by
  rw [iv_eq]
  have h0 : ((a.val * 4 + b.val) * 128 + l.val) / 256 < 64 := by omega
  have h2 : ((a.val * 4 + b.val) * 128 + l.val) % 256 < 256 := Nat.mod_lt _ (by decide)
  refine (shapeCast_apply _ _ (ix3 a b l) (ix3 (⟨_, h0⟩ : Fin 64) (0 : Fin 1) (⟨_, h2⟩ : Fin 256)) ?_).trans ?_
  · rw [Shape.rowMajor_val_three, Shape.rowMajor_val_three]
    show (((a.val * 4 + b.val) * 128 + l.val) / 256 * 1 + 0) * 256 + ((a.val * 4 + b.val) * 128 + l.val) % 256
      = (a.val * 4 + b.val) * 128 + l.val
    omega
  · unfold idxArr
    refine congrArg (fun r => BitVec.ofNat 32 (amin (kdist (aX m d) (aE m d) r)).val) (Fin.ext ?_)
    show ((a.val * 4 + b.val) * 128 + l.val) / 256 * 256 + ((a.val * 4 + b.val) * 128 + l.val) % 256
      = (a.val * 4 + b.val) * 128 + l.val
    omega

theorem toNat_code (k : Fin 8192) : (BitVec.ofNat 32 k.val).toNat = k.val := by
  have := k.isLt
  rw [BitVec.toNat_ofNat]
  omega

/-- Every row number is below the table's height. -/
theorem iv_lt : ∀ d x, (ivOf m d x).toNat < 8192 := fun d x => by
  obtain ⟨a, b, l, rfl⟩ : ∃ (a : Fin 32) (b : Fin 4) (l : Fin 128), x = ix3 a b l := ⟨x 0, x 1, x 2, eq_ix3 x⟩
  rw [iv_apply, toNat_code]
  exact Fin.isLt _

theorem padded_apply (e : FVec Ideal S8192x64 .f32) (k : Fin 8192) (c : Fin 64) :
    padded e (ix2 k (⟨c.val, by omega⟩ : Fin 128)) = e (ix2 k c) := by
  unfold padded
  refine pad_apply_of_inside ![0, 0] ![0, 64] ![0, 0] e _ _ _ _ (ix2 k c) fun a => ?_
  fin_cases a
  · show k.val = 0 + k.val * (0 + 1); omega
  · show c.val = 0 + c.val * (0 + 1); omega

/-- The gathered rows are the nearest codes. -/
theorem rows_apply (r : Fin 16384) (c : Fin 64) :
    rowsOf (F := Ideal) (Sc.gath (tvOf m d) (ivOf m d) (iv_lt m d)) (ix2 r c) = aE m d (ix2 (near (aX m d) (aE m d) r) c) := by
  have ha : r.val / 512 < 32 := by omega
  have hb : r.val % 512 / 128 < 4 := by omega
  have hl : r.val % 128 < 128 := by omega
  unfold rowsOf
  refine (extractStridedSlice_apply _ _ _ (ix2 r c) (ix2 r (⟨c.val, by omega⟩ : Fin 128)) fun a => ?_).trans ?_
  · fin_cases a
    · show r.val = 0 + r.val; omega
    · show c.val = 0 + c.val; omega
  refine (shapeCast_apply _ _ (ix2 r (⟨c.val, by omega⟩ : Fin 128))
    (ix4 (⟨_, ha⟩ : Fin 32) (⟨_, hb⟩ : Fin 4) (⟨_, hl⟩ : Fin 128) (⟨c.val, by omega⟩ : Fin 128)) ?_).trans ?_
  · rw [Shape.rowMajor_val_four, Shape.rowMajor_val_two]
    show ((r.val / 512 * 4 + r.val % 512 / 128) * 128 + r.val % 128) * 128 + c.val = r.val * 128 + c.val
    omega
  · have hi : (ivOf m d (ix3 (⟨_, ha⟩ : Fin 32) (⟨_, hb⟩ : Fin 4) (⟨_, hl⟩ : Fin 128))).toNat = (near (aX m d) (aE m d) r).val := by
      rw [iv_apply, toNat_code]
      refine congrArg (fun r => (near (aX m d) (aE m d) r).val) (Fin.ext ?_)
      show (r.val / 512 * 4 + r.val % 512 / 128) * 128 + r.val % 128 = r.val
      omega
    refine Eq.trans ?_ ((congrFun (tv_eq m d) _).trans (padded_apply (aE m d) (near (aX m d) (aE m d) r) c))
    exact congrArg (fun k : Fin 8192 => tvOf m d (ix2 k (⟨c.val, by omega⟩ : Fin 128))) (Fin.ext hi)

end ideal

/-! ## The reference's quantized output -/

section reference

variable (x : FVec Ideal S16x64x32x32 .f32) (e : FVec Ideal S8192x64 .f32)

theorem add_sub_fin (a b : ℝ) : (a : EReal) + ((b : EReal) - a) = b := by
  rw [← EReal.coe_sub, ← EReal.coe_add]
  congr 1
  ring

/-- The inputs finite, the input with the difference added is the chosen code. -/
theorem straight (hx : IsFin x) (he : IsFin e) (q : FVec Ideal S16384x64 .f32)
    (hq : ∀ r c, q (ix2 r c) = e (ix2 (near x e r) c)) :
    addf (nhwc x) (rdiff (nhwc x) e (encOf x e)) = (shapeCast S16x32x32x64 q shapeCasts_S16384x64_S16x32x32x64 : FVec Ideal S16x32x32x64 .f32) := by
  funext i
  have hd : rdiff (nhwc x) e (encOf x e) i
      = (q (Shape.reshapeEquiv shapeCasts_S16384x64_S16x32x32x64 i) - nhwc x i : EReal) := by
    refine congrArg (fun a : EReal => a - nhwc x i) ?_
    show Host.dotGeneral Cert.SearchReferenceIdeal.dot_S16384x8192_S8192x64_S16384x64_1_0_0_1_n_n none (encOf x e) e
      (Shape.reshapeEquiv shapeCasts_S16384x64_S16x32x32x64 i) = _
    generalize Shape.reshapeEquiv shapeCasts_S16384x64_S16x32x32x64 i = y
    obtain ⟨r, c, rfl⟩ : ∃ (r : Fin 16384) (c : Fin 64), y = ix2 r c := ⟨y 0, y 1, eq_ix2 y⟩
    rw [hq]
    exact quant_apply e _ (near x e) (renc_near x e) r c
  show (nhwc x i + rdiff (nhwc x) e (encOf x e) i : EReal) = q (Shape.reshapeEquiv shapeCasts_S16384x64_S16x32x32x64 i)
  rw [hd]
  generalize Shape.reshapeEquiv shapeCasts_S16384x64_S16x32x32x64 i = y
  obtain ⟨r, c, rfl⟩ : ∃ (r : Fin 16384) (c : Fin 64), y = ix2 r c := ⟨y 0, y 1, eq_ix2 y⟩
  rw [hq]
  obtain ⟨a, ha⟩ : ∃ a : ℝ, nhwc x i = (a : EReal) := hx _
  obtain ⟨b, hb⟩ := he (ix2 (near x e r) c)
  rw [ha, hb]
  exact add_sub_fin a b

theorem tot_eq (hx : IsFin x) (he : IsFin e) :
    shapeCast S_ (sumArr (kdist x e)) shapeCasts_S1x1_S_ = tot (rdiff (nhwc x) e (encOf x e)) := by
  rw [← rsum_eq x e hx he]
  exact shapeCast_shapeCast _ _ _

theorem cnt_eq : shapeCast S8192 (cntArr (kdist x e)) shapeCasts_S1x8192_S8192 = cnt (encOf x e) := by
  rw [← rcnt_eq x e]
  exact shapeCast_shapeCast _ _ _

end reference

/-! ## The results -/

section results

variable (m : (ℓ : Loc nD τ sig) → Buf (Elt Ideal) ℓ) (d : Dev nD)

theorem V5_enc : V5 m (iv_lt m) d main_v11_0 = encOf (aX m d) (aE m d) :=
  (v11_0_2 _).trans ((V4_of_ne m (iv_lt m) d _ (devRef_ne_of_ne (by decide))).trans
    ((v11_0_1 _).trans ((V2_enc m d).trans (renc_eq _ _).symm)))

theorem V4_cnt : V4 m (iv_lt m) d main_v11_2 = cntArr (kdist (aX m d) (aE m d)) :=
  (V4_of_ne m (iv_lt m) d _ (devRef_ne_of_ne (by decide))).trans ((v11_2_1 _).trans (V2_cnt m d))

theorem V4_sum : V4 m (iv_lt m) d main_v11_3 = sumArr (kdist (aX m d) (aE m d)) :=
  (V4_of_ne m (iv_lt m) d _ (devRef_ne_of_ne (by decide))).trans ((v11_3_1 _).trans (V2_sum m d))

theorem V5_perp : V5 m (iv_lt m) d main_v31 = perpOf (cnt (encOf (aX m d) (aE m d))) := by
  refine (v31_2 _).trans ?_
  rw [V4_cnt, cnt_eq]

theorem V5_loss (hx : IsFin (aX m d)) (he : IsFin (aE m d)) :
    V5 m (iv_lt m) d main_v21 = lossOf (tot (rdiff (nhwc (aX m d)) (aE m d) (encOf (aX m d) (aE m d)))) := by
  refine (v21_2 _).trans ?_
  rw [V4_sum, tot_eq _ _ hx he]

theorem V5_out (hx : IsFin (aX m d)) (he : IsFin (aE m d)) :
    V5 m (iv_lt m) d main_v18 = outOf (nhwc (aX m d)) (rdiff (nhwc (aX m d)) (aE m d) (encOf (aX m d) (aE m d))) := by
  refine (v18_2 _).trans ?_
  unfold outOf
  rw [straight (aX m d) (aE m d) hx he _ (rows_apply m d), V4_v14]

end results

end Cert.KernelIdeal.Whole

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Search
public import proofs.«01_k».proof.Proof.Gen.Search.Skeleton
public import proofs.«01_k».proof.Proof.Gen.Search.Launch
public import proofs.«01_k».proof.Proof.Gen.Search.Points
public import proofs.«01_k».proof.Proof.Gen.Search.Frame
public import proofs.«01_k».proof.Proof.Gen.SearchIdeal
public import proofs.«01_k».proof.Proof.Gen.SearchIdeal.Skeleton
public import proofs.«01_k».proof.Proof.Gen.SearchIdeal.Launch
public import proofs.«01_k».proof.Proof.Gen.SearchIdeal.Points
public import proofs.«01_k».proof.Proof.Gen.SearchIdeal.Frame
public import proofs.«01_k».proof.Proof.Gen.SearchIdeal.Value
public import proofs.«01_k».proof.Proof.Gen.SearchReferenceIdeal
public import proofs.«01_k».proof.Proof.Gen.Pre_finite
public import proofs.«01_k».proof.Proof.RefRun
public import proofs.«01_k».proof.Proof.Entry
public import proofs.«01_k».proof.Proof.Results
public import proofs.«01_k».proof.Proof.Finite
public import proofs.«01_k».proof.Proof.RefWhole
public import proofs.«01_k».proof.Proof.WholeVals
public import Idealize.ShloMosaic.Adequacy
public import Idealize.ShloMosaic.Init

@[expose] public section

noncomputable section

namespace Cert.Proof.Search

open Idealize.ShloMosaic Idealize.SL.Sem Cert.SearchIdeal
open Cert.SearchIdeal.Gen (kD aX aE kD_eq final4 final5 final6 final7 encArr idxArr cntArr sumArr)
open Cert.SearchReferenceIdeal.Gen (kdist rsum_eq ridx_eq rcnt_eq renc_eq)

/-- The TensorCore call's four arrays are the reference's results: both are the same functions of the distances. -/
theorem search_algebraic : Cert.algebraic_SearchIdeal_SearchReferenceIdeal_pre_finite := by
  intro m g m' g' hpre hargs
  refine ⟨fun c => sumArr (kD m c), fun c => idxArr (kD m c), fun c => cntArr (kD m c), fun c => encArr (kD m c), ?_, ?_⟩
  · refine (θ_run _ _ _).mono (fun r h c => ?_) (Cert.SearchIdeal.Value.run_blocks m g)
    obtain ⟨h4, h5, h6, h7, ha0, ha1⟩ := h c
    exact ⟨h7.trans (final7 m c), h5.trans (final5 m c), h6.trans (final6 m c), h4.trans (final4 m c), ha0, ha1⟩
  · refine (θ_run _ _ _).mono (fun r h c => ?_) (Cert.SearchReferenceIdeal.Gen.run_ops m' g')
    obtain ⟨hx, he⟩ := Cert.SearchReferenceIdeal.Gen.finite_spec _ _ (hpre c)
    have e0 : StableHlo.launchContents m' c (Proc.tc.devRef Cert.SearchReferenceIdeal.main_arg0) = aX m c := (hargs c).1
    have e1 : StableHlo.launchContents m' c (Proc.tc.devRef Cert.SearchReferenceIdeal.main_arg1) = aE m c := (hargs c).2
    dsimp only
    rw [kD_eq]
    refine ⟨(h c _).trans ?_, (h c _).trans ?_, (h c _).trans ?_, (h c _).trans ?_, (h c _).trans ?_, (h c _).trans ?_⟩
    · rw [Cert.SearchReferenceIdeal.Gen.sum_eq, e0, e1]; exact rsum_eq _ _ hx he
    · rw [Cert.SearchReferenceIdeal.Gen.idx_eq, e0, e1]; exact ridx_eq _ _
    · rw [Cert.SearchReferenceIdeal.Gen.cnt_eq, e0, e1]; exact rcnt_eq _ _
    · rw [Cert.SearchReferenceIdeal.Gen.enc_eq, e0, e1]; exact renc_eq _ _
    · exact Cert.SearchReferenceIdeal.Gen.arg0_eq _
    · exact Cert.SearchReferenceIdeal.Gen.arg1_eq _

end Cert.Proof.Search

namespace Cert.Proof

open Idealize.ShloMosaic Idealize.SL.Sem Cert.KernelIdeal
open Cert.KernelIdeal.Whole (aX aE iv_lt V5 run_main mem_uc V5_arg0 V5_arg1 V5_enc V5_perp V5_loss V5_out)
open Cert.SearchReferenceIdeal.Gen (nhwc rdiff)
open Cert.ReferenceIdeal.Gen (tot lossOf cnt perpOf outOf encOf)

/-- The whole kernel runs, leaves its arguments as they were and every counter at zero. -/
theorem whole_frame : Cert.quiescent_KernelIdeal := fun m g _ =>
  (θ_run _ _ _).mono (fun _ h => ⟨fun c => ⟨(h.1 c _ (mem_uc main_arg0 rfl)).trans (V5_arg0 m c (iv_lt m)),
    (h.1 c _ (mem_uc main_arg1 rfl)).trans (V5_arg1 m c (iv_lt m))⟩, h.2⟩) (run_main m g (iv_lt m))

/-- The whole kernel's four results are the reference's: the loss, the quantized output, the perplexity and the one-hot rows. -/
theorem whole_algebraic : Cert.algebraic_KernelIdeal_ReferenceIdeal_pre_finite := by
  intro m g m' g' hpre hargs
  refine ⟨fun c => lossOf (tot (rdiff (nhwc (aX m c)) (aE m c) (encOf (aX m c) (aE m c)))),
    fun c => outOf (nhwc (aX m c)) (rdiff (nhwc (aX m c)) (aE m c) (encOf (aX m c) (aE m c))),
    fun c => perpOf (cnt (encOf (aX m c) (aE m c))), fun c => encOf (aX m c) (aE m c), ?_, ?_⟩
  · refine (θ_run _ _ _).mono (fun r h c => ?_) (run_main m g (iv_lt m))
    obtain ⟨hx, he⟩ := Cert.SearchReferenceIdeal.Gen.finite_spec _ _ (hpre c)
    exact ⟨(h.1 c _ (mem_uc main_v21 rfl)).trans (V5_loss m c hx he), (h.1 c _ (mem_uc main_v18 rfl)).trans (V5_out m c hx he),
      (h.1 c _ (mem_uc main_v31 rfl)).trans (V5_perp m c), (h.1 c _ (mem_uc main_v11_0 rfl)).trans (V5_enc m c),
      (h.1 c _ (mem_uc main_arg0 rfl)).trans (V5_arg0 m c (iv_lt m)), (h.1 c _ (mem_uc main_arg1 rfl)).trans (V5_arg1 m c (iv_lt m))⟩
  · refine (θ_run _ _ _).mono (fun r h c => ?_) (Cert.ReferenceIdeal.Gen.run_ops m' g')
    have e0 : StableHlo.launchContents m' c (Proc.tc.devRef Cert.ReferenceIdeal.main_arg0) = aX m c := (hargs c).1
    have e1 : StableHlo.launchContents m' c (Proc.tc.devRef Cert.ReferenceIdeal.main_arg1) = aE m c := (hargs c).2
    dsimp only
    refine ⟨(h c _).trans ?_, (h c _).trans ?_, (h c _).trans ?_, (h c _).trans ?_, (h c _).trans ?_, (h c _).trans ?_⟩
    · rw [Cert.ReferenceIdeal.Gen.loss_eq, e0, e1]
    · rw [Cert.ReferenceIdeal.Gen.out_eq, e0, e1]
    · rw [Cert.ReferenceIdeal.Gen.perp_eq, e0, e1]
    · rw [Cert.ReferenceIdeal.Gen.enc_eq, e0, e1]
    · exact Cert.ReferenceIdeal.Gen.arg0_eq _
    · exact Cert.ReferenceIdeal.Gen.arg1_eq _

theorem claim : Cert.Claim :=
  ⟨Cert.KernelIdeal.Gen.facts, Cert.ReferenceIdeal.Gen.facts, Cert.Search.Gen.facts, Cert.SearchIdeal.Gen.facts,
    Cert.SearchReferenceIdeal.Gen.facts, Cert.Pre_finite.Gen.facts,
    whole_frame,
    fun m ρ _ => whole_frame m ρ trivial,
    fun m ρ _ => Cert.ReferenceIdeal.Gen.frame m ρ,
    fun m ρ _ => Cert.ReferenceIdeal.Gen.frame m ρ,
    fun m ρ _ => Cert.Search.Gen.frame m ρ,
    fun m ρ _ => Cert.SearchIdeal.Gen.frame m ρ,
    fun m ρ _ => Cert.SearchIdeal.Gen.frame m ρ,
    fun m ρ _ => Cert.SearchReferenceIdeal.Gen.frame m ρ,
    fun m ρ _ => Cert.SearchReferenceIdeal.Gen.frame m ρ,
    whole_algebraic,
    trivial,
    Search.search_algebraic⟩

end Cert.Proof

end
